-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProjC (m : (ℓ : Loc Cert.InProjC.nD Cert.InProjC.τ Cert.InProjC.sig) → Buf (Elt Bits) ℓ) : Prop :=
  True

def Pre_InProjCIdeal (m : (ℓ : Loc Cert.InProjCIdeal.nD Cert.InProjCIdeal.τ Cert.InProjCIdeal.sig) → Buf (Elt Ideal) ℓ) : Prop :=
  True

def Pre_InProjCRefIdeal (m : (ℓ : Loc Cert.InProjCRefIdeal.nD Cert.InProjCRefIdeal.τ Cert.InProjCRefIdeal.sig) → Buf (Elt Ideal) ℓ) : Prop :=
  True

def Pre_CmpProj (m : (ℓ : Loc Cert.CmpProj.nD Cert.CmpProj.τ Cert.CmpProj.sig) → Buf (Elt Bits) ℓ) : Prop :=
  True

def Pre_CmpProjIdeal (m : (ℓ : Loc Cert.CmpProjIdeal.nD Cert.CmpProjIdeal.τ Cert.CmpProjIdeal.sig) → Buf (Elt Ideal) ℓ) : Prop :=
  True

def Pre_CmpProjRefIdeal (m : (ℓ : Loc Cert.CmpProjRefIdeal.nD Cert.CmpProjRefIdeal.τ Cert.CmpProjRefIdeal.sig) → Buf (Elt Ideal) ℓ) : Prop :=
  True

def Pre_DiffPrompt (m : (ℓ : Loc Cert.DiffPrompt.nD Cert.DiffPrompt.τ Cert.DiffPrompt.sig) → Buf (Elt Bits) ℓ) : Prop :=
  True

def Pre_DiffPromptIdeal (m : (ℓ : Loc Cert.DiffPromptIdeal.nD Cert.DiffPromptIdeal.τ Cert.DiffPromptIdeal.sig) → Buf (Elt Ideal) ℓ) : Prop :=
  True

def Pre_DiffPromptIdeal_finite_values [hPre_finite_values : Cert.Pre_finite_values.Facts] (m : (ℓ : Loc Cert.DiffPromptIdeal.nD Cert.DiffPromptIdeal.τ Cert.DiffPromptIdeal.sig) → Buf (Elt Ideal) ℓ) : Prop :=
  ∀ c : Dev Cert.DiffPromptIdeal.nD,
    (Cert.Pre_finite_values.fn (F := Ideal) (m ((c.tc : Thread Cert.DiffPromptIdeal.nD Cert.DiffPromptIdeal.τ).loc Cert.DiffPromptIdeal.main_arg0)) (m ((c.tc : Thread Cert.DiffPromptIdeal.nD Cert.DiffPromptIdeal.τ).loc Cert.DiffPromptIdeal.main_arg1)) (m ((c.tc : Thread Cert.DiffPromptIdeal.nD Cert.DiffPromptIdeal.τ).loc Cert.DiffPromptIdeal.main_arg2)) (m ((c.tc : Thread Cert.DiffPromptIdeal.nD Cert.DiffPromptIdeal.τ).loc Cert.DiffPromptIdeal.main_arg3)) (m ((c.tc : Thread Cert.DiffPromptIdeal.nD Cert.DiffPromptIdeal.τ).loc Cert.DiffPromptIdeal.main_arg4))).1 = (fun _ => 1#1)
    ∧ (Cert.Pre_finite_values.fn (F := Ideal) (m ((c.tc : Thread Cert.DiffPromptIdeal.nD Cert.DiffPromptIdeal.τ).loc Cert.DiffPromptIdeal.main_arg0)) (m ((c.tc : Thread Cert.DiffPromptIdeal.nD Cert.DiffPromptIdeal.τ).loc Cert.DiffPromptIdeal.main_arg1)) (m ((c.tc : Thread Cert.DiffPromptIdeal.nD Cert.DiffPromptIdeal.τ).loc Cert.DiffPromptIdeal.main_arg2)) (m ((c.tc : Thread Cert.DiffPromptIdeal.nD Cert.DiffPromptIdeal.τ).loc Cert.DiffPromptIdeal.main_arg3)) (m ((c.tc : Thread Cert.DiffPromptIdeal.nD Cert.DiffPromptIdeal.τ).loc Cert.DiffPromptIdeal.main_arg4))).2 = (fun _ => 1#1)

def Pre_DiffPromptRefIdeal (m : (ℓ : Loc Cert.DiffPromptRefIdeal.nD Cert.DiffPromptRefIdeal.τ Cert.DiffPromptRefIdeal.sig) → Buf (Elt Ideal) ℓ) : Prop :=
  True

def Pre_DiffPromptRefIdeal_finite_values [hPre_finite_values : Cert.Pre_finite_values.Facts] (m : (ℓ : Loc Cert.DiffPromptRefIdeal.nD Cert.DiffPromptRefIdeal.τ Cert.DiffPromptRefIdeal.sig) → Buf (Elt Ideal) ℓ) : Prop :=
  ∀ c : Dev Cert.DiffPromptRefIdeal.nD,
    (Cert.Pre_finite_values.fn (F := Ideal) (m ((c.tc : Thread Cert.DiffPromptRefIdeal.nD Cert.DiffPromptRefIdeal.τ).loc Cert.DiffPromptRefIdeal.main_arg0)) (m ((c.tc : Thread Cert.DiffPromptRefIdeal.nD Cert.DiffPromptRefIdeal.τ).loc Cert.DiffPromptRefIdeal.main_arg1)) (m ((c.tc : Thread Cert.DiffPromptRefIdeal.nD Cert.DiffPromptRefIdeal.τ).loc Cert.DiffPromptRefIdeal.main_arg2)) (m ((c.tc : Thread Cert.DiffPromptRefIdeal.nD Cert.DiffPromptRefIdeal.τ).loc Cert.DiffPromptRefIdeal.main_arg3)) (m ((c.tc : Thread Cert.DiffPromptRefIdeal.nD Cert.DiffPromptRefIdeal.τ).loc Cert.DiffPromptRefIdeal.main_arg4))).1 = (fun _ => 1#1)
    ∧ (Cert.Pre_finite_values.fn (F := Ideal) (m ((c.tc : Thread Cert.DiffPromptRefIdeal.nD Cert.DiffPromptRefIdeal.τ).loc Cert.DiffPromptRefIdeal.main_arg0)) (m ((c.tc : Thread Cert.DiffPromptRefIdeal.nD Cert.DiffPromptRefIdeal.τ).loc Cert.DiffPromptRefIdeal.main_arg1)) (m ((c.tc : Thread Cert.DiffPromptRefIdeal.nD Cert.DiffPromptRefIdeal.τ).loc Cert.DiffPromptRefIdeal.main_arg2)) (m ((c.tc : Thread Cert.DiffPromptRefIdeal.nD Cert.DiffPromptRefIdeal.τ).loc Cert.DiffPromptRefIdeal.main_arg3)) (m ((c.tc : Thread Cert.DiffPromptRefIdeal.nD Cert.DiffPromptRefIdeal.τ).loc Cert.DiffPromptRefIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_InProjC [hInProjC : Cert.InProjC.Facts] : Prop :=
  ∀ (m : (ℓ : Loc Cert.InProjC.nD Cert.InProjC.τ Cert.InProjC.sig) → Buf (Elt Bits) ℓ) (g : Dev Cert.InProjC.nD → PrngReg), Pre_InProjC m →
    θ_run (Cert.InProjC.defs (F := Bits)) (onTc (τ := Cert.InProjC.τ) (Cert.InProjC.main (F := Bits))) ⟨m, fun _ => 0, g⟩ (fun r => (∀ c : Dev Cert.InProjC.nD,
      r.2.mem ((c.tc : Thread Cert.InProjC.nD Cert.InProjC.τ).loc Cert.InProjC.main_arg0) = m ((c.tc : Thread Cert.InProjC.nD Cert.InProjC.τ).loc Cert.InProjC.main_arg0)
      ∧ r.2.mem ((c.tc : Thread Cert.InProjC.nD Cert.InProjC.τ).loc Cert.InProjC.main_arg1) = m ((c.tc : Thread Cert.InProjC.nD Cert.InProjC.τ).loc Cert.InProjC.main_arg1)
      ∧ r.2.mem ((c.tc : Thread Cert.InProjC.nD Cert.InProjC.τ).loc Cert.InProjC.main_arg2) = m ((c.tc : Thread Cert.InProjC.nD Cert.InProjC.τ).loc Cert.InProjC.main_arg2)
      ∧ r.2.mem ((c.tc : Thread Cert.InProjC.nD Cert.InProjC.τ).loc Cert.InProjC.main_arg3) = m ((c.tc : Thread Cert.InProjC.nD Cert.InProjC.τ).loc Cert.InProjC.main_arg3)
      ∧ r.2.mem ((c.tc : Thread Cert.InProjC.nD Cert.InProjC.τ).loc Cert.InProjC.main_arg4) = m ((c.tc : Thread Cert.InProjC.nD Cert.InProjC.τ).loc Cert.InProjC.main_arg4))
      ∧ r.2.sem = fun _ => 0)

def quiescent_InProjCIdeal [hInProjCIdeal : Cert.InProjCIdeal.Facts] : Prop :=
  ∀ (m : (ℓ : Loc Cert.InProjCIdeal.nD Cert.InProjCIdeal.τ Cert.InProjCIdeal.sig) → Buf (Elt Ideal) ℓ) (g : Dev Cert.InProjCIdeal.nD → PrngReg), Pre_InProjCIdeal m →
    θ_run (Cert.InProjCIdeal.defs (F := Ideal)) (onTc (τ := Cert.InProjCIdeal.τ) (Cert.InProjCIdeal.main (F := Ideal))) ⟨m, fun _ => 0, g⟩ (fun r => (∀ c : Dev Cert.InProjCIdeal.nD,
      r.2.mem ((c.tc : Thread Cert.InProjCIdeal.nD Cert.InProjCIdeal.τ).loc Cert.InProjCIdeal.main_arg0) = m ((c.tc : Thread Cert.InProjCIdeal.nD Cert.InProjCIdeal.τ).loc Cert.InProjCIdeal.main_arg0)
      ∧ r.2.mem ((c.tc : Thread Cert.InProjCIdeal.nD Cert.InProjCIdeal.τ).loc Cert.InProjCIdeal.main_arg1) = m ((c.tc : Thread Cert.InProjCIdeal.nD Cert.InProjCIdeal.τ).loc Cert.InProjCIdeal.main_arg1)
      ∧ r.2.mem ((c.tc : Thread Cert.InProjCIdeal.nD Cert.InProjCIdeal.τ).loc Cert.InProjCIdeal.main_arg2) = m ((c.tc : Thread Cert.InProjCIdeal.nD Cert.InProjCIdeal.τ).loc Cert.InProjCIdeal.main_arg2)
      ∧ r.2.mem ((c.tc : Thread Cert.InProjCIdeal.nD Cert.InProjCIdeal.τ).loc Cert.InProjCIdeal.main_arg3) = m ((c.tc : Thread Cert.InProjCIdeal.nD Cert.InProjCIdeal.τ).loc Cert.InProjCIdeal.main_arg3)
      ∧ r.2.mem ((c.tc : Thread Cert.InProjCIdeal.nD Cert.InProjCIdeal.τ).loc Cert.InProjCIdeal.main_arg4) = m ((c.tc : Thread Cert.InProjCIdeal.nD Cert.InProjCIdeal.τ).loc Cert.InProjCIdeal.main_arg4))
      ∧ r.2.sem = fun _ => 0)

def quiescent_InProjCRefIdeal [hInProjCRefIdeal : Cert.InProjCRefIdeal.Facts] : Prop :=
  ∀ (m : (ℓ : Loc Cert.InProjCRefIdeal.nD Cert.InProjCRefIdeal.τ Cert.InProjCRefIdeal.sig) → Buf (Elt Ideal) ℓ) (g : Dev Cert.InProjCRefIdeal.nD → PrngReg), Pre_InProjCRefIdeal m →
    θ_run (Cert.InProjCRefIdeal.defs (F := Ideal)) (onTc (τ := Cert.InProjCRefIdeal.τ) (Cert.InProjCRefIdeal.main (F := Ideal))) ⟨m, fun _ => 0, g⟩ (fun r => (∀ c : Dev Cert.InProjCRefIdeal.nD,
      r.2.mem ((c.tc : Thread Cert.InProjCRefIdeal.nD Cert.InProjCRefIdeal.τ).loc Cert.InProjCRefIdeal.main_arg0) = m ((c.tc : Thread Cert.InProjCRefIdeal.nD Cert.InProjCRefIdeal.τ).loc Cert.InProjCRefIdeal.main_arg0)
      ∧ r.2.mem ((c.tc : Thread Cert.InProjCRefIdeal.nD Cert.InProjCRefIdeal.τ).loc Cert.InProjCRefIdeal.main_arg1) = m ((c.tc : Thread Cert.InProjCRefIdeal.nD Cert.InProjCRefIdeal.τ).loc Cert.InProjCRefIdeal.main_arg1)
      ∧ r.2.mem ((c.tc : Thread Cert.InProjCRefIdeal.nD Cert.InProjCRefIdeal.τ).loc Cert.InProjCRefIdeal.main_arg2) = m ((c.tc : Thread Cert.InProjCRefIdeal.nD Cert.InProjCRefIdeal.τ).loc Cert.InProjCRefIdeal.main_arg2)
      ∧ r.2.mem ((c.tc : Thread Cert.InProjCRefIdeal.nD Cert.InProjCRefIdeal.τ).loc Cert.InProjCRefIdeal.main_arg3) = m ((c.tc : Thread Cert.InProjCRefIdeal.nD Cert.InProjCRefIdeal.τ).loc Cert.InProjCRefIdeal.main_arg3)
      ∧ r.2.mem ((c.tc : Thread Cert.InProjCRefIdeal.nD Cert.InProjCRefIdeal.τ).loc Cert.InProjCRefIdeal.main_arg4) = m ((c.tc : Thread Cert.InProjCRefIdeal.nD Cert.InProjCRefIdeal.τ).loc Cert.InProjCRefIdeal.main_arg4))
      ∧ r.2.sem = fun _ => 0)

def quiescent_CmpProj [hCmpProj : Cert.CmpProj.Facts] : Prop :=
  ∀ (m : (ℓ : Loc Cert.CmpProj.nD Cert.CmpProj.τ Cert.CmpProj.sig) → Buf (Elt Bits) ℓ) (g : Dev Cert.CmpProj.nD → PrngReg), Pre_CmpProj m →
    θ_run (Cert.CmpProj.defs (F := Bits)) (onTc (τ := Cert.CmpProj.τ) (Cert.CmpProj.main (F := Bits))) ⟨m, fun _ => 0, g⟩ (fun r => (∀ c : Dev Cert.CmpProj.nD,
      r.2.mem ((c.tc : Thread Cert.CmpProj.nD Cert.CmpProj.τ).loc Cert.CmpProj.main_arg0) = m ((c.tc : Thread Cert.CmpProj.nD Cert.CmpProj.τ).loc Cert.CmpProj.main_arg0)
      ∧ r.2.mem ((c.tc : Thread Cert.CmpProj.nD Cert.CmpProj.τ).loc Cert.CmpProj.main_arg1) = m ((c.tc : Thread Cert.CmpProj.nD Cert.CmpProj.τ).loc Cert.CmpProj.main_arg1)
      ∧ r.2.mem ((c.tc : Thread Cert.CmpProj.nD Cert.CmpProj.τ).loc Cert.CmpProj.main_arg2) = m ((c.tc : Thread Cert.CmpProj.nD Cert.CmpProj.τ).loc Cert.CmpProj.main_arg2))
      ∧ r.2.sem = fun _ => 0)

def quiescent_CmpProjIdeal [hCmpProjIdeal : Cert.CmpProjIdeal.Facts] : Prop :=
  ∀ (m : (ℓ : Loc Cert.CmpProjIdeal.nD Cert.CmpProjIdeal.τ Cert.CmpProjIdeal.sig) → Buf (Elt Ideal) ℓ) (g : Dev Cert.CmpProjIdeal.nD → PrngReg), Pre_CmpProjIdeal m →
    θ_run (Cert.CmpProjIdeal.defs (F := Ideal)) (onTc (τ := Cert.CmpProjIdeal.τ) (Cert.CmpProjIdeal.main (F := Ideal))) ⟨m, fun _ => 0, g⟩ (fun r => (∀ c : Dev Cert.CmpProjIdeal.nD,
      r.2.mem ((c.tc : Thread Cert.CmpProjIdeal.nD Cert.CmpProjIdeal.τ).loc Cert.CmpProjIdeal.main_arg0) = m ((c.tc : Thread Cert.CmpProjIdeal.nD Cert.CmpProjIdeal.τ).loc Cert.CmpProjIdeal.main_arg0)
      ∧ r.2.mem ((c.tc : Thread Cert.CmpProjIdeal.nD Cert.CmpProjIdeal.τ).loc Cert.CmpProjIdeal.main_arg1) = m ((c.tc : Thread Cert.CmpProjIdeal.nD Cert.CmpProjIdeal.τ).loc Cert.CmpProjIdeal.main_arg1)
      ∧ r.2.mem ((c.tc : Thread Cert.CmpProjIdeal.nD Cert.CmpProjIdeal.τ).loc Cert.CmpProjIdeal.main_arg2) = m ((c.tc : Thread Cert.CmpProjIdeal.nD Cert.CmpProjIdeal.τ).loc Cert.CmpProjIdeal.main_arg2))
      ∧ r.2.sem = fun _ => 0)

def quiescent_CmpProjRefIdeal [hCmpProjRefIdeal : Cert.CmpProjRefIdeal.Facts] : Prop :=
  ∀ (m : (ℓ : Loc Cert.CmpProjRefIdeal.nD Cert.CmpProjRefIdeal.τ Cert.CmpProjRefIdeal.sig) → Buf (Elt Ideal) ℓ) (g : Dev Cert.CmpProjRefIdeal.nD → PrngReg), Pre_CmpProjRefIdeal m →
    θ_run (Cert.CmpProjRefIdeal.defs (F := Ideal)) (onTc (τ := Cert.CmpProjRefIdeal.τ) (Cert.CmpProjRefIdeal.main (F := Ideal))) ⟨m, fun _ => 0, g⟩ (fun r => (∀ c : Dev Cert.CmpProjRefIdeal.nD,
      r.2.mem ((c.tc : Thread Cert.CmpProjRefIdeal.nD Cert.CmpProjRefIdeal.τ).loc Cert.CmpProjRefIdeal.main_arg0) = m ((c.tc : Thread Cert.CmpProjRefIdeal.nD Cert.CmpProjRefIdeal.τ).loc Cert.CmpProjRefIdeal.main_arg0)
      ∧ r.2.mem ((c.tc : Thread Cert.CmpProjRefIdeal.nD Cert.CmpProjRefIdeal.τ).loc Cert.CmpProjRefIdeal.main_arg1) = m ((c.tc : Thread Cert.CmpProjRefIdeal.nD Cert.CmpProjRefIdeal.τ).loc Cert.CmpProjRefIdeal.main_arg1)
      ∧ r.2.mem ((c.tc : Thread Cert.CmpProjRefIdeal.nD Cert.CmpProjRefIdeal.τ).loc Cert.CmpProjRefIdeal.main_arg2) = m ((c.tc : Thread Cert.CmpProjRefIdeal.nD Cert.CmpProjRefIdeal.τ).loc Cert.CmpProjRefIdeal.main_arg2))
      ∧ r.2.sem = fun _ => 0)

def quiescent_DiffPrompt [hDiffPrompt : Cert.DiffPrompt.Facts] : Prop :=
  ∀ (m : (ℓ : Loc Cert.DiffPrompt.nD Cert.DiffPrompt.τ Cert.DiffPrompt.sig) → Buf (Elt Bits) ℓ) (g : Dev Cert.DiffPrompt.nD → PrngReg), Pre_DiffPrompt m →
    θ_run (Cert.DiffPrompt.defs (F := Bits)) (onTc (τ := Cert.DiffPrompt.τ) (Cert.DiffPrompt.main (F := Bits))) ⟨m, fun _ => 0, g⟩ (fun r => (∀ c : Dev Cert.DiffPrompt.nD,
      r.2.mem ((c.tc : Thread Cert.DiffPrompt.nD Cert.DiffPrompt.τ).loc Cert.DiffPrompt.main_arg0) = m ((c.tc : Thread Cert.DiffPrompt.nD Cert.DiffPrompt.τ).loc Cert.DiffPrompt.main_arg0)
      ∧ r.2.mem ((c.tc : Thread Cert.DiffPrompt.nD Cert.DiffPrompt.τ).loc Cert.DiffPrompt.main_arg1) = m ((c.tc : Thread Cert.DiffPrompt.nD Cert.DiffPrompt.τ).loc Cert.DiffPrompt.main_arg1)
      ∧ r.2.mem ((c.tc : Thread Cert.DiffPrompt.nD Cert.DiffPrompt.τ).loc Cert.DiffPrompt.main_arg2) = m ((c.tc : Thread Cert.DiffPrompt.nD Cert.DiffPrompt.τ).loc Cert.DiffPrompt.main_arg2)
      ∧ r.2.mem ((c.tc : Thread Cert.DiffPrompt.nD Cert.DiffPrompt.τ).loc Cert.DiffPrompt.main_arg3) = m ((c.tc : Thread Cert.DiffPrompt.nD Cert.DiffPrompt.τ).loc Cert.DiffPrompt.main_arg3)
      ∧ r.2.mem ((c.tc : Thread Cert.DiffPrompt.nD Cert.DiffPrompt.τ).loc Cert.DiffPrompt.main_arg4) = m ((c.tc : Thread Cert.DiffPrompt.nD Cert.DiffPrompt.τ).loc Cert.DiffPrompt.main_arg4))
      ∧ r.2.sem = fun _ => 0)

def quiescent_DiffPromptIdeal [hDiffPromptIdeal : Cert.DiffPromptIdeal.Facts] : Prop :=
  ∀ (m : (ℓ : Loc Cert.DiffPromptIdeal.nD Cert.DiffPromptIdeal.τ Cert.DiffPromptIdeal.sig) → Buf (Elt Ideal) ℓ) (g : Dev Cert.DiffPromptIdeal.nD → PrngReg), Pre_DiffPromptIdeal m →
    θ_run (Cert.DiffPromptIdeal.defs (F := Ideal)) (onTc (τ := Cert.DiffPromptIdeal.τ) (Cert.DiffPromptIdeal.main (F := Ideal))) ⟨m, fun _ => 0, g⟩ (fun r => (∀ c : Dev Cert.DiffPromptIdeal.nD,
      r.2.mem ((c.tc : Thread Cert.DiffPromptIdeal.nD Cert.DiffPromptIdeal.τ).loc Cert.DiffPromptIdeal.main_arg0) = m ((c.tc : Thread Cert.DiffPromptIdeal.nD Cert.DiffPromptIdeal.τ).loc Cert.DiffPromptIdeal.main_arg0)
      ∧ r.2.mem ((c.tc : Thread Cert.DiffPromptIdeal.nD Cert.DiffPromptIdeal.τ).loc Cert.DiffPromptIdeal.main_arg1) = m ((c.tc : Thread Cert.DiffPromptIdeal.nD Cert.DiffPromptIdeal.τ).loc Cert.DiffPromptIdeal.main_arg1)
      ∧ r.2.mem ((c.tc : Thread Cert.DiffPromptIdeal.nD Cert.DiffPromptIdeal.τ).loc Cert.DiffPromptIdeal.main_arg2) = m ((c.tc : Thread Cert.DiffPromptIdeal.nD Cert.DiffPromptIdeal.τ).loc Cert.DiffPromptIdeal.main_arg2)
      ∧ r.2.mem ((c.tc : Thread Cert.DiffPromptIdeal.nD Cert.DiffPromptIdeal.τ).loc Cert.DiffPromptIdeal.main_arg3) = m ((c.tc : Thread Cert.DiffPromptIdeal.nD Cert.DiffPromptIdeal.τ).loc Cert.DiffPromptIdeal.main_arg3)
      ∧ r.2.mem ((c.tc : Thread Cert.DiffPromptIdeal.nD Cert.DiffPromptIdeal.τ).loc Cert.DiffPromptIdeal.main_arg4) = m ((c.tc : Thread Cert.DiffPromptIdeal.nD Cert.DiffPromptIdeal.τ).loc Cert.DiffPromptIdeal.main_arg4))
      ∧ r.2.sem = fun _ => 0)

def quiescent_DiffPromptIdeal_pre_finite_values [hDiffPromptIdeal : Cert.DiffPromptIdeal.Facts] [hPre_finite_values : Cert.Pre_finite_values.Facts] : Prop :=
  ∀ (m : (ℓ : Loc Cert.DiffPromptIdeal.nD Cert.DiffPromptIdeal.τ Cert.DiffPromptIdeal.sig) → Buf (Elt Ideal) ℓ) (g : Dev Cert.DiffPromptIdeal.nD → PrngReg), Pre_DiffPromptIdeal_finite_values m →
    θ_run (Cert.DiffPromptIdeal.defs (F := Ideal)) (onTc (τ := Cert.DiffPromptIdeal.τ) (Cert.DiffPromptIdeal.main (F := Ideal))) ⟨m, fun _ => 0, g⟩ (fun r => (∀ c : Dev Cert.DiffPromptIdeal.nD,
      r.2.mem ((c.tc : Thread Cert.DiffPromptIdeal.nD Cert.DiffPromptIdeal.τ).loc Cert.DiffPromptIdeal.main_arg0) = m ((c.tc : Thread Cert.DiffPromptIdeal.nD Cert.DiffPromptIdeal.τ).loc Cert.DiffPromptIdeal.main_arg0)
      ∧ r.2.mem ((c.tc : Thread Cert.DiffPromptIdeal.nD Cert.DiffPromptIdeal.τ).loc Cert.DiffPromptIdeal.main_arg1) = m ((c.tc : Thread Cert.DiffPromptIdeal.nD Cert.DiffPromptIdeal.τ).loc Cert.DiffPromptIdeal.main_arg1)
      ∧ r.2.mem ((c.tc : Thread Cert.DiffPromptIdeal.nD Cert.DiffPromptIdeal.τ).loc Cert.DiffPromptIdeal.main_arg2) = m ((c.tc : Thread Cert.DiffPromptIdeal.nD Cert.DiffPromptIdeal.τ).loc Cert.DiffPromptIdeal.main_arg2)
      ∧ r.2.mem ((c.tc : Thread Cert.DiffPromptIdeal.nD Cert.DiffPromptIdeal.τ).loc Cert.DiffPromptIdeal.main_arg3) = m ((c.tc : Thread Cert.DiffPromptIdeal.nD Cert.DiffPromptIdeal.τ).loc Cert.DiffPromptIdeal.main_arg3)
      ∧ r.2.mem ((c.tc : Thread Cert.DiffPromptIdeal.nD Cert.DiffPromptIdeal.τ).loc Cert.DiffPromptIdeal.main_arg4) = m ((c.tc : Thread Cert.DiffPromptIdeal.nD Cert.DiffPromptIdeal.τ).loc Cert.DiffPromptIdeal.main_arg4))
      ∧ r.2.sem = fun _ => 0)

def quiescent_DiffPromptRefIdeal [hDiffPromptRefIdeal : Cert.DiffPromptRefIdeal.Facts] : Prop :=
  ∀ (m : (ℓ : Loc Cert.DiffPromptRefIdeal.nD Cert.DiffPromptRefIdeal.τ Cert.DiffPromptRefIdeal.sig) → Buf (Elt Ideal) ℓ) (g : Dev Cert.DiffPromptRefIdeal.nD → PrngReg), Pre_DiffPromptRefIdeal m →
    θ_run (Cert.DiffPromptRefIdeal.defs (F := Ideal)) (onTc (τ := Cert.DiffPromptRefIdeal.τ) (Cert.DiffPromptRefIdeal.main (F := Ideal))) ⟨m, fun _ => 0, g⟩ (fun r => (∀ c : Dev Cert.DiffPromptRefIdeal.nD,
      r.2.mem ((c.tc : Thread Cert.DiffPromptRefIdeal.nD Cert.DiffPromptRefIdeal.τ).loc Cert.DiffPromptRefIdeal.main_arg0) = m ((c.tc : Thread Cert.DiffPromptRefIdeal.nD Cert.DiffPromptRefIdeal.τ).loc Cert.DiffPromptRefIdeal.main_arg0)
      ∧ r.2.mem ((c.tc : Thread Cert.DiffPromptRefIdeal.nD Cert.DiffPromptRefIdeal.τ).loc Cert.DiffPromptRefIdeal.main_arg1) = m ((c.tc : Thread Cert.DiffPromptRefIdeal.nD Cert.DiffPromptRefIdeal.τ).loc Cert.DiffPromptRefIdeal.main_arg1)
      ∧ r.2.mem ((c.tc : Thread Cert.DiffPromptRefIdeal.nD Cert.DiffPromptRefIdeal.τ).loc Cert.DiffPromptRefIdeal.main_arg2) = m ((c.tc : Thread Cert.DiffPromptRefIdeal.nD Cert.DiffPromptRefIdeal.τ).loc Cert.DiffPromptRefIdeal.main_arg2)
      ∧ r.2.mem ((c.tc : Thread Cert.DiffPromptRefIdeal.nD Cert.DiffPromptRefIdeal.τ).loc Cert.DiffPromptRefIdeal.main_arg3) = m ((c.tc : Thread Cert.DiffPromptRefIdeal.nD Cert.DiffPromptRefIdeal.τ).loc Cert.DiffPromptRefIdeal.main_arg3)
      ∧ r.2.mem ((c.tc : Thread Cert.DiffPromptRefIdeal.nD Cert.DiffPromptRefIdeal.τ).loc Cert.DiffPromptRefIdeal.main_arg4) = m ((c.tc : Thread Cert.DiffPromptRefIdeal.nD Cert.DiffPromptRefIdeal.τ).loc Cert.DiffPromptRefIdeal.main_arg4))
      ∧ r.2.sem = fun _ => 0)

def quiescent_DiffPromptRefIdeal_pre_finite_values [hDiffPromptRefIdeal : Cert.DiffPromptRefIdeal.Facts] [hPre_finite_values : Cert.Pre_finite_values.Facts] : Prop :=
  ∀ (m : (ℓ : Loc Cert.DiffPromptRefIdeal.nD Cert.DiffPromptRefIdeal.τ Cert.DiffPromptRefIdeal.sig) → Buf (Elt Ideal) ℓ) (g : Dev Cert.DiffPromptRefIdeal.nD → PrngReg), Pre_DiffPromptRefIdeal_finite_values m →
    θ_run (Cert.DiffPromptRefIdeal.defs (F := Ideal)) (onTc (τ := Cert.DiffPromptRefIdeal.τ) (Cert.DiffPromptRefIdeal.main (F := Ideal))) ⟨m, fun _ => 0, g⟩ (fun r => (∀ c : Dev Cert.DiffPromptRefIdeal.nD,
      r.2.mem ((c.tc : Thread Cert.DiffPromptRefIdeal.nD Cert.DiffPromptRefIdeal.τ).loc Cert.DiffPromptRefIdeal.main_arg0) = m ((c.tc : Thread Cert.DiffPromptRefIdeal.nD Cert.DiffPromptRefIdeal.τ).loc Cert.DiffPromptRefIdeal.main_arg0)
      ∧ r.2.mem ((c.tc : Thread Cert.DiffPromptRefIdeal.nD Cert.DiffPromptRefIdeal.τ).loc Cert.DiffPromptRefIdeal.main_arg1) = m ((c.tc : Thread Cert.DiffPromptRefIdeal.nD Cert.DiffPromptRefIdeal.τ).loc Cert.DiffPromptRefIdeal.main_arg1)
      ∧ r.2.mem ((c.tc : Thread Cert.DiffPromptRefIdeal.nD Cert.DiffPromptRefIdeal.τ).loc Cert.DiffPromptRefIdeal.main_arg2) = m ((c.tc : Thread Cert.DiffPromptRefIdeal.nD Cert.DiffPromptRefIdeal.τ).loc Cert.DiffPromptRefIdeal.main_arg2)
      ∧ r.2.mem ((c.tc : Thread Cert.DiffPromptRefIdeal.nD Cert.DiffPromptRefIdeal.τ).loc Cert.DiffPromptRefIdeal.main_arg3) = m ((c.tc : Thread Cert.DiffPromptRefIdeal.nD Cert.DiffPromptRefIdeal.τ).loc Cert.DiffPromptRefIdeal.main_arg3)
      ∧ r.2.mem ((c.tc : Thread Cert.DiffPromptRefIdeal.nD Cert.DiffPromptRefIdeal.τ).loc Cert.DiffPromptRefIdeal.main_arg4) = m ((c.tc : Thread Cert.DiffPromptRefIdeal.nD Cert.DiffPromptRefIdeal.τ).loc Cert.DiffPromptRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v19) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v18) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_InProjC_InProjCIdeal : Prop :=
  True

def algebraic_InProjCIdeal_InProjCRefIdeal [hInProjCIdeal : Cert.InProjCIdeal.Facts] [hInProjCRefIdeal : Cert.InProjCRefIdeal.Facts] : Prop :=
  ∀ (m : (ℓ : Loc Cert.InProjCIdeal.nD Cert.InProjCIdeal.τ Cert.InProjCIdeal.sig) → Buf (Elt Ideal) ℓ) (g : Dev Cert.InProjCIdeal.nD → PrngReg)
    (m' : (ℓ : Loc Cert.InProjCRefIdeal.nD Cert.InProjCRefIdeal.τ Cert.InProjCRefIdeal.sig) → Buf (Elt Ideal) ℓ) (g' : Dev Cert.InProjCRefIdeal.nD → PrngReg), Pre_InProjCIdeal m →
    (∀ c : Dev Cert.InProjCIdeal.nD,
      m' ((c.tc : Thread Cert.InProjCRefIdeal.nD Cert.InProjCRefIdeal.τ).loc Cert.InProjCRefIdeal.main_arg0) = m ((c.tc : Thread Cert.InProjCIdeal.nD Cert.InProjCIdeal.τ).loc Cert.InProjCIdeal.main_arg0)
      ∧ m' ((c.tc : Thread Cert.InProjCRefIdeal.nD Cert.InProjCRefIdeal.τ).loc Cert.InProjCRefIdeal.main_arg1) = m ((c.tc : Thread Cert.InProjCIdeal.nD Cert.InProjCIdeal.τ).loc Cert.InProjCIdeal.main_arg1)
      ∧ m' ((c.tc : Thread Cert.InProjCRefIdeal.nD Cert.InProjCRefIdeal.τ).loc Cert.InProjCRefIdeal.main_arg2) = m ((c.tc : Thread Cert.InProjCIdeal.nD Cert.InProjCIdeal.τ).loc Cert.InProjCIdeal.main_arg2)
      ∧ m' ((c.tc : Thread Cert.InProjCRefIdeal.nD Cert.InProjCRefIdeal.τ).loc Cert.InProjCRefIdeal.main_arg3) = m ((c.tc : Thread Cert.InProjCIdeal.nD Cert.InProjCIdeal.τ).loc Cert.InProjCIdeal.main_arg3)
      ∧ m' ((c.tc : Thread Cert.InProjCRefIdeal.nD Cert.InProjCRefIdeal.τ).loc Cert.InProjCRefIdeal.main_arg4) = m ((c.tc : Thread Cert.InProjCIdeal.nD Cert.InProjCIdeal.τ).loc Cert.InProjCIdeal.main_arg4)) →
    ∃ (v0 : (c : Dev Cert.InProjCIdeal.nD) → Buf (Elt Ideal) ((c.tc : Thread Cert.InProjCIdeal.nD Cert.InProjCIdeal.τ).loc Cert.InProjCIdeal.main_v2)),
      θ_run (Cert.InProjCIdeal.defs (F := Ideal)) (onTc (τ := Cert.InProjCIdeal.τ) (Cert.InProjCIdeal.main (F := Ideal))) ⟨m, fun _ => 0, g⟩ (fun r => ∀ c : Dev Cert.InProjCIdeal.nD,
          r.2.mem ((c.tc : Thread Cert.InProjCIdeal.nD Cert.InProjCIdeal.τ).loc Cert.InProjCIdeal.main_v2) = v0 c
          ∧ r.2.mem ((c.tc : Thread Cert.InProjCIdeal.nD Cert.InProjCIdeal.τ).loc Cert.InProjCIdeal.main_arg0) = m ((c.tc : Thread Cert.InProjCIdeal.nD Cert.InProjCIdeal.τ).loc Cert.InProjCIdeal.main_arg0)
          ∧ r.2.mem ((c.tc : Thread Cert.InProjCIdeal.nD Cert.InProjCIdeal.τ).loc Cert.InProjCIdeal.main_arg1) = m ((c.tc : Thread Cert.InProjCIdeal.nD Cert.InProjCIdeal.τ).loc Cert.InProjCIdeal.main_arg1)
          ∧ r.2.mem ((c.tc : Thread Cert.InProjCIdeal.nD Cert.InProjCIdeal.τ).loc Cert.InProjCIdeal.main_arg2) = m ((c.tc : Thread Cert.InProjCIdeal.nD Cert.InProjCIdeal.τ).loc Cert.InProjCIdeal.main_arg2)
          ∧ r.2.mem ((c.tc : Thread Cert.InProjCIdeal.nD Cert.InProjCIdeal.τ).loc Cert.InProjCIdeal.main_arg3) = m ((c.tc : Thread Cert.InProjCIdeal.nD Cert.InProjCIdeal.τ).loc Cert.InProjCIdeal.main_arg3)
          ∧ r.2.mem ((c.tc : Thread Cert.InProjCIdeal.nD Cert.InProjCIdeal.τ).loc Cert.InProjCIdeal.main_arg4) = m ((c.tc : Thread Cert.InProjCIdeal.nD Cert.InProjCIdeal.τ).loc Cert.InProjCIdeal.main_arg4))
      ∧ θ_run (Cert.InProjCRefIdeal.defs (F := Ideal)) (onTc (τ := Cert.InProjCRefIdeal.τ) (Cert.InProjCRefIdeal.main (F := Ideal))) ⟨m', fun _ => 0, g'⟩ (fun r => ∀ c : Dev Cert.InProjCRefIdeal.nD,
          r.2.mem ((c.tc : Thread Cert.InProjCRefIdeal.nD Cert.InProjCRefIdeal.τ).loc Cert.InProjCRefIdeal.main_v19) = v0 c
          ∧ r.2.mem ((c.tc : Thread Cert.InProjCRefIdeal.nD Cert.InProjCRefIdeal.τ).loc Cert.InProjCRefIdeal.main_arg0) = m' ((c.tc : Thread Cert.InProjCRefIdeal.nD Cert.InProjCRefIdeal.τ).loc Cert.InProjCRefIdeal.main_arg0)
          ∧ r.2.mem ((c.tc : Thread Cert.InProjCRefIdeal.nD Cert.InProjCRefIdeal.τ).loc Cert.InProjCRefIdeal.main_arg1) = m' ((c.tc : Thread Cert.InProjCRefIdeal.nD Cert.InProjCRefIdeal.τ).loc Cert.InProjCRefIdeal.main_arg1)
          ∧ r.2.mem ((c.tc : Thread Cert.InProjCRefIdeal.nD Cert.InProjCRefIdeal.τ).loc Cert.InProjCRefIdeal.main_arg2) = m' ((c.tc : Thread Cert.InProjCRefIdeal.nD Cert.InProjCRefIdeal.τ).loc Cert.InProjCRefIdeal.main_arg2)
          ∧ r.2.mem ((c.tc : Thread Cert.InProjCRefIdeal.nD Cert.InProjCRefIdeal.τ).loc Cert.InProjCRefIdeal.main_arg3) = m' ((c.tc : Thread Cert.InProjCRefIdeal.nD Cert.InProjCRefIdeal.τ).loc Cert.InProjCRefIdeal.main_arg3)
          ∧ r.2.mem ((c.tc : Thread Cert.InProjCRefIdeal.nD Cert.InProjCRefIdeal.τ).loc Cert.InProjCRefIdeal.main_arg4) = m' ((c.tc : Thread Cert.InProjCRefIdeal.nD Cert.InProjCRefIdeal.τ).loc Cert.InProjCRefIdeal.main_arg4))

def preserves_CmpProj_CmpProjIdeal : Prop :=
  True

def algebraic_CmpProjIdeal_CmpProjRefIdeal [hCmpProjIdeal : Cert.CmpProjIdeal.Facts] [hCmpProjRefIdeal : Cert.CmpProjRefIdeal.Facts] : Prop :=
  ∀ (m : (ℓ : Loc Cert.CmpProjIdeal.nD Cert.CmpProjIdeal.τ Cert.CmpProjIdeal.sig) → Buf (Elt Ideal) ℓ) (g : Dev Cert.CmpProjIdeal.nD → PrngReg)
    (m' : (ℓ : Loc Cert.CmpProjRefIdeal.nD Cert.CmpProjRefIdeal.τ Cert.CmpProjRefIdeal.sig) → Buf (Elt Ideal) ℓ) (g' : Dev Cert.CmpProjRefIdeal.nD → PrngReg), Pre_CmpProjIdeal m →
    (∀ c : Dev Cert.CmpProjIdeal.nD,
      m' ((c.tc : Thread Cert.CmpProjRefIdeal.nD Cert.CmpProjRefIdeal.τ).loc Cert.CmpProjRefIdeal.main_arg0) = m ((c.tc : Thread Cert.CmpProjIdeal.nD Cert.CmpProjIdeal.τ).loc Cert.CmpProjIdeal.main_arg0)
      ∧ m' ((c.tc : Thread Cert.CmpProjRefIdeal.nD Cert.CmpProjRefIdeal.τ).loc Cert.CmpProjRefIdeal.main_arg1) = m ((c.tc : Thread Cert.CmpProjIdeal.nD Cert.CmpProjIdeal.τ).loc Cert.CmpProjIdeal.main_arg1)
      ∧ m' ((c.tc : Thread Cert.CmpProjRefIdeal.nD Cert.CmpProjRefIdeal.τ).loc Cert.CmpProjRefIdeal.main_arg2) = m ((c.tc : Thread Cert.CmpProjIdeal.nD Cert.CmpProjIdeal.τ).loc Cert.CmpProjIdeal.main_arg2)) →
    ∃ (v0 : (c : Dev Cert.CmpProjIdeal.nD) → Buf (Elt Ideal) ((c.tc : Thread Cert.CmpProjIdeal.nD Cert.CmpProjIdeal.τ).loc Cert.CmpProjIdeal.main_v4)),
      θ_run (Cert.CmpProjIdeal.defs (F := Ideal)) (onTc (τ := Cert.CmpProjIdeal.τ) (Cert.CmpProjIdeal.main (F := Ideal))) ⟨m, fun _ => 0, g⟩ (fun r => ∀ c : Dev Cert.CmpProjIdeal.nD,
          r.2.mem ((c.tc : Thread Cert.CmpProjIdeal.nD Cert.CmpProjIdeal.τ).loc Cert.CmpProjIdeal.main_v4) = v0 c
          ∧ r.2.mem ((c.tc : Thread Cert.CmpProjIdeal.nD Cert.CmpProjIdeal.τ).loc Cert.CmpProjIdeal.main_arg0) = m ((c.tc : Thread Cert.CmpProjIdeal.nD Cert.CmpProjIdeal.τ).loc Cert.CmpProjIdeal.main_arg0)
          ∧ r.2.mem ((c.tc : Thread Cert.CmpProjIdeal.nD Cert.CmpProjIdeal.τ).loc Cert.CmpProjIdeal.main_arg1) = m ((c.tc : Thread Cert.CmpProjIdeal.nD Cert.CmpProjIdeal.τ).loc Cert.CmpProjIdeal.main_arg1)
          ∧ r.2.mem ((c.tc : Thread Cert.CmpProjIdeal.nD Cert.CmpProjIdeal.τ).loc Cert.CmpProjIdeal.main_arg2) = m ((c.tc : Thread Cert.CmpProjIdeal.nD Cert.CmpProjIdeal.τ).loc Cert.CmpProjIdeal.main_arg2))
      ∧ θ_run (Cert.CmpProjRefIdeal.defs (F := Ideal)) (onTc (τ := Cert.CmpProjRefIdeal.τ) (Cert.CmpProjRefIdeal.main (F := Ideal))) ⟨m', fun _ => 0, g'⟩ (fun r => ∀ c : Dev Cert.CmpProjRefIdeal.nD,
          r.2.mem ((c.tc : Thread Cert.CmpProjRefIdeal.nD Cert.CmpProjRefIdeal.τ).loc Cert.CmpProjRefIdeal.main_v22) = v0 c
          ∧ r.2.mem ((c.tc : Thread Cert.CmpProjRefIdeal.nD Cert.CmpProjRefIdeal.τ).loc Cert.CmpProjRefIdeal.main_arg0) = m' ((c.tc : Thread Cert.CmpProjRefIdeal.nD Cert.CmpProjRefIdeal.τ).loc Cert.CmpProjRefIdeal.main_arg0)
          ∧ r.2.mem ((c.tc : Thread Cert.CmpProjRefIdeal.nD Cert.CmpProjRefIdeal.τ).loc Cert.CmpProjRefIdeal.main_arg1) = m' ((c.tc : Thread Cert.CmpProjRefIdeal.nD Cert.CmpProjRefIdeal.τ).loc Cert.CmpProjRefIdeal.main_arg1)
          ∧ r.2.mem ((c.tc : Thread Cert.CmpProjRefIdeal.nD Cert.CmpProjRefIdeal.τ).loc Cert.CmpProjRefIdeal.main_arg2) = m' ((c.tc : Thread Cert.CmpProjRefIdeal.nD Cert.CmpProjRefIdeal.τ).loc Cert.CmpProjRefIdeal.main_arg2))

def preserves_DiffPrompt_DiffPromptIdeal : Prop :=
  True

def algebraic_DiffPromptIdeal_DiffPromptRefIdeal_pre_finite_values [hDiffPromptIdeal : Cert.DiffPromptIdeal.Facts] [hDiffPromptRefIdeal : Cert.DiffPromptRefIdeal.Facts] [hPre_finite_values : Cert.Pre_finite_values.Facts] : Prop :=
  ∀ (m : (ℓ : Loc Cert.DiffPromptIdeal.nD Cert.DiffPromptIdeal.τ Cert.DiffPromptIdeal.sig) → Buf (Elt Ideal) ℓ) (g : Dev Cert.DiffPromptIdeal.nD → PrngReg)
    (m' : (ℓ : Loc Cert.DiffPromptRefIdeal.nD Cert.DiffPromptRefIdeal.τ Cert.DiffPromptRefIdeal.sig) → Buf (Elt Ideal) ℓ) (g' : Dev Cert.DiffPromptRefIdeal.nD → PrngReg), Pre_DiffPromptIdeal_finite_values m →
    (∀ c : Dev Cert.DiffPromptIdeal.nD,
      m' ((c.tc : Thread Cert.DiffPromptRefIdeal.nD Cert.DiffPromptRefIdeal.τ).loc Cert.DiffPromptRefIdeal.main_arg0) = m ((c.tc : Thread Cert.DiffPromptIdeal.nD Cert.DiffPromptIdeal.τ).loc Cert.DiffPromptIdeal.main_arg0)
      ∧ m' ((c.tc : Thread Cert.DiffPromptRefIdeal.nD Cert.DiffPromptRefIdeal.τ).loc Cert.DiffPromptRefIdeal.main_arg1) = m ((c.tc : Thread Cert.DiffPromptIdeal.nD Cert.DiffPromptIdeal.τ).loc Cert.DiffPromptIdeal.main_arg1)
      ∧ m' ((c.tc : Thread Cert.DiffPromptRefIdeal.nD Cert.DiffPromptRefIdeal.τ).loc Cert.DiffPromptRefIdeal.main_arg2) = m ((c.tc : Thread Cert.DiffPromptIdeal.nD Cert.DiffPromptIdeal.τ).loc Cert.DiffPromptIdeal.main_arg2)
      ∧ m' ((c.tc : Thread Cert.DiffPromptRefIdeal.nD Cert.DiffPromptRefIdeal.τ).loc Cert.DiffPromptRefIdeal.main_arg3) = m ((c.tc : Thread Cert.DiffPromptIdeal.nD Cert.DiffPromptIdeal.τ).loc Cert.DiffPromptIdeal.main_arg3)
      ∧ m' ((c.tc : Thread Cert.DiffPromptRefIdeal.nD Cert.DiffPromptRefIdeal.τ).loc Cert.DiffPromptRefIdeal.main_arg4) = m ((c.tc : Thread Cert.DiffPromptIdeal.nD Cert.DiffPromptIdeal.τ).loc Cert.DiffPromptIdeal.main_arg4)) →
    ∃ (v0 : (c : Dev Cert.DiffPromptIdeal.nD) → Buf (Elt Ideal) ((c.tc : Thread Cert.DiffPromptIdeal.nD Cert.DiffPromptIdeal.τ).loc Cert.DiffPromptIdeal.main_v34)),
      θ_run (Cert.DiffPromptIdeal.defs (F := Ideal)) (onTc (τ := Cert.DiffPromptIdeal.τ) (Cert.DiffPromptIdeal.main (F := Ideal))) ⟨m, fun _ => 0, g⟩ (fun r => ∀ c : Dev Cert.DiffPromptIdeal.nD,
          r.2.mem ((c.tc : Thread Cert.DiffPromptIdeal.nD Cert.DiffPromptIdeal.τ).loc Cert.DiffPromptIdeal.main_v34) = v0 c
          ∧ r.2.mem ((c.tc : Thread Cert.DiffPromptIdeal.nD Cert.DiffPromptIdeal.τ).loc Cert.DiffPromptIdeal.main_arg0) = m ((c.tc : Thread Cert.DiffPromptIdeal.nD Cert.DiffPromptIdeal.τ).loc Cert.DiffPromptIdeal.main_arg0)
          ∧ r.2.mem ((c.tc : Thread Cert.DiffPromptIdeal.nD Cert.DiffPromptIdeal.τ).loc Cert.DiffPromptIdeal.main_arg1) = m ((c.tc : Thread Cert.DiffPromptIdeal.nD Cert.DiffPromptIdeal.τ).loc Cert.DiffPromptIdeal.main_arg1)
          ∧ r.2.mem ((c.tc : Thread Cert.DiffPromptIdeal.nD Cert.DiffPromptIdeal.τ).loc Cert.DiffPromptIdeal.main_arg2) = m ((c.tc : Thread Cert.DiffPromptIdeal.nD Cert.DiffPromptIdeal.τ).loc Cert.DiffPromptIdeal.main_arg2)
          ∧ r.2.mem ((c.tc : Thread Cert.DiffPromptIdeal.nD Cert.DiffPromptIdeal.τ).loc Cert.DiffPromptIdeal.main_arg3) = m ((c.tc : Thread Cert.DiffPromptIdeal.nD Cert.DiffPromptIdeal.τ).loc Cert.DiffPromptIdeal.main_arg3)
          ∧ r.2.mem ((c.tc : Thread Cert.DiffPromptIdeal.nD Cert.DiffPromptIdeal.τ).loc Cert.DiffPromptIdeal.main_arg4) = m ((c.tc : Thread Cert.DiffPromptIdeal.nD Cert.DiffPromptIdeal.τ).loc Cert.DiffPromptIdeal.main_arg4))
      ∧ θ_run (Cert.DiffPromptRefIdeal.defs (F := Ideal)) (onTc (τ := Cert.DiffPromptRefIdeal.τ) (Cert.DiffPromptRefIdeal.main (F := Ideal))) ⟨m', fun _ => 0, g'⟩ (fun r => ∀ c : Dev Cert.DiffPromptRefIdeal.nD,
          r.2.mem ((c.tc : Thread Cert.DiffPromptRefIdeal.nD Cert.DiffPromptRefIdeal.τ).loc Cert.DiffPromptRefIdeal.main_v72) = v0 c
          ∧ r.2.mem ((c.tc : Thread Cert.DiffPromptRefIdeal.nD Cert.DiffPromptRefIdeal.τ).loc Cert.DiffPromptRefIdeal.main_arg0) = m' ((c.tc : Thread Cert.DiffPromptRefIdeal.nD Cert.DiffPromptRefIdeal.τ).loc Cert.DiffPromptRefIdeal.main_arg0)
          ∧ r.2.mem ((c.tc : Thread Cert.DiffPromptRefIdeal.nD Cert.DiffPromptRefIdeal.τ).loc Cert.DiffPromptRefIdeal.main_arg1) = m' ((c.tc : Thread Cert.DiffPromptRefIdeal.nD Cert.DiffPromptRefIdeal.τ).loc Cert.DiffPromptRefIdeal.main_arg1)
          ∧ r.2.mem ((c.tc : Thread Cert.DiffPromptRefIdeal.nD Cert.DiffPromptRefIdeal.τ).loc Cert.DiffPromptRefIdeal.main_arg2) = m' ((c.tc : Thread Cert.DiffPromptRefIdeal.nD Cert.DiffPromptRefIdeal.τ).loc Cert.DiffPromptRefIdeal.main_arg2)
          ∧ r.2.mem ((c.tc : Thread Cert.DiffPromptRefIdeal.nD Cert.DiffPromptRefIdeal.τ).loc Cert.DiffPromptRefIdeal.main_arg3) = m' ((c.tc : Thread Cert.DiffPromptRefIdeal.nD Cert.DiffPromptRefIdeal.τ).loc Cert.DiffPromptRefIdeal.main_arg3)
          ∧ r.2.mem ((c.tc : Thread Cert.DiffPromptRefIdeal.nD Cert.DiffPromptRefIdeal.τ).loc Cert.DiffPromptRefIdeal.main_arg4) = m' ((c.tc : Thread Cert.DiffPromptRefIdeal.nD Cert.DiffPromptRefIdeal.τ).loc Cert.DiffPromptRefIdeal.main_arg4))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hInProjC : Cert.InProjC.Facts) (hInProjCIdeal : Cert.InProjCIdeal.Facts) (hInProjCRefIdeal : Cert.InProjCRefIdeal.Facts) (hCmpProj : Cert.CmpProj.Facts) (hCmpProjIdeal : Cert.CmpProjIdeal.Facts) (hCmpProjRefIdeal : Cert.CmpProjRefIdeal.Facts) (hDiffPrompt : Cert.DiffPrompt.Facts) (hDiffPromptIdeal : Cert.DiffPromptIdeal.Facts) (hDiffPromptRefIdeal : Cert.DiffPromptRefIdeal.Facts) (hPre_finite_values : Cert.Pre_finite_values.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProjC (hInProjC := hInProjC)
    ∧ quiescent_InProjCIdeal (hInProjCIdeal := hInProjCIdeal)
    ∧ quiescent_InProjCRefIdeal (hInProjCRefIdeal := hInProjCRefIdeal)
    ∧ quiescent_CmpProj (hCmpProj := hCmpProj)
    ∧ quiescent_CmpProjIdeal (hCmpProjIdeal := hCmpProjIdeal)
    ∧ quiescent_CmpProjRefIdeal (hCmpProjRefIdeal := hCmpProjRefIdeal)
    ∧ quiescent_DiffPrompt (hDiffPrompt := hDiffPrompt)
    ∧ quiescent_DiffPromptIdeal (hDiffPromptIdeal := hDiffPromptIdeal)
    ∧ quiescent_DiffPromptIdeal_pre_finite_values (hDiffPromptIdeal := hDiffPromptIdeal) (hPre_finite_values := hPre_finite_values)
    ∧ quiescent_DiffPromptRefIdeal (hDiffPromptRefIdeal := hDiffPromptRefIdeal)
    ∧ quiescent_DiffPromptRefIdeal_pre_finite_values (hDiffPromptRefIdeal := hDiffPromptRefIdeal) (hPre_finite_values := hPre_finite_values)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_InProjC_InProjCIdeal
    ∧ algebraic_InProjCIdeal_InProjCRefIdeal (hInProjCIdeal := hInProjCIdeal) (hInProjCRefIdeal := hInProjCRefIdeal)
    ∧ preserves_CmpProj_CmpProjIdeal
    ∧ algebraic_CmpProjIdeal_CmpProjRefIdeal (hCmpProjIdeal := hCmpProjIdeal) (hCmpProjRefIdeal := hCmpProjRefIdeal)
    ∧ preserves_DiffPrompt_DiffPromptIdeal
    ∧ algebraic_DiffPromptIdeal_DiffPromptRefIdeal_pre_finite_values (hDiffPromptIdeal := hDiffPromptIdeal) (hDiffPromptRefIdeal := hDiffPromptRefIdeal) (hPre_finite_values := hPre_finite_values)
-- ==== Pre_finite_values.lean ====
abbrev S8x2048x512 : Shape := ⟨3, ![8, 2048, 512]⟩
abbrev S8x2048x256 : Shape := ⟨3, ![8, 2048, 256]⟩
abbrev S_ : Shape := ⟨0, ![]⟩
abbrev S128 : Shape := ⟨1, ![128]⟩

class Facts : Prop where
  bcast_S_S8x2048x256 : S_.BroadcastsInDim S8x2048x256 (![] : Fin 0 → Fin S8x2048x256.rank)

variable [Facts]

def fn {F : FTy → Type} [FloatOps F] (main_arg0 : FVec F S8x2048x512 .f32) (main_arg1 : FVec F S8x2048x256 .f32) (main_arg2 : FVec F S8x2048x256 .f32) (main_arg3 : FVec F S_ .f32) (main_arg4 : FVec F S128 .f32) : IVec S8x2048x256 1 × IVec S_ 1 :=
  let main_v0 : FVec F S8x2048x256 .f32 := Host.absf main_arg2
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_v3 : FVec F S_ .f32 := Host.absf main_arg3
  let main_cst_0 : FVec F S_ .f32 := constant S_ .f32 0x7F800000#32
  let main_v4 : IVec S_ 1 := cmpf .olt main_v3 main_cst_0
  (main_v2, main_v4)
-- ==== Kernel.lean ====
abbrev S8x2048x8x288 : Shape := ⟨4, ![8, 2048, 8, 288]⟩
abbrev S8x2048x288 : Shape := ⟨3, ![8, 2048, 288]⟩
abbrev S8x8x2048x288 : Shape := ⟨4, ![8, 8, 2048, 288]⟩
abbrev S8x8x2048x256 : Shape := ⟨4, ![8, 8, 2048, 256]⟩
abbrev S1x8x128x288 : Shape := ⟨4, ![1, 8, 128, 288]⟩
abbrev S1x2048x288 : Shape := ⟨3, ![1, 2048, 288]⟩
abbrev S1x8x128x256 : Shape := ⟨4, ![1, 8, 128, 256]⟩
abbrev S8x128x288 : Shape := ⟨3, ![8, 128, 288]⟩
abbrev S1024x288 : Shape := ⟨2, ![1024, 288]⟩
abbrev S128x1 : Shape := ⟨2, ![128, 1]⟩
abbrev S8x128x1 : Shape := ⟨3, ![8, 128, 1]⟩
abbrev S8x128x256 : Shape := ⟨3, ![8, 128, 256]⟩
abbrev S1x256 : Shape := ⟨2, ![1, 256]⟩
abbrev S128x256 : Shape := ⟨2, ![128, 256]⟩
abbrev S2048x288 : Shape := ⟨2, ![2048, 288]⟩
abbrev S256x288 : Shape := ⟨2, ![256, 288]⟩
abbrev S256x256 : Shape := ⟨2, ![256, 256]⟩
abbrev S1024x256 : Shape := ⟨2, ![1024, 256]⟩
abbrev S1x128x256 : Shape := ⟨3, ![1, 128, 256]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S8x2048x8x288, .f32⟩
  | .hbm, ⟨1, _⟩ => ⟨S8x2048x288, .f32⟩
  | .hbm, ⟨2, _⟩ => ⟨S8x8x2048x288, .f32⟩
  | .hbm, ⟨3, _⟩ => ⟨S8x8x2048x256, .f32⟩
  | .local _ .vmem, ⟨0, _⟩ => ⟨S1x8x128x288, .f32⟩
  | .local _ .vmem, ⟨1, _⟩ => ⟨S1x8x128x288, .f32⟩
  | .local _ .vmem, ⟨2, _⟩ => ⟨S1x2048x288, .f32⟩
  | .local _ .vmem, ⟨3, _⟩ => ⟨S1x2048x288, .f32⟩
  | .local _ .vmem, ⟨4, _⟩ => ⟨S1x8x128x256, .f32⟩
  | .local _ .vmem, ⟨5, _⟩ => ⟨S1x8x128x256, .f32⟩
  | _, _ => ⟨S8x2048x8x288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_13 : BitVec 32 := 0#32
  let arg1 : BitVec 32 := BitVec.ofNat 32 (i 1).val
  let c128_i32 : BitVec 32 := 128#32
  let v0 : BitVec 32 := Scalar.muli arg1 c128_i32
  let c128_i32_3 : BitVec 32 := 128#32
  let v8 : BitVec 32 := Scalar.addi v0 c128_i32_3
  let c256_i32 : BitVec 32 := 256#32
  let v9 : BitVec 32 := Scalar.addi v8 c256_i32
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_5 : BitVec 32 := 0#32
  let v14 : BitVec 1 := Scalar.cmpi .slt v10 c0_i32_5
  let v15 : BitVec 32 := Scalar.extui v14
  let v16 : BitVec 32 := Scalar.subi v13 v15
  let c256_i32_4 : BitVec 32 := 256#32
  let c0_i32_6 : BitVec 32 := 0#32
  let v17 : BitVec 1 := Scalar.cmpi .sgt c256_i32_4 c0_i32_6
  let v18 : BitVec 32 := Scalar.extui v17
  let c0_i32_7 : BitVec 32 := 0#32
  let v19 : BitVec 1 := Scalar.cmpi .slt c256_i32_4 c0_i32_7
  let v20 : BitVec 32 := Scalar.extui v19
  let v21 : BitVec 32 := Scalar.subi v18 v20
  let v22 : BitVec 1 := Scalar.cmpi .ne v16 v21
  let v23 : BitVec 32 := Scalar.remsi v10 c256_i32_4
  let c0_i32_8 : BitVec 32 := 0#32
  let v24 : BitVec 1 := Scalar.cmpi .ne v23 c0_i32_8
  let v25 : BitVec 1 := Scalar.andi v22 v24
  let v11 : BitVec 32 := Scalar.divsi v10 c256_i32_4
  let c1_i32_9 : BitVec 32 := 1#32
  let v26 : BitVec 32 := Scalar.subi v11 c1_i32_9
  let v27 : BitVec 32 := Scalar.select v25 v26 v11
  let v31 : BitVec 32 := Scalar.subi v27 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_15 : BitVec 32 := 1#32
  ⟨c0_i32_13, v35, c1_i32_15⟩
def k0_mult1 (i : grid0.Coords) (k0_t1 : Fin (k0_t1_loop i).trips) : BitVec 32 :=
  let c0_i32_13 : BitVec 32 := 0#32
  let c1_i32_15 : BitVec 32 := 1#32
  let arg5 : BitVec 32 := Scf.iv c0_i32_13 c1_i32_15 k0_t1
  let c256_i32_23 : BitVec 32 := 256#32
  let v47 : BitVec 32 := Scalar.muli arg5 c256_i32_23
  v47
def k0_off1 (i : grid0.Coords) (k0_t1 : Fin (k0_t1_loop i).trips) : Fin 2 → Nat :=
  let c0_i32_13 : BitVec 32 := 0#32
  let c1_i32_15 : BitVec 32 := 1#32
  let arg5 : BitVec 32 := Scf.iv c0_i32_13 c1_i32_15 k0_t1
  let c256_i32_23 : BitVec 32 := 256#32
  let v47 : BitVec 32 := Scalar.muli arg5 c256_i32_23
  let v48 : BitVec 32 := v47
  let v57 : Index := Scalar.indexCast v48
  let c0_26 : Index := 0#32
  ![v57.toNat, 0]
@[reducible] def k0_t2_loop (i : grid0.Coords) : Scf.Loop 32 :=
  let c0_i32_13 : BitVec 32 := 0#32
  let arg1 : BitVec 32 := BitVec.ofNat 32 (i 1).val
  let c128_i32 : BitVec 32 := 128#32
  let v0 : BitVec 32 := Scalar.muli arg1 c128_i32
  let c128_i32_3 : BitVec 32 := 128#32
  let v8 : BitVec 32 := Scalar.addi v0 c128_i32_3
  let c256_i32 : BitVec 32 := 256#32
  let v9 : BitVec 32 := Scalar.addi v8 c256_i32
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_5 : BitVec 32 := 0#32
  let v14 : BitVec 1 := Scalar.cmpi .slt v10 c0_i32_5
  let v15 : BitVec 32 := Scalar.extui v14
  let v16 : BitVec 32 := Scalar.subi v13 v15
  let c256_i32_4 : BitVec 32 := 256#32
  let c0_i32_6 : BitVec 32 := 0#32
  let v17 : BitVec 1 := Scalar.cmpi .sgt c256_i32_4 c0_i32_6
  let v18 : BitVec 32 := Scalar.extui v17
  let c0_i32_7 : BitVec 32 := 0#32
  let v19 : BitVec 1 := Scalar.cmpi .slt c256_i32_4 c0_i32_7
  let v20 : BitVec 32 := Scalar.extui v19
  let v21 : BitVec 32 := Scalar.subi v18 v20
  let v22 : BitVec 1 := Scalar.cmpi .ne v16 v21
  let v23 : BitVec 32 := Scalar.remsi v10 c256_i32_4
  let c0_i32_8 : BitVec 32 := 0#32
  let v24 : BitVec 1 := Scalar.cmpi .ne v23 c0_i32_8
  let v25 : BitVec 1 := Scalar.andi v22 v24
  let v11 : BitVec 32 := Scalar.divsi v10 c256_i32_4
  let c1_i32_9 : BitVec 32 := 1#32
  let v26 : BitVec 32 := Scalar.subi v11 c1_i32_9
  let v27 : BitVec 32 := Scalar.select v25 v26 v11
  let v31 : BitVec 32 := Scalar.subi v27 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let v32 : BitVec 32 := Scalar.addi c0_i32_13 v31
  let c1_i32_16 : BitVec 32 := 1#32
  ⟨v35, v32, c1_i32_16⟩
def k0_mult2 (i : grid0.Coords) (k0_t2 : Fin (k0_t2_loop i).trips) : BitVec 32 :=
  let c0_i32_13 : BitVec 32 := 0#32
  let arg1 : BitVec 32 := BitVec.ofNat 32 (i 1).val
  let c128_i32 : BitVec 32 := 128#32
  let v0 : BitVec 32 := Scalar.muli arg1 c128_i32
  let c128_i32_3 : BitVec 32 := 128#32
  let v8 : BitVec 32 := Scalar.addi v0 c128_i32_3
  let c256_i32 : BitVec 32 := 256#32
  let v9 : BitVec 32 := Scalar.addi v8 c256_i32
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_5 : BitVec 32 := 0#32
  let v14 : BitVec 1 := Scalar.cmpi .slt v10 c0_i32_5
  let v15 : BitVec 32 := Scalar.extui v14
  let v16 : BitVec 32 := Scalar.subi v13 v15
  let c256_i32_4 : BitVec 32 := 256#32
  let c0_i32_6 : BitVec 32 := 0#32
  let v17 : BitVec 1 := Scalar.cmpi .sgt c256_i32_4 c0_i32_6
  let v18 : BitVec 32 := Scalar.extui v17
  let c0_i32_7 : BitVec 32 := 0#32
  let v19 : BitVec 1 := Scalar.cmpi .slt c256_i32_4 c0_i32_7
  let v20 : BitVec 32 := Scalar.extui v19
  let v21 : BitVec 32 := Scalar.subi v18 v20
  let v22 : BitVec 1 := Scalar.cmpi .ne v16 v21
  let v23 : BitVec 32 := Scalar.remsi v10 c256_i32_4
  let c0_i32_8 : BitVec 32 := 0#32
  let v24 : BitVec 1 := Scalar.cmpi .ne v23 c0_i32_8
  let v25 : BitVec 1 := Scalar.andi v22 v24
  let v11 : BitVec 32 := Scalar.divsi v10 c256_i32_4
  let c1_i32_9 : BitVec 32 := 1#32
  let v26 : BitVec 32 := Scalar.subi v11 c1_i32_9
  let v27 : BitVec 32 := Scalar.select v25 v26 v11
  let v31 : BitVec 32 := Scalar.subi v27 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg5 : BitVec 32 := Scf.iv v35 c1_i32_16 k0_t2
  let c256_i32_23 : BitVec 32 := 256#32
  let v47 : BitVec 32 := Scalar.muli arg5 c256_i32_23
  v47
def k0_off2 (i : grid0.Coords) (k0_t2 : Fin (k0_t2_loop i).trips) : Fin 2 → Nat :=
  let c0_i32_13 : BitVec 32 := 0#32
  let arg1 : BitVec 32 := BitVec.ofNat 32 (i 1).val
  let c128_i32 : BitVec 32 := 128#32
  let v0 : BitVec 32 := Scalar.muli arg1 c128_i32
  let c128_i32_3 : BitVec 32 := 128#32
  let v8 : BitVec 32 := Scalar.addi v0 c128_i32_3
  let c256_i32 : BitVec 32 := 256#32
  let v9 : BitVec 32 := Scalar.addi v8 c256_i32
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_5 : BitVec 32 := 0#32
  let v14 : BitVec 1 := Scalar.cmpi .slt v10 c0_i32_5
  let v15 : BitVec 32 := Scalar.extui v14
  let v16 : BitVec 32 := Scalar.subi v13 v15
  let c256_i32_4 : BitVec 32 := 256#32
  let c0_i32_6 : BitVec 32 := 0#32
  let v17 : BitVec 1 := Scalar.cmpi .sgt c256_i32_4 c0_i32_6
  let v18 : BitVec 32 := Scalar.extui v17
  let c0_i32_7 : BitVec 32 := 0#32
  let v19 : BitVec 1 := Scalar.cmpi .slt c256_i32_4 c0_i32_7
  let v20 : BitVec 32 := Scalar.extui v19
  let v21 : BitVec 32 := Scalar.subi v18 v20
  let v22 : BitVec 1 := Scalar.cmpi .ne v16 v21
  let v23 : BitVec 32 := Scalar.remsi v10 c256_i32_4
  let c0_i32_8 : BitVec 32 := 0#32
  let v24 : BitVec 1 := Scalar.cmpi .ne v23 c0_i32_8
  let v25 : BitVec 1 := Scalar.andi v22 v24
  let v11 : BitVec 32 := Scalar.divsi v10 c256_i32_4
  let c1_i32_9 : BitVec 32 := 1#32
  let v26 : BitVec 32 := Scalar.subi v11 c1_i32_9
  let v27 : BitVec 32 := Scalar.select v25 v26 v11
  let v31 : BitVec 32 := Scalar.subi v27 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg5 : BitVec 32 := Scf.iv v35 c1_i32_16 k0_t2
  let c256_i32_23 : BitVec 32 := 256#32
  let v47 : BitVec 32 := Scalar.muli arg5 c256_i32_23
  let v48 : BitVec 32 := v47
  let v57 : Index := Scalar.indexCast v48
  let c0_26 : Index := 0#32
  ![v57.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x128x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8x2048x8x288 : Shape := ⟨4, ![8, 2048, 8, 288]⟩
abbrev S8x2048x288 : Shape := ⟨3, ![8, 2048, 288]⟩
abbrev S2048 : Shape := ⟨1, ![2048]⟩
abbrev S8x2048x256 : Shape := ⟨3, ![8, 2048, 256]⟩
abbrev S8x2048x2048x8 : Shape := ⟨4, ![8, 2048, 2048, 8]⟩
abbrev S8x8x2048x2048 : Shape := ⟨4, ![8, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x8x2048x256 : Shape := ⟨4, ![8, 8, 2048, 256]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x8x288, .f32⟩
  | .hbm, ⟨1, _⟩ => ⟨S8x2048x288, .f32⟩
  | .hbm, ⟨2, _⟩ => ⟨S2048, .i32⟩
  | .hbm, ⟨3, _⟩ => ⟨S2048, .i32⟩
  | .hbm, ⟨4, _⟩ => ⟨S8x2048x256, .f32⟩
  | .hbm, ⟨5, _⟩ => ⟨S8x2048x2048x8, .f32⟩
  | .hbm, ⟨6, _⟩ => ⟨S8x8x2048x2048, .f32⟩
  | .hbm, ⟨7, _⟩ => ⟨S_, .f32⟩
  | .hbm, ⟨8, _⟩ => ⟨S8x8x2048x2048, .f32⟩
  | .hbm, ⟨9, _⟩ => ⟨S8x8x2048x2048, .f32⟩
  | .hbm, ⟨10, _⟩ => ⟨S1x2048, .i32⟩
  | .hbm, ⟨11, _⟩ => ⟨S2048x1, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S_, .f32⟩
  | .hbm, ⟨16, _⟩ => ⟨S_, .f32⟩
  | .hbm, ⟨17, _⟩ => ⟨S8x8x2048x2048, .i1⟩
  | .hbm, ⟨18, _⟩ => ⟨S8x8x2048x2048, .f32⟩
  | .hbm, ⟨19, _⟩ => ⟨S8x8x2048x2048, .f32⟩
  | .hbm, ⟨20, _⟩ => ⟨S_, .f32⟩
  | .hbm, ⟨21, _⟩ => ⟨S8x8x2048, .f32⟩
  | .hbm, ⟨22, _⟩ => ⟨S8x8x2048x1, .f32⟩
  | .hbm, ⟨23, _⟩ => ⟨S8x8x2048x1, .f32⟩
  | .hbm, ⟨24, _⟩ => ⟨S_, .f32⟩
  | .hbm, ⟨25, _⟩ => ⟨S8x8x2048x1, .f32⟩
  | .hbm, ⟨26, _⟩ => ⟨S8x8x2048x1, .i1⟩
  | .hbm, ⟨27, _⟩ => ⟨S_, .f32⟩
  | .hbm, ⟨28, _⟩ => ⟨S_, .f32⟩
  | .hbm, ⟨29, _⟩ => ⟨S8x8x2048x1, .f32⟩
  | .hbm, ⟨30, _⟩ => ⟨S8x8x2048x1, .f32⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S_, .f32⟩
  | .hbm, ⟨35, _⟩ => ⟨S8x8x2048, .f32⟩
  | .hbm, ⟨36, _⟩ => ⟨S8x8x2048x1, .f32⟩
  | .hbm, ⟨37, _⟩ => ⟨S_, .f32⟩
  | .hbm, ⟨38, _⟩ => ⟨S8x8x2048x1, .f32⟩
  | .hbm, ⟨39, _⟩ => ⟨S8x8x2048x1, .i1⟩
  | .hbm, ⟨40, _⟩ => ⟨S_, .f32⟩
  | .hbm, ⟨41, _⟩ => ⟨S_, .f32⟩
  | .hbm, ⟨42, _⟩ => ⟨S8x8x2048x1, .f32⟩
  | .hbm, ⟨43, _⟩ => ⟨S8x8x2048x1, .f32⟩
  | .hbm, ⟨44, _⟩ => ⟨S8x8x2048x2048, .f32⟩
  | .hbm, ⟨45, _⟩ => ⟨S8x8x2048x2048, .f32⟩
  | .hbm, ⟨46, _⟩ => ⟨S8x8x2048x256, .f32⟩
  | _, _ => ⟨S8x2048x8x288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_call2_v0 : Ref sig .tc := ⟨.hbm, 41, rfl⟩
abbrev main_call2_v1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== InProj.lean ====
abbrev S8x2048x1024 : Shape := ⟨3, ![8, 2048, 1024]⟩
abbrev S8x1x1024 : Shape := ⟨3, ![8, 1, 1024]⟩
abbrev S1024 : Shape := ⟨1, ![1024]⟩
abbrev S1024x3200 : Shape := ⟨2, ![1024, 3200]⟩
abbrev S1x1x1024 : Shape := ⟨3, ![1, 1, 1024]⟩
abbrev S8x2048x3200 : Shape := ⟨3, ![8, 2048, 3200]⟩
abbrev S1x512x1024 : Shape := ⟨3, ![1, 512, 1024]⟩
abbrev S1x512x3200 : Shape := ⟨3, ![1, 512, 3200]⟩
abbrev S1x512 : Shape := ⟨2, ![1, 512]⟩
abbrev S1x512x1 : Shape := ⟨3, ![1, 512, 1]⟩
abbrev S512x1024 : Shape := ⟨2, ![512, 1024]⟩
abbrev S512x3200 : Shape := ⟨2, ![512, 3200]⟩

abbrev nBuf : Space → Nat
  | .hbm => 8
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x3200, .f32⟩
  | .hbm, ⟨5, _⟩ => ⟨S1x1x1024, .f32⟩
  | .hbm, ⟨6, _⟩ => ⟨S1024x3200, .bf16⟩
  | .hbm, ⟨7, _⟩ => ⟨S8x2048x3200, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3200, .bf16⟩
  | .local _ .vmem, ⟨8, _⟩ => ⟨S1x512x3200, .f32⟩
  | .local _ .vmem, ⟨9, _⟩ => ⟨S1x512x3200, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x3200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjIdeal.lean ====
abbrev S8x2048x1024 : Shape := ⟨3, ![8, 2048, 1024]⟩
abbrev S8x1x1024 : Shape := ⟨3, ![8, 1, 1024]⟩
abbrev S1024 : Shape := ⟨1, ![1024]⟩
abbrev S1024x3200 : Shape := ⟨2, ![1024, 3200]⟩
abbrev S1x1x1024 : Shape := ⟨3, ![1, 1, 1024]⟩
abbrev S8x2048x3200 : Shape := ⟨3, ![8, 2048, 3200]⟩
abbrev S1x512x1024 : Shape := ⟨3, ![1, 512, 1024]⟩
abbrev S1x512x3200 : Shape := ⟨3, ![1, 512, 3200]⟩
abbrev S1x512 : Shape := ⟨2, ![1, 512]⟩
abbrev S1x512x1 : Shape := ⟨3, ![1, 512, 1]⟩
abbrev S512x1024 : Shape := ⟨2, ![512, 1024]⟩
abbrev S512x3200 : Shape := ⟨2, ![512, 3200]⟩

abbrev nBuf : Space → Nat
  | .hbm => 8
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x3200, .f32⟩
  | .hbm, ⟨5, _⟩ => ⟨S1x1x1024, .f32⟩
  | .hbm, ⟨6, _⟩ => ⟨S1024x3200, .bf16⟩
  | .hbm, ⟨7, _⟩ => ⟨S8x2048x3200, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3200, .bf16⟩
  | .local _ .vmem, ⟨8, _⟩ => ⟨S1x512x3200, .f32⟩
  | .local _ .vmem, ⟨9, _⟩ => ⟨S1x512x3200, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x3200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRefIdeal.lean ====
abbrev S8x2048x1024 : Shape := ⟨3, ![8, 2048, 1024]⟩
abbrev S8x1x1024 : Shape := ⟨3, ![8, 1, 1024]⟩
abbrev S1024 : Shape := ⟨1, ![1024]⟩
abbrev S1024x3200 : Shape := ⟨2, ![1024, 3200]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3200 : Shape := ⟨3, ![8, 2048, 3200]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x3200, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x3200, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== OutProj.lean ====
abbrev S8x2048x1024 : Shape := ⟨3, ![8, 2048, 1024]⟩
abbrev S8x1x1024 : Shape := ⟨3, ![8, 1, 1024]⟩
abbrev S1024 : Shape := ⟨1, ![1024]⟩
abbrev S1024x1024 : Shape := ⟨2, ![1024, 1024]⟩
abbrev S1x1x1024 : Shape := ⟨3, ![1, 1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x1x1024, .f32⟩
  | .hbm, ⟨4, _⟩ => ⟨S1024, .f32⟩
  | .hbm, ⟨5, _⟩ => ⟨S1024x1024, .f32⟩
  | .hbm, ⟨6, _⟩ => ⟨S1x1x1024, .f32⟩
  | .hbm, ⟨7, _⟩ => ⟨S1024x1024, .bf16⟩
  | .hbm, ⟨8, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x1024, .bf16⟩
  | .local _ .vmem, ⟨10, _⟩ => ⟨S1x512x1024, .f32⟩
  | .local _ .vmem, ⟨11, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutProjRefIdeal.lean ====
abbrev S8x2048x1024 : Shape := ⟨3, ![8, 2048, 1024]⟩
abbrev S8x1x1024 : Shape := ⟨3, ![8, 1, 1024]⟩
abbrev S1024 : Shape := ⟨1, ![1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x1x1024, .f32⟩
  | .hbm, ⟨4, _⟩ => ⟨S1024, .f32⟩
  | .hbm, ⟨5, _⟩ => ⟨S1024x1024, .f32⟩
  | .hbm, ⟨6, _⟩ => ⟨S8x2048x1024, .f32⟩
  | .hbm, ⟨7, _⟩ => ⟨S8x2048x1024, .f32⟩
  | .hbm, ⟨8, _⟩ => ⟨S_, .f32⟩
  | .hbm, ⟨9, _⟩ => ⟨S8x2048x1024, .f32⟩
  | .hbm, ⟨10, _⟩ => ⟨S8x2048x1024, .f32⟩
  | .hbm, ⟨11, _⟩ => ⟨S_, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S8x2048x1, .f32⟩
  | .hbm, ⟨28, _⟩ => ⟨S8x2048x1024, .f32⟩
  | .hbm, ⟨29, _⟩ => ⟨S8x2048x1024, .f32⟩
  | .hbm, ⟨30, _⟩ => ⟨S1x1x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== InProjC.lean ====
abbrev S8x2048x1024 : Shape := ⟨3, ![8, 2048, 1024]⟩
abbrev S8x1x1024 : Shape := ⟨3, ![8, 1, 1024]⟩
abbrev S1024 : Shape := ⟨1, ![1024]⟩
abbrev S1024x2944 : Shape := ⟨2, ![1024, 2944]⟩
abbrev S1x1x1024 : Shape := ⟨3, ![1, 1, 1024]⟩
abbrev S8x2048x2944 : Shape := ⟨3, ![8, 2048, 2944]⟩
abbrev S1x512x1024 : Shape := ⟨3, ![1, 512, 1024]⟩
abbrev S1x512x2944 : Shape := ⟨3, ![1, 512, 2944]⟩
abbrev S1x512 : Shape := ⟨2, ![1, 512]⟩
abbrev S1x512x1 : Shape := ⟨3, ![1, 512, 1]⟩
abbrev S512x1024 : Shape := ⟨2, ![512, 1024]⟩
abbrev S512x2944 : Shape := ⟨2, ![512, 2944]⟩

abbrev nBuf : Space → Nat
  | .hbm => 8
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x2944, .f32⟩
  | .hbm, ⟨5, _⟩ => ⟨S1x1x1024, .f32⟩
  | .hbm, ⟨6, _⟩ => ⟨S1024x2944, .bf16⟩
  | .hbm, ⟨7, _⟩ => ⟨S8x2048x2944, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2944, .bf16⟩
  | .local _ .vmem, ⟨8, _⟩ => ⟨S1x512x2944, .f32⟩
  | .local _ .vmem, ⟨9, _⟩ => ⟨S1x512x2944, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2944 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjCRefIdeal.lean ====
abbrev S8x2048x1024 : Shape := ⟨3, ![8, 2048, 1024]⟩
abbrev S8x1x1024 : Shape := ⟨3, ![8, 1, 1024]⟩
abbrev S1024 : Shape := ⟨1, ![1024]⟩
abbrev S1024x2944 : Shape := ⟨2, ![1024, 2944]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2944 : Shape := ⟨3, ![8, 2048, 2944]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x2944, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x2944, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== CmpProj.lean ====
abbrev S10240x128x2x4x2x64 : Shape := ⟨6, ![10240, 128, 2, 4, 2, 64]⟩
abbrev S2x32x64 : Shape := ⟨3, ![2, 32, 64]⟩
abbrev S2x32x64x128 : Shape := ⟨4, ![2, 32, 64, 128]⟩
abbrev S128x128 : Shape := ⟨2, ![128, 128]⟩
abbrev S10240x2x4x2x64x128 : Shape := ⟨6, ![10240, 2, 4, 2, 64, 128]⟩
abbrev S2x2x8x1x128 : Shape := ⟨5, ![2, 2, 8, 1, 128]⟩
abbrev S2x2x8x128x128 : Shape := ⟨5, ![2, 2, 8, 128, 128]⟩
abbrev S2x2x81920x256 : Shape := ⟨4, ![2, 2, 81920, 256]⟩
abbrev S32x1x2x2x64x128 : Shape := ⟨6, ![32, 1, 2, 2, 64, 128]⟩
abbrev S2x2x256x256 : Shape := ⟨4, ![2, 2, 256, 256]⟩
abbrev S2x2x32x128x64 : Shape := ⟨5, ![2, 2, 32, 128, 64]⟩
abbrev S1x1x1x1x64x128 : Shape := ⟨6, ![1, 1, 1, 1, 64, 128]⟩
abbrev S64x128 : Shape := ⟨2, ![64, 128]⟩
abbrev S128x64 : Shape := ⟨2, ![128, 64]⟩
abbrev S1x1x1x128x64 : Shape := ⟨5, ![1, 1, 1, 128, 64]⟩
abbrev S256x128 : Shape := ⟨2, ![256, 128]⟩
abbrev S1x1x32x8x64 : Shape := ⟨5, ![1, 1, 32, 8, 64]⟩
abbrev S32x8x64 : Shape := ⟨3, ![32, 8, 64]⟩
abbrev S256x64 : Shape := ⟨2, ![256, 64]⟩
abbrev S1x1x1x1x128 : Shape := ⟨5, ![1, 1, 1, 1, 128]⟩
abbrev S1x128 : Shape := ⟨2, ![1, 128]⟩
abbrev S1x1x1x128x128 : Shape := ⟨5, ![1, 1, 1, 128, 128]⟩
abbrev S256x256 : Shape := ⟨2, ![256, 256]⟩
abbrev S1x1x256x256 : Shape := ⟨4, ![1, 1, 256, 256]⟩

abbrev nBuf : Space → Nat
  | .hbm => 9
  | .vmem => 8
  | .smem => 0
  | _ => 0

abbrev bufTy : (tb : Table) → Fin (tcTables nBuf tb) → BufTy
  | .hbm, ⟨0, _⟩ => ⟨S10240x128x2x4x2x64, .f32⟩
  | .hbm, ⟨1, _⟩ => ⟨S2x32x64, .f32⟩
  | .hbm, ⟨2, _⟩ => ⟨S2x32x64x128, .f32⟩
  | .hbm, ⟨3, _⟩ => ⟨S128x128, .bf16⟩
  | .hbm, ⟨4, _⟩ => ⟨S10240x2x4x2x64x128, .f32⟩
  | .hbm, ⟨5, _⟩ => ⟨S2x2x8x1x128, .f32⟩
  | .hbm, ⟨6, _⟩ => ⟨S2x2x8x128x128, .f32⟩
  | .hbm, ⟨7, _⟩ => ⟨S2x2x8x128x128, .bf16⟩
  | .hbm, ⟨8, _⟩ => ⟨S2x2x81920x256, .f32⟩
  | .local _ .vmem, ⟨0, _⟩ => ⟨S32x1x2x2x64x128, .f32⟩
  | .local _ .vmem, ⟨1, _⟩ => ⟨S32x1x2x2x64x128, .f32⟩
  | .local _ .vmem, ⟨2, _⟩ => ⟨S128x128, .bf16⟩
  | .local _ .vmem, ⟨3, _⟩ => ⟨S2x2x8x1x128, .f32⟩
  | .local _ .vmem, ⟨4, _⟩ => ⟨S2x2x8x128x128, .bf16⟩
  | .local _ .vmem, ⟨5, _⟩ => ⟨S2x2x256x256, .f32⟩
  | .local _ .vmem, ⟨6, _⟩ => ⟨S2x2x256x256, .f32⟩
  | .local _ .vmem, ⟨7, _⟩ => ⟨S2x2x32x128x64, .f32⟩
  | _, _ => ⟨S10240x128x2x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![320], ![false]⟩

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_off1 (k0_t1 : Fin k0_t1_loop.trips) : Fin 6 → Nat :=
  let c0_i32 : BitVec 32 := 0#32
  let c1_i32 : BitVec 32 := 1#32
  let arg7 : BitVec 32 := Scf.iv c0_i32 c1_i32 k0_t1
  let v826 : Index := Scalar.indexCast arg7
  let c0_1027 : Index := 0#32
  let c0_1028 : Index := 0#32
  let c0_1029 : Index := 0#32
  let c0_1030 : Index := 0#32
  let c0_1031 : Index := 0#32
  ![v826.toNat, 0, 0, 0, 0, 0]
def k0_off2 (k0_t1 : Fin k0_t1_loop.trips) : Fin 5 → Nat :=
  let c0_1033 : Index := 0#32
  let c0_1034 : Index := 0#32
  let c0_i32 : BitVec 32 := 0#32
  let c1_i32 : BitVec 32 := 1#32
  let arg7 : BitVec 32 := Scf.iv c0_i32 c1_i32 k0_t1
  let v831 : Index := Scalar.indexCast arg7
  let c0_1035 : Index := 0#32
  let c0_1036 : Index := 0#32
  ![0, 0, v831.toNat, 0, 0]
def k0_off3 (k0_t1 : Fin k0_t1_loop.trips) : Fin 6 → Nat :=
  let c0_i32 : BitVec 32 := 0#32
  let c1_i32 : BitVec 32 := 1#32
  let arg7 : BitVec 32 := Scf.iv c0_i32 c1_i32 k0_t1
  let v835 : Index := Scalar.indexCast arg7
  let c0_1037 : Index := 0#32
  let c0_1038 : Index := 0#32
  let c1_1039 : Index := 1#32
  let c0_1040 : Index := 0#32
  let c0_1041 : Index := 0#32
  ![v835.toNat, 0, 0, 1, 0, 0]
def k0_off4 (k0_t1 : Fin k0_t1_loop.trips) : Fin 5 → Nat :=
  let c0_1043 : Index := 0#32
  let c1_1044 : Index := 1#32
  let c0_i32 : BitVec 32 := 0#32
  let c1_i32 : BitVec 32 := 1#32
  let arg7 : BitVec 32 := Scf.iv c0_i32 c1_i32 k0_t1
  let v840 : Index := Scalar.indexCast arg7
  let c0_1045 : Index := 0#32
  let c0_1046 : Index := 0#32
  ![0, 1, v840.toNat, 0, 0]
def k0_off5 (k0_t1 : Fin k0_t1_loop.trips) : Fin 6 → Nat :=
  let c0_i32 : BitVec 32 := 0#32
  let c1_i32 : BitVec 32 := 1#32
  let arg7 : BitVec 32 := Scf.iv c0_i32 c1_i32 k0_t1
  let v844 : Index := Scalar.indexCast arg7
  let c0_1047 : Index := 0#32
  let c1_1048 : Index := 1#32
  let c0_1049 : Index := 0#32
  let c0_1050 : Index := 0#32
  let c0_1051 : Index := 0#32
  ![v844.toNat, 0, 1, 0, 0, 0]
def k0_off6 (k0_t1 : Fin k0_t1_loop.trips) : Fin 5 → Nat :=
  let c1_1053 : Index := 1#32
  let c0_1054 : Index := 0#32
  let c0_i32 : BitVec 32 := 0#32
  let c1_i32 : BitVec 32 := 1#32
  let arg7 : BitVec 32 := Scf.iv c0_i32 c1_i32 k0_t1
  let v849 : Index := Scalar.indexCast arg7
  let c0_1055 : Index := 0#32
  let c0_1056 : Index := 0#32
  ![1, 0, v849.toNat, 0, 0]
def k0_off7 (k0_t1 : Fin k0_t1_loop.trips) : Fin 6 → Nat :=
  let c0_i32 : BitVec 32 := 0#32
  let c1_i32 : BitVec 32 := 1#32
  let arg7 : BitVec 32 := Scf.iv c0_i32 c1_i32 k0_t1
  let v853 : Index := Scalar.indexCast arg7
  let c0_1057 : Index := 0#32
  let c1_1058 : Index := 1#32
  let c1_1059 : Index := 1#32
  let c0_1060 : Index := 0#32
  let c0_1061 : Index := 0#32
  ![v853.toNat, 0, 1, 1, 0, 0]
def k0_off8 (k0_t1 : Fin k0_t1_loop.trips) : Fin 5 → Nat :=
  let c1_1063 : Index := 1#32
  let c1_1064 : Index := 1#32
  let c0_i32 : BitVec 32 := 0#32
  let c1_i32 : BitVec 32 := 1#32
  let arg7 : BitVec 32 := Scf.iv c0_i32 c1_i32 k0_t1
  let v858 : Index := Scalar.indexCast arg7
  let c0_1065 : Index := 0#32
  let c0_1066 : Index := 0#32
  ![1, 1, v858.toNat, 0, 0]
def cc0_transform_0 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S32x1x2x2x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2x8x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2x8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x2x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CmpProjRefIdeal.lean ====
abbrev S10240x128x2x4x2x64 : Shape := ⟨6, ![10240, 128, 2, 4, 2, 64]⟩
abbrev S2x32x64 : Shape := ⟨3, ![2, 32, 64]⟩
abbrev S2x32x64x128 : Shape := ⟨4, ![2, 32, 64, 128]⟩
abbrev S10240x128x1x2x2x64 : Shape := ⟨6, ![10240, 128, 1, 2, 2, 64]⟩
abbrev S10240x128x2x2x64 : Shape := ⟨5, ![10240, 128, 2, 2, 64]⟩
abbrev S10240x8x16x2x2x64 : Shape := ⟨6, ![10240, 8, 16, 2, 2, 64]⟩
abbrev S2x16x64 : Shape := ⟨3, ![2, 16, 64]⟩
abbrev S16x2x64 : Shape := ⟨3, ![16, 2, 64]⟩
abbrev S16x2x1x64 : Shape := ⟨4, ![16, 2, 1, 64]⟩
abbrev S1x1x16x2x1x64 : Shape := ⟨6, ![1, 1, 16, 2, 1, 64]⟩
abbrev S2x16x64x128 : Shape := ⟨4, ![2, 16, 64, 128]⟩
abbrev S2x128x10240x8x2 : Shape := ⟨5, ![2, 128, 10240, 8, 2]⟩
abbrev S2x2x10240x8x128 : Shape := ⟨5, ![2, 2, 10240, 8, 128]⟩
abbrev S2x2x10240x8x256 : Shape := ⟨5, ![2, 2, 10240, 8, 256]⟩
abbrev S2x2x81920x256 : Shape := ⟨4, ![2, 2, 81920, 256]⟩

abbrev nBuf : Space → Nat
  | .hbm => 26
  | .vmem => 0
  | .smem => 0
  | _ => 0

abbrev bufTy : (tb : Table) → Fin (tcTables nBuf tb) → BufTy
  | .hbm, ⟨0, _⟩ => ⟨S10240x128x2x4x2x64, .f32⟩
  | .hbm, ⟨1, _⟩ => ⟨S2x32x64, .f32⟩
  | .hbm, ⟨2, _⟩ => ⟨S2x32x64x128, .f32⟩
  | .hbm, ⟨3, _⟩ => ⟨S10240x128x1x2x2x64, .f32⟩
  | .hbm, ⟨4, _⟩ => ⟨S10240x128x2x2x64, .f32⟩
  | .hbm, ⟨5, _⟩ => ⟨S10240x8x16x2x2x64, .f32⟩
  | .hbm, ⟨6, _⟩ => ⟨S2x16x64, .f32⟩
  | .hbm, ⟨7, _⟩ => ⟨S16x2x64, .f32⟩
  | .hbm, ⟨8, _⟩ => ⟨S16x2x1x64, .f32⟩
  | .hbm, ⟨9, _⟩ => ⟨S1x1x16x2x1x64, .f32⟩
  | .hbm, ⟨10, _⟩ => ⟨S10240x8x16x2x2x64, .f32⟩
  | .hbm, ⟨11, _⟩ => ⟨S10240x8x16x2x2x64, .f32⟩
  | .hbm, ⟨12, _⟩ => ⟨S2x16x64x128, .f32⟩
  | .hbm, ⟨13, _⟩ => ⟨S2x128x10240x8x2, .f32⟩
  | .hbm, ⟨14, _⟩ => ⟨S2x2x10240x8x128, .f32⟩
  | .hbm, ⟨15, _⟩ => ⟨S2x16x64, .f32⟩
  | .hbm, ⟨16, _⟩ => ⟨S16x2x64, .f32⟩
  | .hbm, ⟨17, _⟩ => ⟨S16x2x1x64, .f32⟩
  | .hbm, ⟨18, _⟩ => ⟨S1x1x16x2x1x64, .f32⟩
  | .hbm, ⟨19, _⟩ => ⟨S10240x8x16x2x2x64, .f32⟩
  | .hbm, ⟨20, _⟩ => ⟨S10240x8x16x2x2x64, .f32⟩
  | .hbm, ⟨21, _⟩ => ⟨S2x16x64x128, .f32⟩
  | .hbm, ⟨22, _⟩ => ⟨S2x128x10240x8x2, .f32⟩
  | .hbm, ⟨23, _⟩ => ⟨S2x2x10240x8x128, .f32⟩
  | .hbm, ⟨24, _⟩ => ⟨S2x2x10240x8x256, .f32⟩
  | .hbm, ⟨25, _⟩ => ⟨S2x2x81920x256, .f32⟩
  | _, _ => ⟨S10240x128x2x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== DiffPrompt.lean ====
abbrev S8x2048x512 : Shape := ⟨3, ![8, 2048, 512]⟩
abbrev S8x2048x256 : Shape := ⟨3, ![8, 2048, 256]⟩
abbrev S_ : Shape := ⟨0, ![]⟩
abbrev S128 : Shape := ⟨1, ![128]⟩
abbrev S8x2048x2x2x2x64 : Shape := ⟨6, ![8, 2048, 2, 2, 2, 64]⟩
abbrev S8x2x2x2x2048x64 : Shape := ⟨6, ![8, 2, 2, 2, 2048, 64]⟩
abbrev S8x2x2x1x2048x64 : Shape := ⟨6, ![8, 2, 2, 1, 2048, 64]⟩
abbrev S8x2x2x2048x64 : Shape := ⟨5, ![8, 2, 2, 2048, 64]⟩
abbrev S8x2x2x2048x128 : Shape := ⟨5, ![8, 2, 2, 2048, 128]⟩
abbrev S8x2x2x1x2048x128 : Shape := ⟨6, ![8, 2, 2, 1, 2048, 128]⟩
abbrev S8x2x2x2x2048x128 : Shape := ⟨6, ![8, 2, 2, 2, 2048, 128]⟩
abbrev S8x2x4x2048x128 : Shape := ⟨5, ![8, 2, 4, 2048, 128]⟩
abbrev S4 : Shape := ⟨1, ![4]⟩
abbrev S2x2 : Shape := ⟨2, ![2, 2]⟩
abbrev S2x2x2 : Shape := ⟨3, ![2, 2, 2]⟩
abbrev S2x4 : Shape := ⟨2, ![2, 4]⟩
abbrev S2x4x1x1 : Shape := ⟨4, ![2, 4, 1, 1]⟩
abbrev S8x2048x2x128 : Shape := ⟨4, ![8, 2048, 2, 128]⟩
abbrev S8x2x2048x128 : Shape := ⟨4, ![8, 2, 2048, 128]⟩
abbrev S1x1 : Shape := ⟨2, ![1, 1]⟩
abbrev S1x128 : Shape := ⟨2, ![1, 128]⟩
abbrev S1x1x4x256x128 : Shape := ⟨5, ![1, 1, 4, 256, 128]⟩
abbrev S1x1x2048x128 : Shape := ⟨4, ![1, 1, 2048, 128]⟩
abbrev S1x4x1x1 : Shape := ⟨4, ![1, 4, 1, 1]⟩
abbrev S1x1x2x256x128 : Shape := ⟨5, ![1, 1, 2, 256, 128]⟩
abbrev S4x256x128 : Shape := ⟨3, ![4, 256, 128]⟩
abbrev S1024x128 : Shape := ⟨2, ![1024, 128]⟩
abbrev S4x1x1 : Shape := ⟨3, ![4, 1, 1]⟩
abbrev S256x1 : Shape := ⟨2, ![256, 1]⟩
abbrev S4x256x1 : Shape := ⟨3, ![4, 256, 1]⟩
abbrev S1x256 : Shape := ⟨2, ![1, 256]⟩
abbrev S256x256 : Shape := ⟨2, ![256, 256]⟩
abbrev S2048x128 : Shape := ⟨2, ![2048, 128]⟩
abbrev S256x128 : Shape := ⟨2, ![256, 128]⟩
abbrev S1x1x256x128 : Shape := ⟨4, ![1, 1, 256, 128]⟩
abbrev S1024x256 : Shape := ⟨2, ![1024, 256]⟩
abbrev S4x256x256 : Shape := ⟨3, ![4, 256, 256]⟩
abbrev S1x256x256 : Shape := ⟨3, ![1, 256, 256]⟩
abbrev S4x256 : Shape := ⟨2, ![4, 256]⟩
abbrev S2x2x256x128 : Shape := ⟨4, ![2, 2, 256, 128]⟩
abbrev S2x1x256x128 : Shape := ⟨4, ![2, 1, 256, 128]⟩
abbrev S2x256x128 : Shape := ⟨3, ![2, 256, 128]⟩
abbrev S1x1x1 : Shape := ⟨3, ![1, 1, 1]⟩
abbrev S2x256 : Shape := ⟨2, ![2, 256]⟩
abbrev S2x256x1 : Shape := ⟨3, ![2, 256, 1]⟩
abbrev S1x1x128 : Shape := ⟨3, ![1, 1, 128]⟩

abbrev nBuf : Space → Nat
  | .hbm => 45
  | .vmem => 12
  | .smem => 0
  | _ => 0

abbrev bufTy : (tb : Table) → Fin (tcTables nBuf tb) → BufTy
  | .hbm, ⟨0, _⟩ => ⟨S8x2048x512, .f32⟩
  | .hbm, ⟨1, _⟩ => ⟨S8x2048x256, .f32⟩
  | .hbm, ⟨2, _⟩ => ⟨S8x2048x256, .f32⟩
  | .hbm, ⟨3, _⟩ => ⟨S_, .f32⟩
  | .hbm, ⟨4, _⟩ => ⟨S128, .f32⟩
  | .hbm, ⟨5, _⟩ => ⟨S8x2048x2x2x2x64, .f32⟩
  | .hbm, ⟨6, _⟩ => ⟨S8x2x2x2x2048x64, .f32⟩
  | .hbm, ⟨7, _⟩ => ⟨S8x2x2x1x2048x64, .f32⟩
  | .hbm, ⟨8, _⟩ => ⟨S8x2x2x2048x64, .f32⟩
  | .hbm, ⟨9, _⟩ => ⟨S_, .f32⟩
  | .hbm, ⟨10, _⟩ => ⟨S8x2x2x2048x64, .f32⟩
  | .hbm, ⟨11, _⟩ => ⟨S8x2x2x1x2048x64, .f32⟩
  | .hbm, ⟨12, _⟩ => ⟨S8x2x2x2048x64, .f32⟩
  | .hbm, ⟨13, _⟩ => ⟨S8x2x2x2048x128, .f32⟩
  | .hbm, ⟨14, _⟩ => ⟨S8x2x2x1x2048x64, .f32⟩
  | .hbm, ⟨15, _⟩ => ⟨S8x2x2x2048x64, .f32⟩
  | .hbm, ⟨16, _⟩ => ⟨S8x2x2x2048x128, .f32⟩
  | .hbm, ⟨17, _⟩ => ⟨S8x2x2x1x2048x128, .f32⟩
  | .hbm, ⟨18, _⟩ => ⟨S8x2x2x1x2048x128, .f32⟩
  | .hbm, ⟨19, _⟩ => ⟨S8x2x2x2x2048x128, .f32⟩
  | .hbm, ⟨20, _⟩ => ⟨S8x2x4x2048x128, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S2x2, .f32⟩
  | .hbm, ⟨35, _⟩ => ⟨S2x2x2, .f32⟩
  | .hbm, ⟨36, _⟩ => ⟨S2x4, .f32⟩
  | .hbm, ⟨37, _⟩ => ⟨S2x4x1x1, .f32⟩
  | .hbm, ⟨38, _⟩ => ⟨S8x2048x2x128, .f32⟩
  | .hbm, ⟨39, _⟩ => ⟨S8x2x2048x128, .f32⟩
  | .hbm, ⟨40, _⟩ => ⟨S8x2048x2x128, .f32⟩
  | .hbm, ⟨41, _⟩ => ⟨S8x2x2048x128, .f32⟩
  | .hbm, ⟨42, _⟩ => ⟨S1x1, .f32⟩
  | .hbm, ⟨43, _⟩ => ⟨S1x128, .f32⟩
  | .hbm, ⟨44, _⟩ => ⟨S8x2x2x2048x128, .f32⟩
  | .local _ .vmem, ⟨0, _⟩ => ⟨S1x1x4x256x128, .f32⟩
  | .local _ .vmem, ⟨1, _⟩ => ⟨S1x1x4x256x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S1x4x1x1, .f32⟩
  | .local _ .vmem, ⟨7, _⟩ => ⟨S1x4x1x1, .f32⟩
  | .local _ .vmem, ⟨8, _⟩ => ⟨S1x1, .f32⟩
  | .local _ .vmem, ⟨9, _⟩ => ⟨S1x128, .f32⟩
  | .local _ .vmem, ⟨10, _⟩ => ⟨S1x1x2x256x128, .f32⟩
  | .local _ .vmem, ⟨11, _⟩ => ⟨S1x1x2x256x128, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 2, 8], ![false, false, false]⟩

@[reducible] def k0_t1_loop (i : grid0.Coords) : Scf.Loop 32 :=
  let c0_i32_20 : BitVec 32 := 0#32
  let arg2 : BitVec 32 := BitVec.ofNat 32 (i 2).val
  let c256_i32 : BitVec 32 := 256#32
  let v0 : BitVec 32 := Scalar.muli arg2 c256_i32
  let c256_i32_8 : BitVec 32 := 256#32
  let v10 : BitVec 32 := Scalar.addi v0 c256_i32_8
  let c256_i32_9 : BitVec 32 := 256#32
  let v11 : BitVec 32 := Scalar.addi v10 c256_i32_9
  let c1_i32 : BitVec 32 := 1#32
  let v12 : BitVec 32 := Scalar.subi v11 c1_i32
  let c0_i32 : BitVec 32 := 0#32
  let v14 : BitVec 1 := Scalar.cmpi .sgt v12 c0_i32
  let v15 : BitVec 32 := Scalar.extui v14
  let c0_i32_11 : BitVec 32 := 0#32
  let v16 : BitVec 1 := Scalar.cmpi .slt v12 c0_i32_11
  let v17 : BitVec 32 := Scalar.extui v16
  let v18 : BitVec 32 := Scalar.subi v15 v17
  let c256_i32_10 : BitVec 32 := 256#32
  let c0_i32_12 : BitVec 32 := 0#32
  let v19 : BitVec 1 := Scalar.cmpi .sgt c256_i32_10 c0_i32_12
  let v20 : BitVec 32 := Scalar.extui v19
  let c0_i32_13 : BitVec 32 := 0#32
  let v21 : BitVec 1 := Scalar.cmpi .slt c256_i32_10 c0_i32_13
  let v22 : BitVec 32 := Scalar.extui v21
  let v23 : BitVec 32 := Scalar.subi v20 v22
  let v24 : BitVec 1 := Scalar.cmpi .ne v18 v23
  let v25 : BitVec 32 := Scalar.remsi v12 c256_i32_10
  let c0_i32_14 : BitVec 32 := 0#32
  let v26 : BitVec 1 := Scalar.cmpi .ne v25 c0_i32_14
  let v27 : BitVec 1 := Scalar.andi v24 v26
  let v13 : BitVec 32 := Scalar.divsi v12 c256_i32_10
  let c1_i32_15 : BitVec 32 := 1#32
  let v28 : BitVec 32 := Scalar.subi v13 c1_i32_15
  let v29 : BitVec 32 := Scalar.select v27 v28 v13
  let v33 : BitVec 32 := Scalar.subi v29 c0_i32_20
  let c1_i32_21 : BitVec 32 := 1#32
  let v35 : BitVec 32 := Scalar.divsi v33 c1_i32_21
  let v36 : BitVec 32 := Scalar.muli v35 c1_i32_21
  let v37 : BitVec 32 := Scalar.addi c0_i32_20 v36
  let c1_i32_22 : BitVec 32 := 1#32
  ⟨c0_i32_20, v37, c1_i32_22⟩
def k0_mult1 (i : grid0.Coords) (k0_t1 : Fin (k0_t1_loop i).trips) : BitVec 32 :=
  let c0_i32_20 : BitVec 32 := 0#32
  let c1_i32_22 : BitVec 32 := 1#32
  let arg10 : BitVec 32 := Scf.iv c0_i32_20 c1_i32_22 k0_t1
  let c256_i32_39 : BitVec 32 := 256#32
  let v77 : BitVec 32 := Scalar.muli arg10 c256_i32_39
  v77
def k0_off1 (i : grid0.Coords) (k0_t1 : Fin (k0_t1_loop i).trips) : Fin 2 → Nat :=
  let c0_i32_20 : BitVec 32 := 0#32
  let c1_i32_22 : BitVec 32 := 1#32
  let arg10 : BitVec 32 := Scf.iv c0_i32_20 c1_i32_22 k0_t1
  let c256_i32_39 : BitVec 32 := 256#32
  let v77 : BitVec 32 := Scalar.muli arg10 c256_i32_39
  let v78 : BitVec 32 := v77
  let v87 : Index := Scalar.indexCast v78
  let c0_42 : Index := 0#32
  ![v87.toNat, 0]
def k0_off2 (i : grid0.Coords) (k0_t1 : Fin (k0_t1_loop i).trips) : Fin 4 → Nat :=
  let c0_43 : Index := 0#32
  let c0_44 : Index := 0#32
  let c0_i32_20 : BitVec 32 := 0#32
  let c1_i32_22 : BitVec 32 := 1#32
  let arg10 : BitVec 32 := Scf.iv c0_i32_20 c1_i32_22 k0_t1
  let c256_i32_39 : BitVec 32 := 256#32
  let v77 : BitVec 32 := Scalar.muli arg10 c256_i32_39
  let v78 : BitVec 32 := v77
  let v90 : Index := Scalar.indexCast v78
  let c0_45 : Index := 0#32
  ![0, 0, v90.toNat, 0]
@[reducible] def k0_t2_loop (i : grid0.Coords) : Scf.Loop 32 :=
  let c0_i32_20 : BitVec 32 := 0#32
  let arg2 : BitVec 32 := BitVec.ofNat 32 (i 2).val
  let c256_i32 : BitVec 32 := 256#32
  let v0 : BitVec 32 := Scalar.muli arg2 c256_i32
  let c256_i32_8 : BitVec 32 := 256#32
  let v10 : BitVec 32 := Scalar.addi v0 c256_i32_8
  let c256_i32_9 : BitVec 32 := 256#32
  let v11 : BitVec 32 := Scalar.addi v10 c256_i32_9
  let c1_i32 : BitVec 32 := 1#32
  let v12 : BitVec 32 := Scalar.subi v11 c1_i32
  let c0_i32 : BitVec 32 := 0#32
  let v14 : BitVec 1 := Scalar.cmpi .sgt v12 c0_i32
  let v15 : BitVec 32 := Scalar.extui v14
  let c0_i32_11 : BitVec 32 := 0#32
  let v16 : BitVec 1 := Scalar.cmpi .slt v12 c0_i32_11
  let v17 : BitVec 32 := Scalar.extui v16
  let v18 : BitVec 32 := Scalar.subi v15 v17
  let c256_i32_10 : BitVec 32 := 256#32
  let c0_i32_12 : BitVec 32 := 0#32
  let v19 : BitVec 1 := Scalar.cmpi .sgt c256_i32_10 c0_i32_12
  let v20 : BitVec 32 := Scalar.extui v19
  let c0_i32_13 : BitVec 32 := 0#32
  let v21 : BitVec 1 := Scalar.cmpi .slt c256_i32_10 c0_i32_13
  let v22 : BitVec 32 := Scalar.extui v21
  let v23 : BitVec 32 := Scalar.subi v20 v22
  let v24 : BitVec 1 := Scalar.cmpi .ne v18 v23
  let v25 : BitVec 32 := Scalar.remsi v12 c256_i32_10
  let c0_i32_14 : BitVec 32 := 0#32
  let v26 : BitVec 1 := Scalar.cmpi .ne v25 c0_i32_14
  let v27 : BitVec 1 := Scalar.andi v24 v26
  let v13 : BitVec 32 := Scalar.divsi v12 c256_i32_10
  let c1_i32_15 : BitVec 32 := 1#32
  let v28 : BitVec 32 := Scalar.subi v13 c1_i32_15
  let v29 : BitVec 32 := Scalar.select v27 v28 v13
  let v33 : BitVec 32 := Scalar.subi v29 c0_i32_20
  let c1_i32_21 : BitVec 32 := 1#32
  let v35 : BitVec 32 := Scalar.divsi v33 c1_i32_21
  let v36 : BitVec 32 := Scalar.muli v35 c1_i32_21
  let v37 : BitVec 32 := Scalar.addi c0_i32_20 v36
  let v34 : BitVec 32 := Scalar.addi c0_i32_20 v33
  let c1_i32_23 : BitVec 32 := 1#32
  ⟨v37, v34, c1_i32_23⟩
def k0_mult2 (i : grid0.Coords) (k0_t2 : Fin (k0_t2_loop i).trips) : BitVec 32 :=
  let c0_i32_20 : BitVec 32 := 0#32
  let arg2 : BitVec 32 := BitVec.ofNat 32 (i 2).val
  let c256_i32 : BitVec 32 := 256#32
  let v0 : BitVec 32 := Scalar.muli arg2 c256_i32
  let c256_i32_8 : BitVec 32 := 256#32
  let v10 : BitVec 32 := Scalar.addi v0 c256_i32_8
  let c256_i32_9 : BitVec 32 := 256#32
  let v11 : BitVec 32 := Scalar.addi v10 c256_i32_9
  let c1_i32 : BitVec 32 := 1#32
  let v12 : BitVec 32 := Scalar.subi v11 c1_i32
  let c0_i32 : BitVec 32 := 0#32
  let v14 : BitVec 1 := Scalar.cmpi .sgt v12 c0_i32
  let v15 : BitVec 32 := Scalar.extui v14
  let c0_i32_11 : BitVec 32 := 0#32
  let v16 : BitVec 1 := Scalar.cmpi .slt v12 c0_i32_11
  let v17 : BitVec 32 := Scalar.extui v16
  let v18 : BitVec 32 := Scalar.subi v15 v17
  let c256_i32_10 : BitVec 32 := 256#32
  let c0_i32_12 : BitVec 32 := 0#32
  let v19 : BitVec 1 := Scalar.cmpi .sgt c256_i32_10 c0_i32_12
  let v20 : BitVec 32 := Scalar.extui v19
  let c0_i32_13 : BitVec 32 := 0#32
  let v21 : BitVec 1 := Scalar.cmpi .slt c256_i32_10 c0_i32_13
  let v22 : BitVec 32 := Scalar.extui v21
  let v23 : BitVec 32 := Scalar.subi v20 v22
  let v24 : BitVec 1 := Scalar.cmpi .ne v18 v23
  let v25 : BitVec 32 := Scalar.remsi v12 c256_i32_10
  let c0_i32_14 : BitVec 32 := 0#32
  let v26 : BitVec 1 := Scalar.cmpi .ne v25 c0_i32_14
  let v27 : BitVec 1 := Scalar.andi v24 v26
  let v13 : BitVec 32 := Scalar.divsi v12 c256_i32_10
  let c1_i32_15 : BitVec 32 := 1#32
  let v28 : BitVec 32 := Scalar.subi v13 c1_i32_15
  let v29 : BitVec 32 := Scalar.select v27 v28 v13
  let v33 : BitVec 32 := Scalar.subi v29 c0_i32_20
  let c1_i32_21 : BitVec 32 := 1#32
  let v35 : BitVec 32 := Scalar.divsi v33 c1_i32_21
  let v36 : BitVec 32 := Scalar.muli v35 c1_i32_21
  let v37 : BitVec 32 := Scalar.addi c0_i32_20 v36
  let c1_i32_23 : BitVec 32 := 1#32
  let arg10 : BitVec 32 := Scf.iv v37 c1_i32_23 k0_t2
  let c256_i32_39 : BitVec 32 := 256#32
  let v77 : BitVec 32 := Scalar.muli arg10 c256_i32_39
  v77
def k0_off3 (i : grid0.Coords) (k0_t2 : Fin (k0_t2_loop i).trips) : Fin 2 → Nat :=
  let c0_i32_20 : BitVec 32 := 0#32
  let arg2 : BitVec 32 := BitVec.ofNat 32 (i 2).val
  let c256_i32 : BitVec 32 := 256#32
  let v0 : BitVec 32 := Scalar.muli arg2 c256_i32
  let c256_i32_8 : BitVec 32 := 256#32
  let v10 : BitVec 32 := Scalar.addi v0 c256_i32_8
  let c256_i32_9 : BitVec 32 := 256#32
  let v11 : BitVec 32 := Scalar.addi v10 c256_i32_9
  let c1_i32 : BitVec 32 := 1#32
  let v12 : BitVec 32 := Scalar.subi v11 c1_i32
  let c0_i32 : BitVec 32 := 0#32
  let v14 : BitVec 1 := Scalar.cmpi .sgt v12 c0_i32
  let v15 : BitVec 32 := Scalar.extui v14
  let c0_i32_11 : BitVec 32 := 0#32
  let v16 : BitVec 1 := Scalar.cmpi .slt v12 c0_i32_11
  let v17 : BitVec 32 := Scalar.extui v16
  let v18 : BitVec 32 := Scalar.subi v15 v17
  let c256_i32_10 : BitVec 32 := 256#32
  let c0_i32_12 : BitVec 32 := 0#32
  let v19 : BitVec 1 := Scalar.cmpi .sgt c256_i32_10 c0_i32_12
  let v20 : BitVec 32 := Scalar.extui v19
  let c0_i32_13 : BitVec 32 := 0#32
  let v21 : BitVec 1 := Scalar.cmpi .slt c256_i32_10 c0_i32_13
  let v22 : BitVec 32 := Scalar.extui v21
  let v23 : BitVec 32 := Scalar.subi v20 v22
  let v24 : BitVec 1 := Scalar.cmpi .ne v18 v23
  let v25 : BitVec 32 := Scalar.remsi v12 c256_i32_10
  let c0_i32_14 : BitVec 32 := 0#32
  let v26 : BitVec 1 := Scalar.cmpi .ne v25 c0_i32_14
  let v27 : BitVec 1 := Scalar.andi v24 v26
  let v13 : BitVec 32 := Scalar.divsi v12 c256_i32_10
  let c1_i32_15 : BitVec 32 := 1#32
  let v28 : BitVec 32 := Scalar.subi v13 c1_i32_15
  let v29 : BitVec 32 := Scalar.select v27 v28 v13
  let v33 : BitVec 32 := Scalar.subi v29 c0_i32_20
  let c1_i32_21 : BitVec 32 := 1#32
  let v35 : BitVec 32 := Scalar.divsi v33 c1_i32_21
  let v36 : BitVec 32 := Scalar.muli v35 c1_i32_21
  let v37 : BitVec 32 := Scalar.addi c0_i32_20 v36
  let c1_i32_23 : BitVec 32 := 1#32
  let arg10 : BitVec 32 := Scf.iv v37 c1_i32_23 k0_t2
  let c256_i32_39 : BitVec 32 := 256#32
  let v77 : BitVec 32 := Scalar.muli arg10 c256_i32_39
  let v78 : BitVec 32 := v77
  let v87 : Index := Scalar.indexCast v78
  let c0_42 : Index := 0#32
  ![v87.toNat, 0]
def k0_off4 (i : grid0.Coords) (k0_t2 : Fin (k0_t2_loop i).trips) : Fin 4 → Nat :=
  let c0_43 : Index := 0#32
  let c0_44 : Index := 0#32
  let c0_i32_20 : BitVec 32 := 0#32
  let arg2 : BitVec 32 := BitVec.ofNat 32 (i 2).val
  let c256_i32 : BitVec 32 := 256#32
  let v0 : BitVec 32 := Scalar.muli arg2 c256_i32
  let c256_i32_8 : BitVec 32 := 256#32
  let v10 : BitVec 32 := Scalar.addi v0 c256_i32_8
  let c256_i32_9 : BitVec 32 := 256#32
  let v11 : BitVec 32 := Scalar.addi v10 c256_i32_9
  let c1_i32 : BitVec 32 := 1#32
  let v12 : BitVec 32 := Scalar.subi v11 c1_i32
  let c0_i32 : BitVec 32 := 0#32
  let v14 : BitVec 1 := Scalar.cmpi .sgt v12 c0_i32
  let v15 : BitVec 32 := Scalar.extui v14
  let c0_i32_11 : BitVec 32 := 0#32
  let v16 : BitVec 1 := Scalar.cmpi .slt v12 c0_i32_11
  let v17 : BitVec 32 := Scalar.extui v16
  let v18 : BitVec 32 := Scalar.subi v15 v17
  let c256_i32_10 : BitVec 32 := 256#32
  let c0_i32_12 : BitVec 32 := 0#32
  let v19 : BitVec 1 := Scalar.cmpi .sgt c256_i32_10 c0_i32_12
  let v20 : BitVec 32 := Scalar.extui v19
  let c0_i32_13 : BitVec 32 := 0#32
  let v21 : BitVec 1 := Scalar.cmpi .slt c256_i32_10 c0_i32_13
  let v22 : BitVec 32 := Scalar.extui v21
  let v23 : BitVec 32 := Scalar.subi v20 v22
  let v24 : BitVec 1 := Scalar.cmpi .ne v18 v23
  let v25 : BitVec 32 := Scalar.remsi v12 c256_i32_10
  let c0_i32_14 : BitVec 32 := 0#32
  let v26 : BitVec 1 := Scalar.cmpi .ne v25 c0_i32_14
  let v27 : BitVec 1 := Scalar.andi v24 v26
  let v13 : BitVec 32 := Scalar.divsi v12 c256_i32_10
  let c1_i32_15 : BitVec 32 := 1#32
  let v28 : BitVec 32 := Scalar.subi v13 c1_i32_15
  let v29 : BitVec 32 := Scalar.select v27 v28 v13
  let v33 : BitVec 32 := Scalar.subi v29 c0_i32_20
  let c1_i32_21 : BitVec 32 := 1#32
  let v35 : BitVec 32 := Scalar.divsi v33 c1_i32_21
  let v36 : BitVec 32 := Scalar.muli v35 c1_i32_21
  let v37 : BitVec 32 := Scalar.addi c0_i32_20 v36
  let c1_i32_23 : BitVec 32 := 1#32
  let arg10 : BitVec 32 := Scf.iv v37 c1_i32_23 k0_t2
  let c256_i32_39 : BitVec 32 := 256#32
  let v77 : BitVec 32 := Scalar.muli arg10 c256_i32_39
  let v78 : BitVec 32 := v77
  let v90 : Index := Scalar.indexCast v78
  let c0_45 : Index := 0#32
  ![0, 0, v90.toNat, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

abbrev stage0_0 : Fin 2 → Memref sig .tc .vmem S1x1x4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1x2x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== DiffPromptRefIdeal.lean ====
abbrev S8x2048x512 : Shape := ⟨3, ![8, 2048, 512]⟩
abbrev S8x2048x256 : Shape := ⟨3, ![8, 2048, 256]⟩
abbrev S_ : Shape := ⟨0, ![]⟩
abbrev S128 : Shape := ⟨1, ![128]⟩
abbrev S8x2048x2x2x2x64 : Shape := ⟨6, ![8, 2048, 2, 2, 2, 64]⟩
abbrev S8x2048x2x2x64 : Shape := ⟨5, ![8, 2048, 2, 2, 64]⟩
abbrev S8x2048x2x128 : Shape := ⟨4, ![8, 2048, 2, 128]⟩
abbrev S4 : Shape := ⟨1, ![4]⟩
abbrev S1x2x2x1x1x1 : Shape := ⟨6, ![1, 2, 2, 1, 1, 1]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x2x2x2048x2048x2 : Shape := ⟨6, ![8, 2, 2, 2048, 2048, 2]⟩
abbrev S8x2x2x2x2048x2048 : Shape := ⟨6, ![8, 2, 2, 2, 2048, 2048]⟩
abbrev S1x1x1x1x2048x2048 : Shape := ⟨6, ![1, 1, 1, 1, 2048, 2048]⟩
abbrev S1x2x2x1x2048x2048 : Shape := ⟨6, ![1, 2, 2, 1, 2048, 2048]⟩
abbrev S8x2x2x2x2048 : Shape := ⟨5, ![8, 2, 2, 2, 2048]⟩
abbrev S8x2x2x2x2048x1 : Shape := ⟨6, ![8, 2, 2, 2, 2048, 1]⟩
abbrev S8x2x2x1x2048x2048 : Shape := ⟨6, ![8, 2, 2, 1, 2048, 2048]⟩
abbrev S8x2x2x2048x2048 : Shape := ⟨5, ![8, 2, 2, 2048, 2048]⟩
abbrev S8x2x2x2048x128 : Shape := ⟨5, ![8, 2, 2, 2048, 128]⟩
abbrev S8x2x2x2048 : Shape := ⟨4, ![8, 2, 2, 2048]⟩
abbrev S8x2x2x2048x1 : Shape := ⟨5, ![8, 2, 2, 2048, 1]⟩
abbrev S1x1x1x1x128 : Shape := ⟨5, ![1, 1, 1, 1, 128]⟩

abbrev nBuf : Space → Nat
  | .hbm => 102
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x256, .f32⟩
  | .hbm, ⟨2, _⟩ => ⟨S8x2048x256, .f32⟩
  | .hbm, ⟨3, _⟩ => ⟨S_, .f32⟩
  | .hbm, ⟨4, _⟩ => ⟨S128, .f32⟩
  | .hbm, ⟨5, _⟩ => ⟨S8x2048x2x2x2x64, .f32⟩
  | .hbm, ⟨6, _⟩ => ⟨S8x2048x2x2x64, .f32⟩
  | .hbm, ⟨7, _⟩ => ⟨S8x2048x2x128, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S_, .f32⟩
  | .hbm, ⟨19, _⟩ => ⟨S4, .f32⟩
  | .hbm, ⟨20, _⟩ => ⟨S4, .f32⟩
  | .hbm, ⟨21, _⟩ => ⟨S1x2x2x1x1x1, .f32⟩
  | .hbm, ⟨22, _⟩ => ⟨S2048, .i32⟩
  | .hbm, ⟨23, _⟩ => ⟨S2048x1, .i32⟩
  | .hbm, ⟨24, _⟩ => ⟨S2048, .i32⟩
  | .hbm, ⟨25, _⟩ => ⟨S1x2048, .i32⟩
  | .hbm, ⟨26, _⟩ => ⟨S2048x2048, .i32⟩
  | .hbm, ⟨27, _⟩ => ⟨S2048x2048, .i32⟩
  | .hbm, ⟨28, _⟩ => ⟨S2048x2048, .i32⟩
  | .hbm, ⟨29, _⟩ => ⟨S8x2x2x2048x2048x2, .f32⟩
  | .hbm, ⟨30, _⟩ => ⟨S8x2x2x2x2048x2048, .f32⟩
  | .hbm, ⟨31, _⟩ => ⟨S_, .f32⟩
  | .hbm, ⟨32, _⟩ => ⟨S8x2x2x2x2048x2048, .f32⟩
  | .hbm, ⟨33, _⟩ => ⟨S8x2x2x2x2048x2048, .f32⟩
  | .hbm, ⟨34, _⟩ => ⟨S2048x2048, .f32⟩
  | .hbm, ⟨35, _⟩ => ⟨S1x1x1x1x2048x2048, .f32⟩
  | .hbm, ⟨36, _⟩ => ⟨S1x2x2x1x2048x2048, .f32⟩
  | .hbm, ⟨37, _⟩ => ⟨S1x2x2x1x2048x2048, .f32⟩
  | .hbm, ⟨38, _⟩ => ⟨S1x2x2x1x2048x2048, .f32⟩
  | .hbm, ⟨39, _⟩ => ⟨S8x2x2x2x2048x2048, .f32⟩
  | .hbm, ⟨40, _⟩ => ⟨S8x2x2x2x2048x2048, .f32⟩
  | .hbm, ⟨41, _⟩ => ⟨S_, .i32⟩
  | .hbm, ⟨42, _⟩ => ⟨S2048x2048, .i32⟩
  | .hbm, ⟨43, _⟩ => ⟨S2048x2048, .i1⟩
  | .hbm, ⟨44, _⟩ => ⟨S_, .f32⟩
  | .hbm, ⟨45, _⟩ => ⟨S_, .f32⟩
  | .hbm, ⟨46, _⟩ => ⟨S8x2x2x2x2048x2048, .i1⟩
  | .hbm, ⟨47, _⟩ => ⟨S8x2x2x2x2048x2048, .f32⟩
  | .hbm, ⟨48, _⟩ => ⟨S8x2x2x2x2048x2048, .f32⟩
  | .hbm, ⟨49, _⟩ => ⟨S_, .f32⟩
  | .hbm, ⟨50, _⟩ => ⟨S8x2x2x2x2048, .f32⟩
  | .hbm, ⟨51, _⟩ => ⟨S8x2x2x2x2048x1, .f32⟩
  | .hbm, ⟨52, _⟩ => ⟨S8x2x2x2x2048x1, .f32⟩
  | .hbm, ⟨53, _⟩ => ⟨S_, .f32⟩
  | .hbm, ⟨54, _⟩ => ⟨S8x2x2x2x2048x1, .f32⟩
  | .hbm, ⟨55, _⟩ => ⟨S8x2x2x2x2048x1, .i1⟩
  | .hbm, ⟨56, _⟩ => ⟨S_, .f32⟩
  | .hbm, ⟨57, _⟩ => ⟨S_, .f32⟩
  | .hbm, ⟨58, _⟩ => ⟨S8x2x2x2x2048x1, .f32⟩
  | .hbm, ⟨59, _⟩ => ⟨S8x2x2x2x2048x1, .f32⟩
  | .hbm, ⟨60, _⟩ => ⟨S8x2x2x2x2048x2048, .f32⟩
  | .hbm, ⟨61, _⟩ => ⟨S8x2x2x2x2048x2048, .f32⟩
  | .hbm, ⟨62, _⟩ => ⟨S8x2x2x2x2048x2048, .f32⟩
  | .hbm, ⟨63, _⟩ => ⟨S_, .f32⟩
  | .hbm, ⟨64, _⟩ => ⟨S8x2x2x2x2048, .f32⟩
  | .hbm, ⟨65, _⟩ => ⟨S8x2x2x2x2048x1, .f32⟩
  | .hbm, ⟨66, _⟩ => ⟨S_, .f32⟩
  | .hbm, ⟨67, _⟩ => ⟨S8x2x2x2x2048x1, .f32⟩
  | .hbm, ⟨68, _⟩ => ⟨S8x2x2x2x2048x1, .i1⟩
  | .hbm, ⟨69, _⟩ => ⟨S_, .f32⟩
  | .hbm, ⟨70, _⟩ => ⟨S_, .f32⟩
  | .hbm, ⟨71, _⟩ => ⟨S8x2x2x2x2048x1, .f32⟩
  | .hbm, ⟨72, _⟩ => ⟨S8x2x2x2x2048x1, .f32⟩
  | .hbm, ⟨73, _⟩ => ⟨S8x2x2x2x2048x2048, .f32⟩
  | .hbm, ⟨74, _⟩ => ⟨S8x2x2x2x2048x2048, .f32⟩
  | .hbm, ⟨75, _⟩ => ⟨S8x2x2x1x2048x2048, .f32⟩
  | .hbm, ⟨76, _⟩ => ⟨S8x2x2x2048x2048, .f32⟩
  | .hbm, ⟨77, _⟩ => ⟨S8x2x2x1x2048x2048, .f32⟩
  | .hbm, ⟨78, _⟩ => ⟨S8x2x2x2048x2048, .f32⟩
  | .hbm, ⟨79, _⟩ => ⟨S8x2x2x2048x2048, .f32⟩
  | .hbm, ⟨80, _⟩ => ⟨S8x2x2x2048x2048, .f32⟩
  | .hbm, ⟨81, _⟩ => ⟨S8x2x2x2048x2048, .f32⟩
  | .hbm, ⟨82, _⟩ => ⟨S8x2x2x2048x128, .f32⟩
  | .hbm, ⟨83, _⟩ => ⟨S8x2x2x2048x128, .f32⟩
  | .hbm, ⟨84, _⟩ => ⟨S_, .f32⟩
  | .hbm, ⟨85, _⟩ => ⟨S8x2x2x2048, .f32⟩
  | .hbm, ⟨86, _⟩ => ⟨S8x2x2x2048x1, .f32⟩
  | .hbm, ⟨87, _⟩ => ⟨S_, .f32⟩
  | .hbm, ⟨88, _⟩ => ⟨S8x2x2x2048x1, .f32⟩
  | .hbm, ⟨89, _⟩ => ⟨S8x2x2x2048x1, .f32⟩
  | .hbm, ⟨90, _⟩ => ⟨S_, .f32⟩
  | .hbm, ⟨91, _⟩ => ⟨S8x2x2x2048x1, .f32⟩
  | .hbm, ⟨92, _⟩ => ⟨S8x2x2x2048x1, .f32⟩
  | .hbm, ⟨93, _⟩ => ⟨S8x2x2x2048x1, .f32⟩
  | .hbm, ⟨94, _⟩ => ⟨S8x2x2x2048x128, .f32⟩
  | .hbm, ⟨95, _⟩ => ⟨S8x2x2x2048x128, .f32⟩
  | .hbm, ⟨96, _⟩ => ⟨S1x1x1x1x128, .f32⟩
  | .hbm, ⟨97, _⟩ => ⟨S8x2x2x2048x128, .f32⟩
  | .hbm, ⟨98, _⟩ => ⟨S8x2x2x2048x128, .f32⟩
  | .hbm, ⟨99, _⟩ => ⟨S_, .f32⟩
  | .hbm, ⟨100, _⟩ => ⟨S8x2x2x2048x128, .f32⟩
  | .hbm, ⟨101, _⟩ => ⟨S8x2x2x2048x128, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_call1_v0 : Ref sig .tc := ⟨.hbm, 57, rfl⟩
abbrev main_call1_v1 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_call2_v0 : Ref sig .tc := ⟨.hbm, 70, rfl⟩
abbrev main_call2_v1 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]
-- ==== Proof.KernelIdealBody.lean ====
/- The frame of the prompt's latent-attention kernel (`KernelIdeal`): what one grid point's body leaves in the output
   block, from the query block and the batch element's rows of keys, and the run of the whole launch. The two counted
   loops over key tiles are carried by a recursion (`sweep`) on the running maximum, normaliser and accumulator. -/
module

public import proofs.«01_k».proof.Proof.Gen.KernelIdeal.Frame
public import proofs.«01_k».proof.Proof.Gen.KernelIdeal.Skeleton
public import Idealize.ShloMosaic.Lib.Claim
public import Idealize.ShloMosaic.Lib.VecWindow

@[expose] public section

set_option maxRecDepth 16384

noncomputable section

namespace Cert.KernelIdeal.Mla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a loop over key tiles carries: the running maximum, the normaliser and the accumulator. -/
abbrev Carry (F : FTy → Type) : Type := FVec F S8x128x1 .f32 × FVec F S8x128x1 .f32 × FVec F S8x128x256 .f32

/-- The carried value before trip `k` of an `n`-trip loop. -/
def sweep {σ : Type} (n : ℕ) (step : Fin n → σ → σ) (init : σ) : ℕ → σ
  | 0 => init
  | k + 1 => if h : k < n then step ⟨k, h⟩ (sweep n step init k) else sweep n step init k

theorem sweep_succ {σ : Type} (n : ℕ) (step : Fin n → σ → σ) (init : σ) (k : Fin n) :
    sweep n step init (k.val + 1) = step k (sweep n step init k.val) := by
  rw [sweep, dif_pos k.isLt]

theorem sweep_zero {σ : Type} (n : ℕ) (step : Fin n → σ → σ) (init : σ) : sweep n step init 0 = init := rfl

/-- The batch element's rows of keys, its unit axis dropped. -/
def keys (x1 : Vec F S1x2048x288 .f32) : Vec F S2048x288 .f32 :=
  fun y => x1 (Shape.reshapeEquiv squeezes_S1x2048x288_S2048x288.numel_eq y)

/-- The tile of keys trip `k` of the first loop loads. -/
def tile1 (i : grid0.Coords) (x1 : Vec F S1x2048x288 .f32) (k : Fin (k0_t1_loop i).trips) : Vec F S256x288 .f32 :=
  View.ld (keys x1) (Rect.unit (s := S2048x288) (k0_off1 i k) S256x288.size (k0_off1_inb i k))

/-- The tile of keys trip `k` of the second loop loads. -/
def tile2 (i : grid0.Coords) (x1 : Vec F S1x2048x288 .f32) (k : Fin (k0_t2_loop i).trips) : Vec F S256x288 .f32 :=
  View.ld (keys x1) (Rect.unit (s := S2048x288) (k0_off2 i k) S256x288.size (k0_off2_inb i k))

/-- One trip of the first loop. -/
def step1 (i : grid0.Coords) (v4 : FVec F S1024x288 .bf16) (v7 : IVec S128x1 32) (c0 c1 : BitVec 32) (x1 : Vec F S1x2048x288 .f32)
    (k : Fin (k0_t1_loop i).trips) (a : Carry F) : Carry F :=
  (k0_pay6 i v4 v7 c0 c1 k a.1 (tile1 i x1 k), k0_pay10 i v4 v7 c0 c1 k a.1 a.2.1 (tile1 i x1 k),
    k0_pay1 a.2.2 (k0_pay9 i v4 v7 c0 c1 k a.1 (tile1 i x1 k)) (k0_pay11 i v4 v7 c0 c1 k a.1 (tile1 i x1 k)))

/-- One trip of the second loop. -/
def step2 (i : grid0.Coords) (v4 : FVec F S1024x288 .bf16) (v7 : IVec S128x1 32) (v35 : BitVec 32) (x1 : Vec F S1x2048x288 .f32)
    (k : Fin (k0_t2_loop i).trips) (a : Carry F) : Carry F :=
  (k0_pay14 i v4 v7 v35 1#32 k a.1 (tile2 i x1 k), k0_pay18 i v4 v7 v35 1#32 k a.1 a.2.1 (tile2 i x1 k),
    k0_pay2 a.2.2 (k0_pay17 i v4 v7 v35 1#32 k a.1 (tile2 i x1 k)) (k0_pay19 i v4 v7 v35 1#32 k a.1 (tile2 i x1 k)))

set_option maxHeartbeats 1000000 in
theorem trip1 (c : Dev nD) (i : grid0.Coords) (arg2 : Memref sig .tc .vmem S1x8x128x288 .f32) (harg2 : arg2.IsWhole) (arg3 : Memref sig .tc .vmem S1x2048x288 .f32) (harg3 : arg3.IsWhole) (arg4 : Memref sig .tc .vmem S1x8x128x256 .f32) (harg4 : arg4.IsWhole)
    (v4 : FVec F S1024x288 .bf16) (v7 : IVec S128x1 32) (c0 c1 : BitVec 32) (f1 : BufTy.Contents (Elt F) arg3.view.ty)
    (k : Fin (k0_t1_loop i).trips) (a : Carry F) (E : Set ℕ) :
    (iprop(arg3.view.loc (c : Thread nD τ) ↦[arg3.view.set]{fullShare} f1) : sProp 𝕄)
      ⊢ wp frame (wpE (defs₀ (F := F)) Variants.none c none) E (k0_t1_body (F := F) i arg2 harg2 arg3 harg3 arg4 harg4 v4 v7 c0 c1 k a)
          (fun yld => (iprop(⌜yld = step1 i v4 v7 c0 c1 (arg3.view.read (Elt F) f1) k a⌝
            ∗ arg3.view.loc (c : Thread nD τ) ↦[arg3.view.set]{fullShare} f1) : sProp 𝕄)) := by
  unfold k0_t1_body
  iintro H
  sl_exec
  sl_step
  isplitr
  swap
  · iexact H
  ipureintro
  have hv : trip1.sl.v58 i arg3 f1 k = tile1 i (arg3.view.read (Elt F) f1) k := by
    unfold trip1.sl.v58 tile1 keys
    rw [← Memref.read_squeeze_full arg3 inb_S1x2048x288_S1x2048x288_0_0_0]
    rfl
  unfold trip1.sl.r trip1.sl.r_1 trip1.sl.r_2 trip1.sl.r_3
  rw [hv]
  rfl

set_option maxHeartbeats 1000000 in
theorem trip2 (c : Dev nD) (i : grid0.Coords) (arg2 : Memref sig .tc .vmem S1x8x128x288 .f32) (harg2 : arg2.IsWhole) (arg3 : Memref sig .tc .vmem S1x2048x288 .f32) (harg3 : arg3.IsWhole) (arg4 : Memref sig .tc .vmem S1x8x128x256 .f32) (harg4 : arg4.IsWhole)
    (v4 : FVec F S1024x288 .bf16) (v7 : IVec S128x1 32) (v35 : BitVec 32) (f1 : BufTy.Contents (Elt F) arg3.view.ty)
    (k : Fin (k0_t2_loop i).trips) (a : Carry F) (E : Set ℕ) :
    (iprop(arg3.view.loc (c : Thread nD τ) ↦[arg3.view.set]{fullShare} f1) : sProp 𝕄)
      ⊢ wp frame (wpE (defs₀ (F := F)) Variants.none c none) E (k0_t2_body (F := F) i arg2 harg2 arg3 harg3 arg4 harg4 v4 v7 v35 k a)
          (fun yld => (iprop(⌜yld = step2 i v4 v7 v35 (arg3.view.read (Elt F) f1) k a⌝
            ∗ arg3.view.loc (c : Thread nD τ) ↦[arg3.view.set]{fullShare} f1) : sProp 𝕄)) := by
  unfold k0_t2_body
  iintro H
  sl_exec
  sl_step
  isplitr
  swap
  · iexact H
  ipureintro
  have hv : trip2.sl.v58 i arg3 f1 k = tile2 i (arg3.view.read (Elt F) f1) k := by
    unfold trip2.sl.v58 tile2 keys
    rw [← Memref.read_squeeze_full arg3 inb_S1x2048x288_S1x2048x288_0_0_0]
    rfl
  unfold trip2.sl.r trip2.sl.r_1 trip2.sl.r_2 trip2.sl.r_3
  rw [hv]
  rfl

set_option warn.classDefReducibility false in
/-- The first loop by its invariant: the keys held, the carried value `sweep`'s. -/
@[sl_loop] def inv1 (c : Dev nD) (E : Set ℕ) (i : grid0.Coords) (arg2 : Memref sig .tc .vmem S1x8x128x288 .f32) (harg2 : arg2.IsWhole) (arg3 : Memref sig .tc .vmem S1x2048x288 .f32) (harg3 : arg3.IsWhole) (arg4 : Memref sig .tc .vmem S1x8x128x256 .f32) (harg4 : arg4.IsWhole)
    (v4 : FVec F S1024x288 .bf16) (v7 : IVec S128x1 32) (c0 c1 : BitVec 32) (f1 : BufTy.Contents (Elt F) arg3.view.ty) (init : Carry F) :
    Idealize.ShloMosaic.LoopInv (M := 𝕄) Idealize.ShloMosaic.frame (wpE defs₀ Variants.none (c : Thread nD τ) none) E
      (k0_t1_loop i).lb (k0_t1_loop i).ub (k0_t1_loop i).st (k0_t1_ok i) init (k0_t1_body (F := F) i arg2 harg2 arg3 harg3 arg4 harg4 v4 v7 c0 c1) where
  inv k acc := iprop((arg3.view.loc (c : Thread nD τ) ↦[arg3.view.set]{fullShare} f1)
    ∗ ⌜acc = sweep _ (step1 i v4 v7 c0 c1 (arg3.view.read (Elt F) f1)) init k⌝)
  step k acc := by
    iintro ⟨H, %h⟩
    subst h
    iapply (wp_wand_r Idealize.ShloMosaic.frame (wpE (defs₀ (F := F)) Variants.none (c : Thread nD τ) none) E)
    isplitl [H]
    · iapply (trip1 c i arg2 harg2 arg3 harg3 arg4 harg4 v4 v7 c0 c1 f1 k _ E)
      iexact H
    · iintro %yld ⟨%hr, H⟩
      isplitl [H]; · iexact H
      ipureintro; rw [hr]; exact (sweep_succ _ _ _ k).symm

set_option warn.classDefReducibility false in
/-- The second loop likewise. -/
@[sl_loop] def inv2 (c : Dev nD) (E : Set ℕ) (i : grid0.Coords) (arg2 : Memref sig .tc .vmem S1x8x128x288 .f32) (harg2 : arg2.IsWhole) (arg3 : Memref sig .tc .vmem S1x2048x288 .f32) (harg3 : arg3.IsWhole) (arg4 : Memref sig .tc .vmem S1x8x128x256 .f32) (harg4 : arg4.IsWhole)
    (v4 : FVec F S1024x288 .bf16) (v7 : IVec S128x1 32) (v35 : BitVec 32) (f1 : BufTy.Contents (Elt F) arg3.view.ty) (init : Carry F) :
    Idealize.ShloMosaic.LoopInv (M := 𝕄) Idealize.ShloMosaic.frame (wpE defs₀ Variants.none (c : Thread nD τ) none) E
      (k0_t2_loop i).lb (k0_t2_loop i).ub (k0_t2_loop i).st (k0_t2_ok i) init (k0_t2_body (F := F) i arg2 harg2 arg3 harg3 arg4 harg4 v4 v7 v35) where
  inv k acc := iprop((arg3.view.loc (c : Thread nD τ) ↦[arg3.view.set]{fullShare} f1)
    ∗ ⌜acc = sweep _ (step2 i v4 v7 v35 (arg3.view.read (Elt F) f1)) init k⌝)
  step k acc := by
    iintro ⟨H, %h⟩
    subst h
    iapply (wp_wand_r Idealize.ShloMosaic.frame (wpE (defs₀ (F := F)) Variants.none (c : Thread nD τ) none) E)
    isplitl [H]
    · iapply (trip2 c i arg2 harg2 arg3 harg3 arg4 harg4 v4 v7 v35 f1 k _ E)
      iexact H
    · iintro %yld ⟨%hr, H⟩
      isplitl [H]; · iexact H
      ipureintro; rw [hr]; exact (sweep_succ _ _ _ k).symm

/-- The query block's rectangle. -/
abbrev rq : Rect S1x8x128x288 := Rect.unit (s := S1x8x128x288) ![0, 0, 0, 0] S1x8x128x288.size inb_S1x8x128x288_S1x8x128x288_0_0_0_0
/-- The output block's rectangle. -/
abbrev ro : Rect S1x8x128x256 := Rect.unit (s := S1x8x128x256) ![0, 0, 0, 0] S1x8x128x256.size inb_S1x8x128x256_S1x8x128x256_0_0_0_0

/-- The number of key tiles at grid point `i`, as the body computes it: the bound between its two loops. -/
def nTiles (i : grid0.Coords) : BitVec 32 :=
  let v10 : BitVec 32 := Scalar.subi (Scalar.addi (Scalar.addi (Scalar.muli (BitVec.ofNat 32 (i 1).val) 128#32) 128#32) 256#32) 1#32
  let v16 : BitVec 32 := Scalar.subi (Scalar.extui (Scalar.cmpi .sgt v10 0#32)) (Scalar.extui (Scalar.cmpi .slt v10 0#32))
  let v21 : BitVec 32 := Scalar.subi (Scalar.extui (Scalar.cmpi .sgt 256#32 0#32)) (Scalar.extui (Scalar.cmpi .slt 256#32 0#32))
  let v25 : BitVec 1 := Scalar.andi (Scalar.cmpi .ne v16 v21) (Scalar.cmpi .ne (Scalar.remsi v10 256#32) 0#32)
  let v27 : BitVec 32 := Scalar.select v25 (Scalar.subi (Scalar.divsi v10 256#32) 1#32) (Scalar.divsi v10 256#32)
  Scalar.addi 0#32 (Scalar.muli (Scalar.divsi (Scalar.subi v27 0#32) 1#32) 1#32)

/-- What the loops carry at the end of grid point `i`'s body. -/
def final (i : grid0.Coords) (x0 : Vec F S1x8x128x288 .f32) (x1 : Vec F S1x2048x288 .f32) : Carry F :=
  sweep _ (step2 i (k0_pay20 (View.ld x0 rq)) (k0_pay21 i) (nTiles i) x1)
    (sweep _ (step1 i (k0_pay20 (View.ld x0 rq)) (k0_pay21 i) 0#32 1#32 x1) (k0_pay22, k0_pay23, k0_pay24) (k0_t1_loop i).trips)
    (k0_t2_loop i).trips

/-- What the body leaves in the output block. -/
def out (i : grid0.Coords) (x0 : Vec F S1x8x128x288 .f32) (x1 : Vec F S1x2048x288 .f32) : Vec F S1x8x128x256 .f32 :=
  View.canon [⟨ro, k0_pay3 (final i x0 x1).2.1 (final i x0 x1).2.2⟩]

theorem cover (p : Vec F S1x8x128x256 .f32) (y : S1x8x128x256.Idx) :
    ∃ pc ∈ ([⟨ro, p⟩] : List (View.Piece (Elt F) S1x8x128x256 .f32)), y ∈ pc.1.set :=
  View.cover_of_tiled [⟨ro, p⟩] S1x8x128x256.size (by rfl) y

set_option maxHeartbeats 2000000 in
/-- The body's triple: the blocks read are left as they were, the output block holds `out`. -/
theorem sound_kernel (c : Dev nD) (E : Set ℕ) (i : grid0.Coords) (arg2 : Memref sig .tc .vmem S1x8x128x288 .f32) (harg2 : arg2.IsWhole) (arg3 : Memref sig .tc .vmem S1x2048x288 .f32) (harg3 : arg3.IsWhole) (arg4 : Memref sig .tc .vmem S1x8x128x256 .f32) (harg4 : arg4.IsWhole)
    (x0 : Vec F S1x8x128x288 .f32) (x1 : Vec F S1x2048x288 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out i x0 x1)) -∗ K ⟨⟩))
      ⊢ wp frame (wpE (defs₀ (F := F)) Variants.none c none) E (cc0_mla_prompt i arg2 harg2 arg3 harg3 arg4 harg4) K := by
  simp only [cc0_mla_prompt_eq_skeleton]; unfold cc0_mla_prompt_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

variable (m : (ℓ : Loc nD τ sig) → Buf (Elt F) ℓ) (ρ : Dev nD → PrngReg)

/-! ## The pipeline's proof data -/

/-- The launch's proof data: the inputs' blocks stay, the output's block ends at `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out (grid0.coords t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = out (grid0.coords t) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch runs to the pipeline's arrays as its proof data computes them, every counter zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ))
    ((θ_run defs _ _).mono (fun _ h => h.2) (run_main_quiescent m ρ))

end Cert.KernelIdeal.Mla

end
-- ==== Proof.Softmax.lean ====
/- Softmax attention of one query row over the extended reals, and its online evaluation.

   A row has scores `s k` and values `v k` over keys `k`; a masked key has score `⊥`. The online evaluation keeps, over
   the keys seen so far (a finite set `A`), the running maximum, the normaliser `norm A s` and the accumulator
   `acc A s v`, both relative to the running maximum, and rescales them when the maximum grows (`acc_union`,
   `norm_union`). At the end the accumulator over the normaliser is the softmax-weighted sum of the values
   (`acc_div_norm`). No value is assumed finite. -/
module

public import Idealize.ShloMosaic.PureOps.Ideal
public import Idealize.ShloMosaic.Lib.IdealHost

@[expose] public section

noncomputable section

namespace Attn

open Idealize.ShloMosaic

variable {ι : Type} [DecidableEq ι]

/-- The maximum as the online evaluation subtracts it: zero while every key seen is masked. -/
def safe (m : EReal) : EReal := if m = ⊥ then 0 else m

/-- The maximum as the plain softmax subtracts it: zero where it is infinite. -/
def fin (m : EReal) : EReal := if m = ⊤ ∨ m = ⊥ then 0 else m

/-- A divisor, one where it is not positive. -/
def pos (d : EReal) : EReal := if 0 < d then d else 1

/-- The accumulator over the keys `A`. -/
def acc (A : Finset ι) (s v : ι → EReal) : EReal := ∑ k ∈ A, Ideal.exp (s k - safe (A.sup s)) * v k

/-- The normaliser over the keys `A`. -/
def norm (A : Finset ι) (s : ι → EReal) : EReal := ∑ k ∈ A, Ideal.exp (s k - safe (A.sup s))

theorem bot_sub' (x : EReal) : (⊥ : EReal) - x = ⊥ := by rw [sub_eq_add_neg, EReal.bot_add]

theorem sub_top' (x : EReal) : x - ⊤ = ⊥ := by rw [sub_eq_add_neg, EReal.neg_top, EReal.add_bot]

theorem exp_bot_sub (x : EReal) : Ideal.exp (⊥ - x) = 0 := by rw [bot_sub', Ideal.exp_bot]

theorem exp_sub_top (x : EReal) : Ideal.exp (x - ⊤) = 0 := by rw [sub_top', Ideal.exp_bot]

theorem exp_nonneg (x : EReal) : 0 ≤ Ideal.exp x := by
  induction x with
  | bot => simp
  | top => simp
  | coe r => rw [Ideal.exp_coe]; exact_mod_cast (Real.exp_pos r).le

theorem safe_coe (r : ℝ) : safe (r : EReal) = r := by simp [safe]

theorem safe_top : safe ⊤ = ⊤ := by simp [safe]

/-- A finite nonnegative factor goes through a sum. -/
theorem mul_sum' {c : EReal} (h0 : 0 ≤ c) (ht : c ≠ ⊤) (A : Finset ι) (f : ι → EReal) :
    c * ∑ k ∈ A, f k = ∑ k ∈ A, c * f k := by
  induction A using Finset.induction_on with
  | empty => simp
  | insert a A ha ih => rw [Finset.sum_insert ha, Finset.sum_insert ha,
      EReal.left_distrib_of_nonneg_of_ne_top h0 ht, ih]

/-- Rescaling one weight from a maximum to a larger one. -/
theorem weight_rescale {x m m' : EReal} (hx : x ≤ m) (hm : m ≤ m') :
    Ideal.exp (m - safe m') * Ideal.exp (x - safe m) = Ideal.exp (x - safe m') := by
  induction m with
  | bot => rw [le_bot_iff.mp hx, exp_bot_sub, zero_mul]
  | top => rw [top_le_iff.mp hm, safe_top, exp_sub_top, exp_sub_top, zero_mul]
  | coe r =>
    induction m' with
    | bot => simp at hm
    | top => rw [safe_top, exp_sub_top, exp_sub_top, zero_mul]
    | coe r' =>
      induction x with
      | bot => rw [exp_bot_sub, exp_bot_sub, mul_zero]
      | top => simp at hx
      | coe t =>
        rw [safe_coe, safe_coe, ← EReal.coe_sub, ← EReal.coe_sub, ← EReal.coe_sub, Ideal.exp_coe, Ideal.exp_coe, Ideal.exp_coe,
          ← EReal.coe_mul, ← Real.exp_add]
        congr 2; ring

theorem scale_ne_top {m m' : EReal} (hm : m ≤ m') : Ideal.exp (m - safe m') ≠ ⊤ := by
  induction m with
  | bot => rw [exp_bot_sub]; simp
  | top => rw [top_le_iff.mp hm, safe_top, exp_sub_top]; simp
  | coe r =>
    induction m' with
    | bot => simp at hm
    | top => rw [safe_top, exp_sub_top]; simp
    | coe r' => rw [safe_coe, ← EReal.coe_sub, Ideal.exp_coe]; exact EReal.coe_ne_top _

/-- Rescaling the accumulator. -/
theorem acc_rescale (A : Finset ι) (s v : ι → EReal) {m' : EReal} (hm : A.sup s ≤ m') :
    Ideal.exp (A.sup s - safe m') * acc A s v = ∑ k ∈ A, Ideal.exp (s k - safe m') * v k := by
  rw [acc, mul_sum' (exp_nonneg _) (scale_ne_top hm)]
  refine Finset.sum_congr rfl fun k hk => ?_
  rw [← mul_assoc, weight_rescale (Finset.le_sup hk) hm]

theorem norm_eq_acc (A : Finset ι) (s : ι → EReal) : norm A s = acc A s fun _ => 1 := by simp [norm, acc]

theorem sup_union (A B : Finset ι) (s : ι → EReal) : (A ∪ B).sup s = max (A.sup s) (B.sup s) := Finset.sup_union

/-- One step of the online evaluation, the accumulator. -/
theorem acc_union {A B : Finset ι} (h : Disjoint A B) (s v : ι → EReal) :
    acc (A ∪ B) s v = Ideal.exp (A.sup s - safe (max (A.sup s) (B.sup s))) * acc A s v
      + ∑ k ∈ B, Ideal.exp (s k - safe (max (A.sup s) (B.sup s))) * v k := by
  rw [acc_rescale A s v (le_max_left _ _), acc, sup_union, Finset.sum_union h]

/-- One step of the online evaluation, the normaliser. -/
theorem norm_union {A B : Finset ι} (h : Disjoint A B) (s : ι → EReal) :
    norm (A ∪ B) s = Ideal.exp (A.sup s - safe (max (A.sup s) (B.sup s))) * norm A s
      + ∑ k ∈ B, Ideal.exp (s k - safe (max (A.sup s) (B.sup s))) := by
  rw [norm_eq_acc, norm_eq_acc, acc_union h]; simp

theorem sup_subset {A U : Finset ι} (hA : A ⊆ U) {s : ι → EReal} (hs : ∀ k ∈ U, k ∉ A → s k = ⊥) : U.sup s = A.sup s :=
  le_antisymm (Finset.sup_le fun k hk => by
    by_cases h : k ∈ A
    · exact Finset.le_sup h
    · rw [hs k hk h]; exact bot_le) (Finset.sup_mono hA)

/-- Masked keys add nothing to the accumulator. -/
theorem acc_subset {A U : Finset ι} (hA : A ⊆ U) {s : ι → EReal} (hs : ∀ k ∈ U, k ∉ A → s k = ⊥) (v : ι → EReal) :
    acc U s v = acc A s v := by
  rw [acc, acc, sup_subset hA hs]
  exact (Finset.sum_subset hA fun k hk h => by rw [hs k hk h, exp_bot_sub, zero_mul]).symm

/-- Masked keys add nothing to the normaliser. -/
theorem norm_subset {A U : Finset ι} (hA : A ⊆ U) {s : ι → EReal} (hs : ∀ k ∈ U, k ∉ A → s k = ⊥) :
    norm U s = norm A s := by
  rw [norm_eq_acc, norm_eq_acc, acc_subset hA hs]

theorem div_top' (x : EReal) : Ideal.div x ⊤ = 0 := by
  rw [Ideal.div, if_neg (by simp), EReal.inv_top, mul_zero]

theorem div_one' (x : EReal) : Ideal.div x 1 = x := by
  have := Ideal.div_coe (one_ne_zero (α := ℝ)) x
  simpa using this

/-- The plain softmax's weighted sum of the values, each weight divided by the sum of all. -/
def soft (A : Finset ι) (s v : ι → EReal) : EReal :=
  ∑ k ∈ A, Ideal.div (Ideal.exp (s k - fin (A.sup s))) (pos (∑ k ∈ A, Ideal.exp (s k - fin (A.sup s)))) * v k

/-- THE ONLINE EVALUATION IS THE SOFTMAX: the accumulator over the normaliser. -/
theorem acc_div_norm (A : Finset ι) (s v : ι → EReal) : Ideal.div (acc A s v) (pos (norm A s)) = soft A s v := by
  rcases hM : A.sup s with _ | _ | r
  · have hs : ∀ k ∈ A, s k = ⊥ := fun k hk => le_bot_iff.mp ((Finset.le_sup hk).trans hM.le)
    have h1 : norm A s = 0 := by
      rw [norm]; exact Finset.sum_eq_zero fun k hk => by rw [hs k hk, exp_bot_sub]
    have h2 : acc A s v = 0 := by
      rw [acc]; exact Finset.sum_eq_zero fun k hk => by rw [hs k hk, exp_bot_sub, zero_mul]
    rw [h1, h2, soft, show pos 0 = 1 by simp [pos], div_one']
    refine (Finset.sum_eq_zero fun k hk => ?_).symm
    have h3 : ∑ k ∈ A, Ideal.exp (s k - fin (A.sup s)) = 0 :=
      Finset.sum_eq_zero fun k hk => by rw [hs k hk, exp_bot_sub]
    rw [h3, hs k hk, exp_bot_sub, show pos 0 = 1 by simp [pos], div_one', zero_mul]
  · have hM' : A.sup s = ⊤ := hM
    have h1 : norm A s = 0 := by
      rw [norm, hM']; exact Finset.sum_eq_zero fun k hk => by rw [safe_top, exp_sub_top]
    have h2 : acc A s v = 0 := by
      rw [acc, hM']; exact Finset.sum_eq_zero fun k hk => by rw [safe_top, exp_sub_top, zero_mul]
    have hne : A.Nonempty := by
      rw [Finset.nonempty_iff_ne_empty]; rintro rfl; simp at hM'
    obtain ⟨j, hj, hjs⟩ := Finset.exists_mem_eq_sup A hne s
    have h3 : ∑ k ∈ A, Ideal.exp (s k - fin (A.sup s)) = ⊤ := by
      refine top_le_iff.mp (le_trans ?_ (Finset.single_le_sum (fun k _ => exp_nonneg _) hj))
      rw [← hjs, hM']; simp [fin]
    rw [h1, h2, soft, h3, show pos 0 = 1 by simp [pos], show pos ⊤ = ⊤ by simp [pos], div_one']
    exact (Finset.sum_eq_zero fun k hk => by rw [div_top', zero_mul]).symm
  · have hM' : A.sup s = (r : EReal) := hM
    have hsafe : safe (A.sup s) = fin (A.sup s) := by rw [hM']; simp [safe, fin]
    have hw : ∀ k ∈ A, ∃ w : ℝ, 0 ≤ w ∧ Ideal.exp (s k - fin (A.sup s)) = (w : EReal) := fun k hk => by
      have hle : s k ≤ (r : EReal) := (Finset.le_sup hk).trans hM'.le
      rw [hM', show fin (r : EReal) = r by simp [fin]]
      generalize s k = x at hle ⊢
      induction x with
      | bot => exact ⟨0, le_rfl, by rw [exp_bot_sub]; rfl⟩
      | top => exact absurd (top_le_iff.mp hle) (EReal.coe_ne_top r)
      | coe t => exact ⟨Real.exp (t - r), (Real.exp_pos _).le, by rw [← EReal.coe_sub, Ideal.exp_coe]⟩
    have hne : A.Nonempty := by
      rw [Finset.nonempty_iff_ne_empty]; rintro rfl; simp at hM'
    obtain ⟨j, hj, hjs⟩ := Finset.exists_mem_eq_sup A hne s
    choose! w hw0 hw using hw
    have hsum : ∑ k ∈ A, Ideal.exp (s k - fin (A.sup s)) = ((∑ k ∈ A, w k : ℝ) : EReal) := by
      rw [Finset.sum_congr rfl hw]; exact (map_sum (⟨⟨((↑) : ℝ → EReal), rfl⟩, EReal.coe_add⟩ : ℝ →+ EReal) w A).symm
    have hj1 : w j = 1 := by
      have := hw j hj
      rw [← hjs, hM', show fin (r : EReal) = r by simp [fin], ← EReal.coe_sub, sub_self, Ideal.exp_coe, Real.exp_zero] at this
      exact_mod_cast this.symm
    have hpos : 0 < ∑ k ∈ A, w k := lt_of_lt_of_le (by rw [hj1]; exact one_pos) (Finset.single_le_sum hw0 hj)
    have hd : pos (∑ k ∈ A, Ideal.exp (s k - fin (A.sup s))) = ((∑ k ∈ A, w k : ℝ) : EReal) := by
      rw [hsum, pos, if_pos (by exact_mod_cast hpos)]
    have hc : (0 : EReal) ≤ ((1 / ∑ k ∈ A, w k : ℝ) : EReal) := by exact_mod_cast (one_div_pos.mpr hpos).le
    rw [soft, hd, norm, acc, hsafe, hd, Ideal.div_coe hpos.ne', mul_comm, mul_sum' hc (EReal.coe_ne_top _)]
    refine Finset.sum_congr rfl fun k _ => ?_
    rw [Ideal.div_coe hpos.ne', ← mul_assoc, mul_comm (Ideal.exp _)]

/-- The softmax over all keys, from the online evaluation over those that are not masked. -/
theorem acc_div_norm_subset {A U : Finset ι} (hA : A ⊆ U) {s : ι → EReal} (hs : ∀ k ∈ U, k ∉ A → s k = ⊥) (v : ι → EReal) :
    Ideal.div (acc A s v) (pos (norm A s)) = soft U s v := by
  rw [← acc_subset hA hs, ← norm_subset hA hs, acc_div_norm]

end Attn

end
-- ==== Proof.MlaValue.lean ====
/- The value of one grid point of the prompt's latent-attention kernel: after `n` tiles of keys the carried maximum,
   normaliser and accumulator are those of the first `256 n` keys, and the block written is the plain softmax's
   weighted sum over all the keys, the masked ones included. -/
module

public import proofs.«01_k».proof.Proof.KernelIdealBody
public import proofs.«01_k».proof.Proof.Softmax
public import Idealize.ShloMosaic.Lib.Pointwise
public import Idealize.ShloMosaic.Lib.WordArith
public import Idealize.ShloMosaic.Lib.Pipeline.ValueKit

@[expose] public section

set_option maxRecDepth 16384

noncomputable section

namespace Cert.KernelIdeal.Mla

open Cert.KernelIdeal Cert.KernelIdeal.Gen
open Idealize.ShloMosaic Idealize.ShloMosaic.TcCoe Idealize.SL.Sem

/-- The first loop visits the tiles up to the diagonal, the second none. -/
theorem trips1 (i : grid0.Coords) : (k0_t1_loop i).trips = (i 1).val / 2 + 1 := by
  have h : ∀ j : Fin 16, ∀ i : grid0.Coords, i 1 = j → (k0_t1_loop i).trips = j.val / 2 + 1 := by
    intro j i hi
    unfold k0_t1_loop
    rw [hi]
    clear hi
    revert j
    decide +kernel
  exact h (i 1) i rfl

theorem trips2 (i : grid0.Coords) : (k0_t2_loop i).trips = 0 := by
  have h : ∀ j : Fin 16, ∀ i : grid0.Coords, i 1 = j → (k0_t2_loop i).trips = 0 := by
    intro j i hi
    unfold k0_t2_loop
    rw [hi]
    clear hi
    revert j
    decide +kernel
  exact h (i 1) i rfl

/-- The scale of the scores. -/
def scale : EReal := Ideal.ofBits .f32 1037108716#32

theorem ninf : Ideal.ofBits FTy.f32 4286578688#32 = (⊥ : EReal) := by
  simp [Ideal.ofBits, Ideal.ieee]

/-- The score of key `k` for row `r` of head `h`: minus infinity beyond the diagonal. -/
def score (i : grid0.Coords) (x0 : Vec Ideal S1x8x128x288 .f32) (x1 : Vec Ideal S1x2048x288 .f32) (h : Fin 8) (r : Fin 128) (k : ℕ) : EReal :=
  if hk : k ≤ 128 * (i 1).val + r.val ∧ k < 2048 then (∑ c : Fin 288, x0 (ix4 0 h r c) * x1 (ix3 0 ⟨k, hk.2⟩ c)) * scale else ⊥

/-- Column `d` of the value at key `k`. -/
def value (x1 : Vec Ideal S1x2048x288 .f32) (d : Fin 256) (k : ℕ) : EReal :=
  if hk : k < 2048 then x1 (ix3 0 ⟨k, hk⟩ ⟨d.val, by omega⟩) else 0

/-- The comparison of the row's position with the key's, on words. -/
theorem mask_word (t r j k : ℕ) (ht : t < 16) (hr : r < 128) (hj : j < 8) (hk : k < 256) :
    IntOp.cmpi CmpIPredicate.sge (IntOp.subi (IntOp.addi (Scalar.muli (BitVec.ofNat 32 t) 128#32) (BitVec.ofNat 32 r))
      (IntOp.addi (Scalar.muli (Scf.iv 0#32 1#32 j) 256#32) (BitVec.ofNat 32 k))) 0#32
      = BitVec.ofBool (decide (256 * j + k ≤ 128 * t + r)) := by
  have h0 : ∀ n : ℕ, n < 4096 → (BitVec.ofNat 32 n).toInt = (n : ℤ) := fun n hn => WordArith.toInt_ofNat_small n (by omega)
  have h1 : BitVec.ofNat 32 t * 128#32 + BitVec.ofNat 32 r = BitVec.ofNat 32 (t * 128 + r) := by
    rw [← BitVec.ofNat_mul, ← BitVec.ofNat_add]
  have h2 : (Scf.iv 0#32 1#32 j * 256#32 + BitVec.ofNat 32 k) = BitVec.ofNat 32 (j * 256 + k) := by
    rw [BitVec.ofNat_add, BitVec.ofNat_mul, Scf.iv]
    simp
  have h3 : (BitVec.ofNat 32 (t * 128 + r) - BitVec.ofNat 32 (j * 256 + k)).toInt = ((t * 128 + r : ℕ) : ℤ) - ((j * 256 + k : ℕ) : ℤ) := by
    have e1 := h0 (t * 128 + r) (by omega)
    have e2 := h0 (j * 256 + k) (by omega)
    rw [← e1, ← e2]
    apply WordArith.toInt_sub_of_bounds <;> (rw [e1, e2]; omega)
  simp only [IntOp.cmpi, IntOp.subi, IntOp.addi, Scalar.muli, IntOp.muli, h1, h2]
  congr 1
  rw [Bool.eq_iff_iff, BitVec.sle_iff_toInt_le, h3]
  simp
  omega

variable (i : grid0.Coords) (x0 : Vec Ideal S1x8x128x288 .f32) (x1 : Vec Ideal S1x2048x288 .f32)

theorem tile1_apply (t : Fin (k0_t1_loop i).trips) (x : Fin 256) (c : Fin 288) (hx : 256 * t.val + x.val < 2048) :
    tile1 i x1 t (ix2 x c) = x1 (ix3 0 ⟨256 * t.val + x.val, hx⟩ c) := by
  have h0 : k0_off1 i t 0 = 256 * t.val := by
    show (Scalar.indexCast (Scalar.muli (Scf.iv 0#32 1#32 t.val) 256#32)).toNat = _
    have e : Scalar.indexCast (Scalar.muli (Scf.iv 0#32 1#32 t.val) 256#32) = BitVec.ofNat 32 (t.val * 256) := by
      rw [BitVec.ofNat_mul, Scalar.indexCast, Scf.iv, Scalar.muli, IntOp.muli]
      simp
    rw [e, BitVec.toNat_ofNat]
    omega
  have h1 : k0_off1 i t 1 = 0 := rfl
  pointwise [tile1, keys]
  simp only [h0, h1, Nat.zero_add]

theorem pay5_apply (t : Fin (k0_t1_loop i).trips) (h : Fin 8) (r : Fin 128) (x : Fin 256) :
    k0_pay5 (F := Ideal) i (k0_pay20 (View.ld x0 rq)) (k0_pay21 i) 0#32 1#32 t (tile1 i x1 t) (ix3 h r x)
      = score i x0 x1 h r (256 * t.val + x.val) := by
  have ht : t.val < (i 1).val / 2 + 1 := lt_of_lt_of_eq t.isLt (trips1 i)
  have hi := (i 1).isLt
  have hi : (i 1).val < 16 := hi
  have hx : 256 * t.val + x.val < 2048 := by omega
  pointwise [k0_pay5, k0_pay4, k0_pay20, k0_pay21]
  rw [mask_word _ _ _ _ hi r.isLt (by omega) x.isLt, ninf, score]
  simp only [tile1_apply i x1 t x _ hx]
  by_cases hle : 256 * t.val + x.val ≤ 128 * (i 1).val + r.val
  · rw [dif_pos ⟨hle, hx⟩, decide_eq_true hle]
    rfl
  · rw [dif_neg (fun h => hle h.1), decide_eq_false hle]
    rfl

/-- The keys of tile `j`. -/
def tile (j : ℕ) : Finset ℕ :=
  Finset.univ.map ⟨fun x : Fin 256 => 256 * j + x.val, fun a b h => Fin.ext (Nat.add_left_cancel h)⟩

theorem mem_tile (j k : ℕ) : k ∈ tile j ↔ 256 * j ≤ k ∧ k < 256 * (j + 1) := by
  rw [tile, Finset.mem_map]
  constructor
  · rintro ⟨x, _, rfl⟩
    show 256 * j ≤ 256 * j + x.val ∧ 256 * j + x.val < 256 * (j + 1)
    omega
  · rintro ⟨h, h'⟩
    exact ⟨⟨k - 256 * j, by omega⟩, Finset.mem_univ _, Nat.add_sub_cancel' h⟩

theorem range_succ (j : ℕ) : Finset.range (256 * (j + 1)) = Finset.range (256 * j) ∪ tile j := by
  ext k
  rw [Finset.mem_union, mem_tile, Finset.mem_range, Finset.mem_range]
  omega

theorem disjoint_tile (j : ℕ) : Disjoint (Finset.range (256 * j)) (tile j) := by
  rw [Finset.disjoint_left]
  intro k hk h
  rw [mem_tile] at h
  rw [Finset.mem_range] at hk
  omega

theorem sum_tile (j : ℕ) (f : ℕ → EReal) : ∑ k ∈ tile j, f k = ∑ x : Fin 256, f (256 * j + x.val) := by
  rw [tile, Finset.sum_map]; rfl

theorem sup_tile (j : ℕ) (f : ℕ → EReal) :
    (tile j).sup f = Finset.fold max ⊥ (fun x : Fin 256 => f (256 * j + x.val)) Finset.univ := by
  rw [tile, Finset.sup_map]; rfl

/-- What is carried after the keys `A`. -/
structure Holds (A : Finset ℕ) (s : Fin 8 → Fin 128 → ℕ → EReal) (v : Fin 256 → ℕ → EReal) (a : Carry Ideal) : Prop where
  top : ∀ h r, a.1 (ix3 h r 0) = A.sup (s h r)
  norm : ∀ h r, a.2.1 (ix3 h r 0) = Attn.norm A (s h r)
  acc : ∀ h r d, a.2.2 (ix3 h r d) = Attn.acc A (s h r) (v d)

theorem holds_init (s : Fin 8 → Fin 128 → ℕ → EReal) (v : Fin 256 → ℕ → EReal) :
    Holds (Finset.range (256 * 0)) s v (k0_pay22, k0_pay23, k0_pay24) where
  top h r := by
    pointwise [k0_pay22]
    rw [ninf]; rfl
  norm h r := by
    pointwise [k0_pay23]
    simp [Attn.norm]
  acc h r d := by
    pointwise [k0_pay24]
    simp [Attn.acc]

theorem holds_step (t : Fin (k0_t1_loop i).trips) (a : Carry Ideal)
    (ha : Holds (Finset.range (256 * t.val)) (score i x0 x1) (value x1) a) :
    Holds (Finset.range (256 * (t.val + 1))) (score i x0 x1) (value x1)
      (step1 i (k0_pay20 (View.ld x0 rq)) (k0_pay21 i) 0#32 1#32 x1 t a) := by
  have ht : t.val < (i 1).val / 2 + 1 := lt_of_lt_of_eq t.isLt (trips1 i)
  have hi : (i 1).val < 16 := (i 1).isLt
  have h6 : ∀ h r, k0_pay6 i (k0_pay20 (View.ld x0 rq)) (k0_pay21 i) 0#32 1#32 t a.1 (tile1 i x1 t) (ix3 h r 0)
      = max ((Finset.range (256 * t.val)).sup (score i x0 x1 h r)) ((tile t.val).sup (score i x0 x1 h r)) := by
    intro h r
    pointwise [k0_pay6]
    rw [ha.top, sup_tile, ninf]
    simp only [pay5_apply]
  have h7 : ∀ h r, k0_pay7 i (k0_pay20 (View.ld x0 rq)) (k0_pay21 i) 0#32 1#32 t a.1 (tile1 i x1 t) (ix3 h r 0)
      = Attn.safe (max ((Finset.range (256 * t.val)).sup (score i x0 x1 h r)) ((tile t.val).sup (score i x0 x1 h r))) := by
    intro h r
    pointwise [k0_pay7]
    rw [h6, ninf]
    rfl
  have h8 : ∀ h r x, k0_pay8 i (k0_pay20 (View.ld x0 rq)) (k0_pay21 i) 0#32 1#32 t a.1 (tile1 i x1 t) (ix3 h r x)
      = Ideal.exp (score i x0 x1 h r (256 * t.val + x.val)
          - Attn.safe (max ((Finset.range (256 * t.val)).sup (score i x0 x1 h r)) ((tile t.val).sup (score i x0 x1 h r)))) := by
    intro h r x
    pointwise [k0_pay8]
    rw [h7, pay5_apply]
  have h9 : ∀ h r, k0_pay9 i (k0_pay20 (View.ld x0 rq)) (k0_pay21 i) 0#32 1#32 t a.1 (tile1 i x1 t) (ix3 h r 0)
      = Ideal.exp ((Finset.range (256 * t.val)).sup (score i x0 x1 h r)
          - Attn.safe (max ((Finset.range (256 * t.val)).sup (score i x0 x1 h r)) ((tile t.val).sup (score i x0 x1 h r)))) := by
    intro h r
    pointwise [k0_pay9]
    rw [h7, ha.top]
  refine ⟨fun h r => ?_, fun h r => ?_, fun h r d => ?_⟩
  · rw [range_succ, Attn.sup_union]
    exact h6 h r
  · rw [range_succ, Attn.norm_union (disjoint_tile _), sum_tile, ← ha.norm]
    show k0_pay10 i _ _ _ _ t _ _ _ _ = _
    pointwise [k0_pay10]
    rw [h9]
    simp only [h8]
  · rw [range_succ, Attn.acc_union (disjoint_tile _), sum_tile, ← ha.acc]
    show k0_pay1 _ _ (k0_pay11 _ _ _ _ _ _ _ _) _ = _
    pointwise [k0_pay1, k0_pay11]
    rw [h9]
    congr 1
    refine Finset.sum_congr rfl fun x _ => ?_
    have hx : 256 * t.val + x.val < 2048 := by omega
    rw [h8, tile1_apply i x1 t x _ hx, value, dif_pos hx]

theorem holds_sweep (n : ℕ) (hn : n ≤ (k0_t1_loop i).trips) :
    Holds (Finset.range (256 * n)) (score i x0 x1) (value x1)
      (sweep _ (step1 i (k0_pay20 (View.ld x0 rq)) (k0_pay21 i) 0#32 1#32 x1) (k0_pay22, k0_pay23, k0_pay24) n) := by
  induction n with
  | zero => exact holds_init _ _
  | succ n ih =>
    rw [show n + 1 = (⟨n, hn⟩ : Fin (k0_t1_loop i).trips).val + 1 from rfl, sweep_succ]
    exact holds_step i x0 x1 ⟨n, hn⟩ _ (ih (by omega))

theorem sweep_none {σ : Type} (n : ℕ) (step : Fin n → σ → σ) (init : σ) (hn : n = 0) : sweep n step init n = init := by
  subst hn; rfl

theorem holds_final : Holds (Finset.range (256 * ((i 1).val / 2 + 1))) (score i x0 x1) (value x1) (final i x0 x1) := by
  unfold final
  have h := holds_sweep i x0 x1 _ (le_refl (k0_t1_loop i).trips)
  rw [sweep_none _ _ _ (trips2 i)]
  have e : 256 * (k0_t1_loop i).trips = 256 * ((i 1).val / 2 + 1) := by rw [trips1]
  rwa [e] at h

/-- What one grid point writes: the plain softmax's weighted sum over all the keys. -/
theorem out_apply (z : Fin 1) (h : Fin 8) (r : Fin 128) (d : Fin 256) :
    out i x0 x1 (ix4 z h r d) = Attn.soft (Finset.range 2048) (score i x0 x1 h r) (value x1 d) := by
  have H := holds_final i x0 x1
  have hi : (i 1).val < 16 := (i 1).isLt
  rw [← Attn.acc_div_norm_subset (A := Finset.range (256 * ((i 1).val / 2 + 1))), ← H.norm, ← H.acc]
  · unfold out
    frame_out
    pointwise [k0_pay3]
    rfl
  · intro k hk
    simp only [Finset.mem_range] at hk ⊢
    omega
  · intro k _ hk
    simp only [Finset.mem_range, not_lt] at hk
    rw [score, dif_neg]
    have := r.isLt
    omega

end Cert.KernelIdeal.Mla
-- ==== Proof.MlaReference.lean ====
/- The reference of the prompt's latent attention, read at one element: the plain softmax's weighted sum of the values. -/
module

public import proofs.«01_k».proof.Proof.Gen.ReferenceIdeal.Read
public import proofs.«01_k».proof.Proof.Softmax
public import Idealize.ShloMosaic.Lib.Pointwise
public import Idealize.ShloMosaic.Lib.WordArith

@[expose] public section

set_option maxRecDepth 16384

noncomputable section

namespace Cert.ReferenceIdeal.Mla

open Cert.ReferenceIdeal Cert.ReferenceIdeal.Gen Cert.ReferenceIdeal.Read
open Idealize.ShloMosaic Idealize.ShloMosaic.TcCoe Idealize.SL.Sem

variable (X : FVec Ideal S8x2048x8x288 .f32) (Y : FVec Ideal S8x2048x288 .f32)

theorem ninf : Ideal.ofBits FTy.f32 4286578688#32 = (⊥ : EReal) := by
  simp [Ideal.ofBits, Ideal.ieee]

theorem pinf : Ideal.ofBits FTy.f32 2139095040#32 = (⊤ : EReal) := by
  simp [Ideal.ofBits, Ideal.ieee]

theorem one : Ideal.ofBits FTy.f32 1065353216#32 = (1 : EReal) := by
  simp

/-- The score of key `k` for query `q` of head `h`: minus infinity beyond the diagonal. -/
def score (b h : Fin 8) (q : Fin 2048) (k : ℕ) : EReal :=
  if hk : k ≤ q.val ∧ k < 2048 then (∑ c : Fin 288, X (ix4 b q h c) * Y (ix3 b ⟨k, hk.2⟩ c)) * Ideal.ofBits .f32 1037108716#32 else ⊥

/-- Column `d` of the value at key `k`. -/
def value (b : Fin 8) (d : Fin 256) (k : ℕ) : EReal :=
  if hk : k < 2048 then Y (ix3 b ⟨k, hk⟩ ⟨d.val, by omega⟩) else 0

theorem mask_word (k q : ℕ) (hk : k < 2048) (hq : q < 2048) :
    IntOp.cmpi CmpIPredicate.sle (BitVec.ofNat 32 k) (BitVec.ofNat 32 q) = BitVec.ofBool (decide (k ≤ q)) := by
  simp only [IntOp.cmpi]
  congr 1
  rw [Bool.eq_iff_iff, BitVec.sle_iff_toInt_le, WordArith.toInt_ofNat_small k (by omega), WordArith.toInt_ofNat_small q (by omega)]
  simp

theorem v12 (b h : Fin 8) (q k : Fin 2048) : val_main_v12 (F := Ideal) X Y (ix4 b h q k) = score X Y b h q k.val := by
  pointwise [val_main_v0, val_main_v1, val_main_v3, val_main_v4, val_main_v5, val_main_v6, val_main_v7, val_main_v8, val_main_v9, val_main_v10, val_main_v11, val_main_v12, val_main_cst, val_main_cst_0, val_main_call0_v0, val_main_call0_v1, val_main_call0_v2]
  rw [mask_word _ _ k.isLt q.isLt, score]
  by_cases hle : k.val ≤ q.val
  · rw [dif_pos ⟨hle, k.isLt⟩, decide_eq_true hle]
    show _ * _ = _
    congr 1
    exact Finset.sum_congr rfl fun c _ => mul_comm _ _
  · rw [dif_neg (fun h => hle h.1), decide_eq_false hle]
    exact ninf

theorem sup_fold (f : ℕ → EReal) : Finset.fold max ⊥ (fun x : Fin 2048 => f x.val) Finset.univ = (Finset.range 2048).sup f := by
  show (Finset.univ.sup fun x : Fin 2048 => f x.val) = _
  refine le_antisymm (Finset.sup_le fun x _ => Finset.le_sup (f := f) (Finset.mem_range.2 x.isLt)) (Finset.sup_le fun k hk => ?_)
  exact Finset.le_sup (f := fun x : Fin 2048 => f x.val) (Finset.mem_univ ⟨k, Finset.mem_range.1 hk⟩)

theorem v13 (b h : Fin 8) (q : Fin 2048) : val_main_v13 (F := Ideal) X Y (ix3 b h q) = (Finset.range 2048).sup (score X Y b h q) := by
  have h12 := v12 X Y b h q
  unfold val_main_v13
  generalize val_main_v12 (F := Ideal) X Y = M at *
  pointwise [val_main_cst_1]
  rw [ninf, ← sup_fold]
  simp only [← h12]

theorem v14 (b h : Fin 8) (q : Fin 2048) : val_main_v14 (F := Ideal) X Y (ix4 b h q 0) = (Finset.range 2048).sup (score X Y b h q) := by
  rw [← v13]
  unfold val_main_v14
  generalize val_main_v13 (F := Ideal) X Y = M
  pointwise

theorem fin_word (x : EReal) : (if max x (-x) < ⊤ then x else 0) = Attn.fin x := by
  rw [Attn.fin]
  induction x with
  | bot => simp
  | top => simp
  | coe r => simp [← EReal.coe_neg]

/-- The maximum, zero where it is infinite, over any array of maxima. -/
theorem fin_apply (M : FVec Ideal S8x8x2048x1 .f32) (b h : Fin 8) (q : Fin 2048) :
    select (cmpf .olt (Host.absf M) (val_main_v16 (F := Ideal))) M (val_main_call1_v1 (F := Ideal)) (ix4 b h q 0) = Attn.fin (M (ix4 b h q 0)) := by
  rw [← fin_word]
  generalize hz : M (ix4 b h q 0) = z
  pointwise [val_main_v16, val_main_cst_2, val_main_cst_3, val_main_call1_v0, val_main_call1_v1]
  rw [hz, pinf]
  show (if max z (-z) < ⊤ then z else Ideal.ofBits .f32 0#32) = _
  rw [Ideal.ofBits_zero_f32]

theorem v18 (b h : Fin 8) (q : Fin 2048) : val_main_v18 (F := Ideal) X Y (ix4 b h q 0) = Attn.fin ((Finset.range 2048).sup (score X Y b h q)) := by
  rw [← v14]
  unfold val_main_v18 val_main_v17 val_main_v15
  generalize val_main_v14 (F := Ideal) X Y = M
  exact fin_apply M b h q

theorem v21 (b h : Fin 8) (q k : Fin 2048) : val_main_v21 (F := Ideal) X Y (ix4 b h q k)
    = Ideal.exp (score X Y b h q k.val - Attn.fin ((Finset.range 2048).sup (score X Y b h q))) := by
  rw [← v12, ← v18]
  unfold val_main_v21 val_main_v20 val_main_v19
  generalize val_main_v12 (F := Ideal) X Y = M
  generalize val_main_v18 (F := Ideal) X Y = M
  pointwise

theorem v22 (b h : Fin 8) (q : Fin 2048) : val_main_v22 (F := Ideal) X Y (ix3 b h q)
    = ∑ k ∈ Finset.range 2048, Ideal.exp (score X Y b h q k - Attn.fin ((Finset.range 2048).sup (score X Y b h q))) := by
  rw [Finset.sum_range]
  simp only [← v21]
  unfold val_main_v22
  generalize val_main_v21 (F := Ideal) X Y = M
  pointwise [val_main_cst_4]

theorem v26 (b h : Fin 8) (q : Fin 2048) : val_main_v26 (F := Ideal) X Y (ix4 b h q 0)
    = Attn.pos (val_main_v22 (F := Ideal) X Y (ix3 b h q)) := by
  unfold val_main_v26 val_main_v25 val_main_v23
  generalize val_main_v22 (F := Ideal) X Y = M
  pointwise [val_main_v24, val_main_cst_5, val_main_cst_6, val_main_call2_v0, val_main_call2_v1]
  show (if 0 < _ then _ else Ideal.ofBits .f32 1065353216#32) = _
  rw [one]
  rfl

theorem v28 (b h : Fin 8) (q k : Fin 2048) : val_main_v28 (F := Ideal) X Y (ix4 b h q k)
    = Ideal.div (val_main_v21 (F := Ideal) X Y (ix4 b h q k)) (val_main_v26 (F := Ideal) X Y (ix4 b h q 0)) := by
  unfold val_main_v28 val_main_v27
  generalize val_main_v21 (F := Ideal) X Y = M
  generalize val_main_v26 (F := Ideal) X Y = M
  pointwise

theorem v29 (b h : Fin 8) (q : Fin 2048) (d : Fin 256) : val_main_v29 (F := Ideal) X Y (ix4 b h q d)
    = Attn.soft (Finset.range 2048) (score X Y b h q) (value Y b d) := by
  rw [Attn.soft, Finset.sum_range]
  have e : ∀ k : Fin 2048, val_main_v28 (F := Ideal) X Y (ix4 b h q k) * value Y b d k.val
      = Ideal.div (Ideal.exp (score X Y b h q k.val - Attn.fin ((Finset.range 2048).sup (score X Y b h q))))
        (Attn.pos (∑ k ∈ Finset.range 2048, Ideal.exp (score X Y b h q k - Attn.fin ((Finset.range 2048).sup (score X Y b h q))))) * value Y b d k.val := by
    intro k
    rw [v28, v26, v22, v21]
  rw [← Finset.sum_congr rfl fun k _ => e k]
  unfold val_main_v29
  generalize val_main_v28 (F := Ideal) X Y = M
  pointwise [val_main_v2]
  refine Finset.sum_congr rfl fun k _ => ?_
  rw [value, dif_pos k.isLt]

end Cert.ReferenceIdeal.Mla
-- ==== Proof.MlaClaim.lean ====
/- The prompt's latent attention: the kernel's output array is the reference's, element by element. -/
module

public import proofs.«01_k».proof.Proof.MlaValue
public import proofs.«01_k».proof.Proof.MlaReference
public import proofs.«01_k».proof.Defs
public import Idealize.ShloMosaic.Lib.Claim
public import Idealize.ShloMosaic.Lib.Pipeline.ValueKit

@[expose] public section

set_option maxRecDepth 16384

noncomputable section

namespace Cert.KernelIdeal.Mla

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The index maps of the three windows, in the grid's coordinates. -/
theorem idx : ∀ t : Fin cfg0.N, win0_0.index t = ![(grid0.coords t 0).val, 0, (grid0.coords t 1).val, 0]
    ∧ win0_1.index t = ![(grid0.coords t 0).val, 0, 0] ∧ win0_2.index t = ![(grid0.coords t 0).val, 0, (grid0.coords t 1).val, 0]
    ∧ (grid0.coords t 0).val < 8 ∧ (grid0.coords t 1).val < 16 :=
  (by decide +kernel : ∀ t : Fin grid0.N, _)

/-- The query block is the transposed queries' rows. -/
theorem query (c : Dev nD) (t : Fin cfg0.N) (h : Fin 8) (r : Fin 128) (x : Fin 288) (q : Fin 2048)
    (hq : q.val = 128 * (grid0.coords t 1).val + r.val) (b : Fin 8) (hb : b.val = (grid0.coords t 0).val) :
    iblk m c 0 t (ix4 0 h r x) = m ((c : Thread nD τ).loc main_arg0) (ix4 b q h x) := by
  blk_simp [iblk]
  entry_read
  have e : (((View.whole main_v0).slice (win0_0.rect t)).emb (ix4 0 h r x) : S8x8x2048x288.Idx) = ix4 b h q x := by
    blk_ext [idx t]
  rw [e]
  pointwise

/-- The block of keys is the batch element's rows. -/
theorem key (c : Dev nD) (t : Fin cfg0.N) (k : Fin 2048) (x : Fin 288) (b : Fin 8) (hb : b.val = (grid0.coords t 0).val) :
    iblk m c 1 t (ix3 0 k x) = m ((c : Thread nD τ).loc main_arg1) (ix3 b k x) := by
  blk_ext [iblk, V, idx t]

/-- The kernel's scores at a grid point are the reference's. -/
theorem score_eq (c : Dev nD) (t : Fin cfg0.N) (h : Fin 8) (r : Fin 128) (q : Fin 2048)
    (hq : q.val = 128 * (grid0.coords t 1).val + r.val) (b : Fin 8) (hb : b.val = (grid0.coords t 0).val) :
    score (grid0.coords t) (iblk m c 0 t) (iblk m c 1 t) h r
      = Cert.ReferenceIdeal.Mla.score (m ((c : Thread nD τ).loc main_arg0)) (m ((c : Thread nD τ).loc main_arg1)) b h q := by
  funext k
  unfold score Cert.ReferenceIdeal.Mla.score
  by_cases hk : k ≤ q.val ∧ k < 2048
  · rw [dif_pos hk, dif_pos (by omega)]
    refine congrArg (· * scale) (Finset.sum_congr rfl fun x _ => ?_)
    rw [query m c t h r x q hq b hb, key m c t ⟨k, hk.2⟩ x b hb]
  · rw [dif_neg hk, dif_neg (by omega)]

theorem value_eq (c : Dev nD) (t : Fin cfg0.N) (d : Fin 256) (b : Fin 8) (hb : b.val = (grid0.coords t 0).val) :
    value (iblk m c 1 t) d = Cert.ReferenceIdeal.Mla.value (m ((c : Thread nD τ).loc main_arg1)) b d := by
  funext k
  unfold value Cert.ReferenceIdeal.Mla.value
  by_cases hk : k < 2048
  · rw [dif_pos hk, dif_pos hk, key m c t ⟨k, hk⟩ _ b hb]
  · rw [dif_neg hk, dif_neg hk]

/-- What a grid point writes at a block index is the reference's result at the array index it sits at. -/
theorem point (c : Dev nD) (t : Fin cfg0.N) (y : S1x8x128x256.Idx) :
    out (grid0.coords t) (iblk m c 0 t) (iblk m c 1 t) y
      = Cert.ReferenceIdeal.Read.val_main_v29 (F := Ideal) (m ((c : Thread nD τ).loc main_arg0)) (m ((c : Thread nD τ).loc main_arg1))
          (((cfg0.win 2).blk t).view.emb y) := by
  obtain ⟨-, -, -, h0, h1⟩ := idx t
  idx_vars y
  have e : (((cfg0.win 2).blk t).view.emb (ix4 y0 y1 y2 y3) : S8x8x2048x256.Idx)
      = ix4 (⟨(grid0.coords t 0).val, h0⟩ : Fin 8) y1 (⟨128 * (grid0.coords t 1).val + y2.val, by omega⟩ : Fin 2048) y3 := by
    blk_ext [idx t]
  rw [e, Cert.ReferenceIdeal.Mla.v29, out_apply, score_eq m c t y1 y2 ⟨128 * (grid0.coords t 1).val + y2.val, by omega⟩ rfl ⟨(grid0.coords t 0).val, h0⟩ rfl,
    value_eq m c t y3 ⟨(grid0.coords t 0).val, h0⟩ rfl]

/-- The kernel's output array is the reference's result. -/
theorem final_eq (c : Dev nD) : (dats m 0 c).arrAt 2 (cfgs 0).N
    = Cert.ReferenceIdeal.Read.val_main_v29 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.KernelIdeal.Mla

namespace Cert.Proof

open Idealize.ShloMosaic Idealize.ShloMosaic.TcCoe Idealize.SL.Sem

/-- The kernel's and the reference's results are equal from equal arguments. -/
theorem mla_algebraic : @Cert.algebraic_KernelIdeal_ReferenceIdeal Cert.KernelIdeal.Gen.facts Cert.ReferenceIdeal.Gen.facts := by
  pair_intro
  · run_from Cert.KernelIdeal.Mla.run_main m g
  · refine (θ_run _ _ _).mono (fun r h c => ?_) (Cert.ReferenceIdeal.Value.run m' g')
    obtain ⟨h1, h2, h3⟩ := h c
    refine ⟨h1.trans ?_, h2, h3⟩
    rw [Cert.ReferenceIdeal.Read.val_main_v29_eq, (hagree c).1, (hagree c).2]
    exact (Cert.KernelIdeal.Mla.final_eq m c).symm

end Cert.Proof
-- ==== Proof.InProjClaim.lean ====
/- The input projection with its normalisation: the kernel's output array is the reference's, element by element. -/
module

public import proofs.«01_k».proof.Proof.Gen.InProjIdeal.Value
public import proofs.«01_k».proof.Proof.Gen.InProjRefIdeal.Read
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProj.Math

/-- One element of the projection: the row `x` divided by the root of its mean square (plus the stabiliser), weighted by
    `g`, modulated by one plus `s`, shifted by `h`, and multiplied with the column `w`. -/
def project (x g s h w : Fin 1024 → EReal) : EReal :=
  ∑ k, (x k * Ideal.rsqrt (Ideal.div (∑ l, x l * x l) (Ideal.ofBits .f32 0x44800000#32) + Ideal.ofBits .f32 0x358637BD#32)
    * g k * (1 + s k) + h k) * w k

end Cert.InProj.Math

namespace Cert.InProjRefIdeal.Value

open Cert.InProjRefIdeal Cert.InProjRefIdeal.Gen Cert.InProjRefIdeal.Read Cert.InProj.Math

/-- The reference's result, element by element. -/
theorem ref_apply (x : FVec Ideal S8x2048x1024 .f32) (s h : FVec Ideal S8x1x1024 .f32) (g : FVec Ideal S1024 .f32)
    (w : FVec Ideal S1024x3200 .f32) (b : Fin 8) (r : Fin 2048) (n : Fin 3200) :
    val_main_v19 (F := Ideal) x s h g w (ix3 b r n)
      = project (fun k => x (ix3 b r k)) (fun k => g (ix1 k)) (fun k => s (ix3 b 0 k)) (fun k => h (ix3 b 0 k)) (fun k => w (ix2 k n)) := by
  have e1 : ∀ k, lidx_main_v19 (ix3 b r n) k = ix3 b r k := fun k => by idx_ext
  have e2 : ∀ k, ridx_main_v19 (ix3 b r n) k = ix2 k n := fun k => by idx_ext
  have e3 : ∀ k, idx_main_v10 (idx_main_v11 (ix3 b r k)) = ix1 k := fun k => by idx_ext
  have e4 : ∀ k, idx_main_v15 (ix3 b r k) = ix3 b 0 k := fun k => by idx_ext
  have e5 : ∀ k, idx_main_v17 (ix3 b r k) = ix3 b 0 k := fun k => by idx_ext
  have e6 : ∀ k l, idx_main_v1 (idx_main_v2 (idx_main_v8 (ix3 b r k))) l = ix3 b r l := fun k l => by idx_ext
  rw [val_main_v19_apply]
  refine Finset.sum_congr rfl fun k _ => ?_
  rw [e1, e2, val_main_v18_apply, val_main_v17_apply, val_main_v16_apply, val_main_v15_apply, val_main_v14_apply, val_main_v13_apply,
    val_main_v12_apply, val_main_v11_apply, val_main_v10_apply, val_main_v9_apply, val_main_v8_apply, val_main_v7_apply,
    val_main_v6_apply, val_main_v5_apply, val_main_v4_apply, val_main_v3_apply, val_main_v2_apply, val_main_v1_apply,
    val_main_cst_apply, val_main_cst_0_apply, val_main_cst_1_apply, val_main_cst_2_apply, e3, e4, e5]
  simp only [e6, val_main_v0_apply]
  have z : (FloatOps.ofBits .f32 0x00000000#32 : Ideal .f32) = (0 : EReal) := Ideal.ofBits_zero_f32
  have o : (FloatOps.ofBits .f32 0x3F800000#32 : Ideal .f32) = (1 : EReal) := by
    show Ideal.ofBits .f32 _ = _
    simp
  rw [z, o]
  exact congrArg (fun u => (x (ix3 b r k) * Ideal.rsqrt (Ideal.div u (Ideal.ofBits .f32 0x44800000#32) + Ideal.ofBits .f32 0x358637BD#32)
    * g (ix1 k) * (1 + s (ix3 b 0 k)) + h (ix3 b 0 k)) * w (ix2 k n)) (zero_add _)

end Cert.InProjRefIdeal.Value

namespace Cert.InProjIdeal.Value

open Cert.InProjIdeal Cert.InProjIdeal.Gen Cert.InProj.Math

/-- What the body stores, element by element. -/
theorem pay_apply (x : FVec Ideal S1x512x1024 .f32) (g s h : FVec Ideal S1x1x1024 .f32) (w : FVec Ideal S1024x3200 .bf16)
    (r : Fin 512) (n : Fin 3200) :
    k0_pay1 (F := Ideal) x g s h w (ix3 0 r n)
      = project (fun k => x (ix3 0 r k)) (fun k => g (ix3 0 0 k)) (fun k => s (ix3 0 0 k)) (fun k => h (ix3 0 0 k)) (fun k => w (ix2 k n)) := by
  pointwise [k0_pay1, project]

variable (m : (ℓ : Loc nD τ sig) → Buf (Elt Ideal) ℓ)

/-- The index maps of the windows, in the grid's coordinates. -/
theorem idx : ∀ t : Fin cfg0.N, win0_0.index t = ![(grid0.coords t 0).val, (grid0.coords t 1).val, 0]
    ∧ win0_1.index t = ![(grid0.coords t 0).val, 0, 0] ∧ win0_2.index t = ![(grid0.coords t 0).val, 0, 0]
    ∧ win0_3.index t = ![0, 0, 0] ∧ win0_4.index t = ![0, 0]
    ∧ win0_5.index t = ![(grid0.coords t 0).val, (grid0.coords t 1).val, 0]
    ∧ (grid0.coords t 0).val < 8 ∧ (grid0.coords t 1).val < 4 :=
  (by decide +kernel : ∀ t : Fin grid0.N, _)

/-- The gain's block is the gain. -/
theorem gain (c : Dev nD) (t : Fin cfg0.N) (k : Fin 1024) :
    iblk m c 3 t (ix3 0 0 k) = m ((c : Thread nD τ).loc main_arg3) (ix1 k) := by
  blk_simp [iblk]
  entry_read
  have e : (((View.whole main_v0).slice (win0_3.rect t)).emb (ix3 0 0 k) : S1x1x1024.Idx) = ix3 0 0 k := by
    blk_ext [idx t]
  rw [e]
  pointwise

/-- The weights' block is the weights. -/
theorem weight (c : Dev nD) (t : Fin cfg0.N) (k : Fin 1024) (n : Fin 3200) :
    iblk m c 4 t (ix2 k n) = m ((c : Thread nD τ).loc main_arg4) (ix2 k n) := by
  blk_simp [iblk]
  entry_read
  have e : (((View.whole main_v1).slice (win0_4.rect t)).emb (ix2 k n) : S1024x3200.Idx) = ix2 k n := by
    blk_ext [idx t]
  rw [e]
  pointwise

/-- What a grid point writes at a block index is the reference's result at the array index it sits at. -/
theorem point (c : Dev nD) (t : Fin cfg0.N) (y : S1x512x3200.Idx) :
    k0_pay1 (F := Ideal) (iblk m c 0 t) (iblk m c 3 t) (iblk m c 1 t) (iblk m c 2 t) (iblk m c 4 t) y
      = Cert.InProjRefIdeal.Read.val_main_v19 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (((cfg0.win 5).blk t).view.emb y) := by
  obtain ⟨-, -, -, -, -, -, h0, h1⟩ := idx t
  idx_vars y
  have e : (((cfg0.win 5).blk t).view.emb (ix3 y0 y1 y2) : S8x2048x3200.Idx)
      = ix3 (⟨(grid0.coords t 0).val, h0⟩ : Fin 8) (⟨512 * (grid0.coords t 1).val + y1.val, by omega⟩ : Fin 2048) y2 := by
    blk_ext [idx t]
  obtain rfl : y0 = 0 := Subsingleton.elim _ _
  rw [e, Cert.InProjRefIdeal.Value.ref_apply, pay_apply]
  have a0 : ∀ k, iblk m c 0 t (ix3 0 y1 k) = m ((c : Thread nD τ).loc main_arg0)
      (ix3 (⟨(grid0.coords t 0).val, h0⟩ : Fin 8) (⟨512 * (grid0.coords t 1).val + y1.val, by omega⟩ : Fin 2048) k) := fun k => by
    blk_ext [iblk, V, idx t]
  have a1 : ∀ k, iblk m c 1 t (ix3 0 0 k) = m ((c : Thread nD τ).loc main_arg1) (ix3 (⟨(grid0.coords t 0).val, h0⟩ : Fin 8) 0 k) := fun k => by
    blk_ext [iblk, V, idx t]
  have a2 : ∀ k, iblk m c 2 t (ix3 0 0 k) = m ((c : Thread nD τ).loc main_arg2) (ix3 (⟨(grid0.coords t 0).val, h0⟩ : Fin 8) 0 k) := fun k => by
    blk_ext [iblk, V, idx t]
  rw [funext a0, funext a1, funext a2, funext (gain m c t), funext fun k => weight m c t k y2]

/-- The result array after the run is the reference's term over the arguments. -/
theorem final_eq (c : Dev nD) : (dats m 0 c).arrAt 5 (cfgs 0).N
    = Cert.InProjRefIdeal.Read.val_main_v19 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point m c t y

end Cert.InProjIdeal.Value

namespace Cert.Proof

/-- The input projection computes, over the extended reals, what its reference computes. -/
theorem inproj_algebraic : @Cert.algebraic_InProjIdeal_InProjRefIdeal Cert.InProjIdeal.Gen.facts Cert.InProjRefIdeal.Gen.facts := by
  pair_intro
  · run_from Cert.InProjIdeal.Value.run_blocks m g
  · refine (θ_run _ _ _).mono (fun r h c => ?_) (Cert.InProjRefIdeal.Value.run m' g')
    obtain ⟨h1, h2⟩ := h c
    refine ⟨h1.trans ?_, h2⟩
    rw [Cert.InProjRefIdeal.Read.val_main_v19_eq, (hagree c).1, (hagree c).2.1, (hagree c).2.2.1, (hagree c).2.2.2.1, (hagree c).2.2.2.2]
    exact (Cert.InProjIdeal.Value.final_eq m c).symm

end Cert.Proof

end

end
-- ==== Proof.InProjCClaim.lean ====
/- The input projection at the width of the odd layers: the kernel's output array is the reference's, element by element. -/
module

public import proofs.«01_k».proof.Proof.Gen.InProjCIdeal.Value
public import proofs.«01_k».proof.Proof.Gen.InProjCRefIdeal.Read
public import proofs.«01_k».proof.Proof.InProjClaim
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjCRefIdeal.Value

open Cert.InProjCRefIdeal Cert.InProjCRefIdeal.Gen Cert.InProjCRefIdeal.Read Cert.InProj.Math

/-- The reference's result, element by element. -/
theorem ref_apply (x : FVec Ideal S8x2048x1024 .f32) (s h : FVec Ideal S8x1x1024 .f32) (g : FVec Ideal S1024 .f32)
    (w : FVec Ideal S1024x2944 .f32) (b : Fin 8) (r : Fin 2048) (n : Fin 2944) :
    val_main_v19 (F := Ideal) x s h g w (ix3 b r n)
      = project (fun k => x (ix3 b r k)) (fun k => g (ix1 k)) (fun k => s (ix3 b 0 k)) (fun k => h (ix3 b 0 k)) (fun k => w (ix2 k n)) := by
  have e1 : ∀ k, lidx_main_v19 (ix3 b r n) k = ix3 b r k := fun k => by idx_ext
  have e2 : ∀ k, ridx_main_v19 (ix3 b r n) k = ix2 k n := fun k => by idx_ext
  have e3 : ∀ k, idx_main_v10 (idx_main_v11 (ix3 b r k)) = ix1 k := fun k => by idx_ext
  have e4 : ∀ k, idx_main_v15 (ix3 b r k) = ix3 b 0 k := fun k => by idx_ext
  have e5 : ∀ k, idx_main_v17 (ix3 b r k) = ix3 b 0 k := fun k => by idx_ext
  have e6 : ∀ k l, idx_main_v1 (idx_main_v2 (idx_main_v8 (ix3 b r k))) l = ix3 b r l := fun k l => by idx_ext
  rw [val_main_v19_apply]
  refine Finset.sum_congr rfl fun k _ => ?_
  rw [e1, e2, val_main_v18_apply, val_main_v17_apply, val_main_v16_apply, val_main_v15_apply, val_main_v14_apply, val_main_v13_apply,
    val_main_v12_apply, val_main_v11_apply, val_main_v10_apply, val_main_v9_apply, val_main_v8_apply, val_main_v7_apply,
    val_main_v6_apply, val_main_v5_apply, val_main_v4_apply, val_main_v3_apply, val_main_v2_apply, val_main_v1_apply,
    val_main_cst_apply, val_main_cst_0_apply, val_main_cst_1_apply, val_main_cst_2_apply, e3, e4, e5]
  simp only [e6, val_main_v0_apply]
  have z : (FloatOps.ofBits .f32 0x00000000#32 : Ideal .f32) = (0 : EReal) := Ideal.ofBits_zero_f32
  have o : (FloatOps.ofBits .f32 0x3F800000#32 : Ideal .f32) = (1 : EReal) := by
    show Ideal.ofBits .f32 _ = _
    simp
  rw [z, o]
  exact congrArg (fun u => (x (ix3 b r k) * Ideal.rsqrt (Ideal.div u (Ideal.ofBits .f32 0x44800000#32) + Ideal.ofBits .f32 0x358637BD#32)
    * g (ix1 k) * (1 + s (ix3 b 0 k)) + h (ix3 b 0 k)) * w (ix2 k n)) (zero_add _)

end Cert.InProjCRefIdeal.Value

namespace Cert.InProjCIdeal.Value

open Cert.InProjCIdeal Cert.InProjCIdeal.Gen Cert.InProj.Math

/-- What the body stores, element by element. -/
theorem pay_apply (x : FVec Ideal S1x512x1024 .f32) (g s h : FVec Ideal S1x1x1024 .f32) (w : FVec Ideal S1024x2944 .bf16)
    (r : Fin 512) (n : Fin 2944) :
    k0_pay1 (F := Ideal) x g s h w (ix3 0 r n)
      = project (fun k => x (ix3 0 r k)) (fun k => g (ix3 0 0 k)) (fun k => s (ix3 0 0 k)) (fun k => h (ix3 0 0 k)) (fun k => w (ix2 k n)) := by
  pointwise [k0_pay1, project]

variable (m : (ℓ : Loc nD τ sig) → Buf (Elt Ideal) ℓ)

/-- The index maps of the windows, in the grid's coordinates. -/
theorem idx : ∀ t : Fin cfg0.N, win0_0.index t = ![(grid0.coords t 0).val, (grid0.coords t 1).val, 0]
    ∧ win0_1.index t = ![(grid0.coords t 0).val, 0, 0] ∧ win0_2.index t = ![(grid0.coords t 0).val, 0, 0]
    ∧ win0_3.index t = ![0, 0, 0] ∧ win0_4.index t = ![0, 0]
    ∧ win0_5.index t = ![(grid0.coords t 0).val, (grid0.coords t 1).val, 0]
    ∧ (grid0.coords t 0).val < 8 ∧ (grid0.coords t 1).val < 4 :=
  (by decide +kernel : ∀ t : Fin grid0.N, _)

/-- The gain's block is the gain. -/
theorem gain (c : Dev nD) (t : Fin cfg0.N) (k : Fin 1024) :
    iblk m c 3 t (ix3 0 0 k) = m ((c : Thread nD τ).loc main_arg3) (ix1 k) := by
  blk_simp [iblk]
  entry_read
  have e : (((View.whole main_v0).slice (win0_3.rect t)).emb (ix3 0 0 k) : S1x1x1024.Idx) = ix3 0 0 k := by
    blk_ext [idx t]
  rw [e]
  pointwise

/-- The weights' block is the weights. -/
theorem weight (c : Dev nD) (t : Fin cfg0.N) (k : Fin 1024) (n : Fin 2944) :
    iblk m c 4 t (ix2 k n) = m ((c : Thread nD τ).loc main_arg4) (ix2 k n) := by
  blk_simp [iblk]
  entry_read
  have e : (((View.whole main_v1).slice (win0_4.rect t)).emb (ix2 k n) : S1024x2944.Idx) = ix2 k n := by
    blk_ext [idx t]
  rw [e]
  pointwise

/-- What a grid point writes at a block index is the reference's result at the array index it sits at. -/
theorem point (c : Dev nD) (t : Fin cfg0.N) (y : S1x512x2944.Idx) :
    k0_pay1 (F := Ideal) (iblk m c 0 t) (iblk m c 3 t) (iblk m c 1 t) (iblk m c 2 t) (iblk m c 4 t) y
      = Cert.InProjCRefIdeal.Read.val_main_v19 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (((cfg0.win 5).blk t).view.emb y) := by
  obtain ⟨-, -, -, -, -, -, h0, h1⟩ := idx t
  idx_vars y
  have e : (((cfg0.win 5).blk t).view.emb (ix3 y0 y1 y2) : S8x2048x2944.Idx)
      = ix3 (⟨(grid0.coords t 0).val, h0⟩ : Fin 8) (⟨512 * (grid0.coords t 1).val + y1.val, by omega⟩ : Fin 2048) y2 := by
    blk_ext [idx t]
  obtain rfl : y0 = 0 := Subsingleton.elim _ _
  rw [e, Cert.InProjCRefIdeal.Value.ref_apply, pay_apply]
  have a0 : ∀ k, iblk m c 0 t (ix3 0 y1 k) = m ((c : Thread nD τ).loc main_arg0)
      (ix3 (⟨(grid0.coords t 0).val, h0⟩ : Fin 8) (⟨512 * (grid0.coords t 1).val + y1.val, by omega⟩ : Fin 2048) k) := fun k => by
    blk_ext [iblk, V, idx t]
  have a1 : ∀ k, iblk m c 1 t (ix3 0 0 k) = m ((c : Thread nD τ).loc main_arg1) (ix3 (⟨(grid0.coords t 0).val, h0⟩ : Fin 8) 0 k) := fun k => by
    blk_ext [iblk, V, idx t]
  have a2 : ∀ k, iblk m c 2 t (ix3 0 0 k) = m ((c : Thread nD τ).loc main_arg2) (ix3 (⟨(grid0.coords t 0).val, h0⟩ : Fin 8) 0 k) := fun k => by
    blk_ext [iblk, V, idx t]
  rw [funext a0, funext a1, funext a2, funext (gain m c t), funext fun k => weight m c t k y2]

/-- The result array after the run is the reference's term over the arguments. -/
theorem final_eq (c : Dev nD) : (dats m 0 c).arrAt 5 (cfgs 0).N
    = Cert.InProjCRefIdeal.Read.val_main_v19 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point m c t y

end Cert.InProjCIdeal.Value

namespace Cert.Proof

/-- The odd layers' input projection computes, over the extended reals, what its reference computes. -/
theorem inprojc_algebraic : @Cert.algebraic_InProjCIdeal_InProjCRefIdeal Cert.InProjCIdeal.Gen.facts Cert.InProjCRefIdeal.Gen.facts := by
  pair_intro
  · run_from Cert.InProjCIdeal.Value.run_blocks m g
  · refine (θ_run _ _ _).mono (fun r h c => ?_) (Cert.InProjCRefIdeal.Value.run m' g')
    obtain ⟨h1, h2⟩ := h c
    refine ⟨h1.trans ?_, h2⟩
    rw [Cert.InProjCRefIdeal.Read.val_main_v19_eq, (hagree c).1, (hagree c).2.1, (hagree c).2.2.1, (hagree c).2.2.2.1, (hagree c).2.2.2.2]
    exact (Cert.InProjCIdeal.Value.final_eq m c).symm

end Cert.Proof

end

end
-- ==== Proof.OutProjClaim.lean ====
/- The gated output projection with its normalisation and residual: the kernel's output array is the reference's, element
   by element. -/
module

public import proofs.«01_k».proof.Proof.Gen.OutProjIdeal.Value
public import proofs.«01_k».proof.Proof.Gen.OutProjRefIdeal.Read
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProj.Math

/-- The gate of one feature: the feature times its logistic. -/
def silu (x : EReal) : EReal := x * Ideal.div 1 (1 + Ideal.exp (-x))

/-- One element of the gated product: the row `o` gated by `g` against the column `w`. -/
def gated (o g w : Fin 1024 → EReal) : EReal := ∑ k, o k * silu (g k) * w k

/-- One element of the result: the product's row `y` divided by the root of its mean square, weighted by `p`, scaled by
    `a` and added to the residual `h`. -/
def addNormed (y : Fin 1024 → EReal) (h a p : EReal) (d : Fin 1024) : EReal :=
  h + a * (y d * Ideal.rsqrt (Ideal.div (∑ l, y l * y l) (Ideal.ofBits .f32 0x44800000#32) + Ideal.ofBits .f32 0x358637BD#32) * p)

end Cert.OutProj.Math

namespace Cert.OutProjRefIdeal.Value

open Cert.OutProjRefIdeal Cert.OutProjRefIdeal.Gen Cert.OutProjRefIdeal.Read Cert.OutProj.Math

/-- The reference's gated product, element by element. -/
theorem gated_apply (o g : FVec Ideal S8x2048x1024 .f32) (w : FVec Ideal S1024x1024 .f32) (b : Fin 8) (r : Fin 2048) (n : Fin 1024) :
    val_main_v2 (F := Ideal) o g w (ix3 b r n)
      = gated (fun k => o (ix3 b r k)) (fun k => g (ix3 b r k)) (fun k => w (ix2 k n)) := by
  have e1 : ∀ k, lidx_main_v2 (ix3 b r n) k = ix3 b r k := fun k => by idx_ext
  have e2 : ∀ k, ridx_main_v2 (ix3 b r n) k = ix2 k n := fun k => by idx_ext
  rw [val_main_v2_apply]
  refine Finset.sum_congr rfl fun k _ => ?_
  rw [e1, e2]
  pointwise [val_main_v1, val_main_v0, val_main_call0_v5, val_main_call0_v4, val_main_call0_v3, val_main_call0_v2, val_main_call0_v1, val_main_call0_v0, val_main_call0_cst, val_main_call0_cst_0, silu]

/-- The reference's result, element by element. -/
theorem ref_apply (o g h : FVec Ideal S8x2048x1024 .f32) (a : FVec Ideal S8x1x1024 .f32) (p : FVec Ideal S1024 .f32)
    (w : FVec Ideal S1024x1024 .f32) (b : Fin 8) (r : Fin 2048) (n : Fin 1024) :
    val_main_v18 (F := Ideal) o g h a p w (ix3 b r n)
      = addNormed (fun d => gated (fun k => o (ix3 b r k)) (fun k => g (ix3 b r k)) (fun k => w (ix2 k d)))
          (h (ix3 b r n)) (a (ix3 b 0 n)) (p (ix1 n)) n := by
  have e3 : idx_main_v13 (idx_main_v14 (ix3 b r n)) = ix1 n := by idx_ext
  have e4 : idx_main_v16 (ix3 b r n) = ix3 b 0 n := by idx_ext
  have e6 : ∀ l, idx_main_v4 (idx_main_v5 (idx_main_v11 (ix3 b r n))) l = ix3 b r l := fun l => by idx_ext
  rw [val_main_v18_apply, val_main_v17_apply, val_main_v16_apply, val_main_v15_apply, val_main_v14_apply, val_main_v13_apply,
    val_main_v12_apply, val_main_v11_apply, val_main_v10_apply, val_main_v9_apply, val_main_v8_apply, val_main_v7_apply,
    val_main_v6_apply, val_main_v5_apply, val_main_v4_apply, val_main_cst_apply, val_main_cst_0_apply, val_main_cst_1_apply, e3, e4]
  simp only [e6, val_main_v3_apply, gated_apply]
  have z : (FloatOps.ofBits .f32 0x00000000#32 : Ideal .f32) = (0 : EReal) := Ideal.ofBits_zero_f32
  rw [z]
  unfold addNormed
  exact congrArg (fun u => h (ix3 b r n) + a (ix3 b 0 n) * (gated (fun k => o (ix3 b r k)) (fun k => g (ix3 b r k)) (fun k => w (ix2 k n)) * Ideal.rsqrt (Ideal.div u (Ideal.ofBits .f32 0x44800000#32) + Ideal.ofBits .f32 0x358637BD#32)
    * p (ix1 n))) (zero_add _)

end Cert.OutProjRefIdeal.Value

namespace Cert.OutProjIdeal.Value

open Cert.OutProjIdeal Cert.OutProjIdeal.Gen Cert.OutProj.Math

/-- What the body stores, element by element. -/
theorem pay_apply (g o : FVec Ideal S1x512x1024 .f32) (w : FVec Ideal S1024x1024 .bf16) (p : FVec Ideal S1x1x1024 .f32)
    (h : FVec Ideal S1x512x1024 .f32) (a : FVec Ideal S1x1x1024 .f32) (r : Fin 512) (n : Fin 1024) :
    k0_pay1 (F := Ideal) g o w p h a (ix3 0 r n)
      = addNormed (fun d => gated (fun k => o (ix3 0 r k)) (fun k => g (ix3 0 r k)) (fun k => w (ix2 k d)))
          (h (ix3 0 r n)) (a (ix3 0 0 n)) (p (ix3 0 0 n)) n := by
  pointwise [k0_pay1, addNormed, gated, silu, Ideal.logistic]

variable (m : (ℓ : Loc nD τ sig) → Buf (Elt Ideal) ℓ)

/-- The index maps of the windows, in the grid's coordinates. -/
theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, 0, 0] ∧ win0_4.index t = ![0, 0, 0] ∧ win0_5.index t = ![0, 0]
    ∧ win0_6.index t = ![(grid0.coords t 0).val, (grid0.coords t 1).val, 0]
    ∧ (grid0.coords t 0).val < 8 ∧ (grid0.coords t 1).val < 4 :=
  (by decide +kernel : ∀ t : Fin grid0.N, _)

/-- The gain's block is the gain. -/
theorem gain (c : Dev nD) (t : Fin cfg0.N) (k : Fin 1024) :
    iblk m c 4 t (ix3 0 0 k) = m ((c : Thread nD τ).loc main_arg4) (ix1 k) := by
  blk_simp [iblk]
  entry_read
  have e : (((View.whole main_v0).slice (win0_4.rect t)).emb (ix3 0 0 k) : S1x1x1024.Idx) = ix3 0 0 k := by
    blk_ext [idx t]
  rw [e]
  pointwise

/-- The weights' block is the weights. -/
theorem weight (c : Dev nD) (t : Fin cfg0.N) (k : Fin 1024) (n : Fin 1024) :
    iblk m c 5 t (ix2 k n) = m ((c : Thread nD τ).loc main_arg5) (ix2 k n) := by
  blk_simp [iblk]
  entry_read
  have e : (((View.whole main_v1).slice (win0_5.rect t)).emb (ix2 k n) : S1024x1024.Idx) = ix2 k n := by
    blk_ext [idx t]
  rw [e]
  pointwise

/-- What a grid point writes at a block index is the reference's result at the array index it sits at. -/
theorem point (c : Dev nD) (t : Fin cfg0.N) (y : S1x512x1024.Idx) :
    k0_pay1 (F := Ideal) (iblk m c 1 t) (iblk m c 0 t) (iblk m c 5 t) (iblk m c 4 t) (iblk m c 2 t) (iblk m c 3 t) y
      = Cert.OutProjRefIdeal.Read.val_main_v18 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (((cfg0.win 6).blk t).view.emb y) := by
  obtain ⟨-, -, -, -, -, -, -, h0, h1⟩ := idx t
  idx_vars y
  have e : (((cfg0.win 6).blk t).view.emb (ix3 y0 y1 y2) : S8x2048x1024.Idx)
      = ix3 (⟨(grid0.coords t 0).val, h0⟩ : Fin 8) (⟨512 * (grid0.coords t 1).val + y1.val, by omega⟩ : Fin 2048) y2 := by
    blk_ext [idx t]
  obtain rfl : y0 = 0 := Subsingleton.elim _ _
  rw [e, Cert.OutProjRefIdeal.Value.ref_apply, pay_apply]
  have a0 : ∀ k, iblk m c 0 t (ix3 0 y1 k) = m ((c : Thread nD τ).loc main_arg0)
      (ix3 (⟨(grid0.coords t 0).val, h0⟩ : Fin 8) (⟨512 * (grid0.coords t 1).val + y1.val, by omega⟩ : Fin 2048) k) := fun k => by
    blk_ext [iblk, V, idx t]
  have a1 : ∀ k, iblk m c 1 t (ix3 0 y1 k) = m ((c : Thread nD τ).loc main_arg1)
      (ix3 (⟨(grid0.coords t 0).val, h0⟩ : Fin 8) (⟨512 * (grid0.coords t 1).val + y1.val, by omega⟩ : Fin 2048) k) := fun k => by
    blk_ext [iblk, V, idx t]
  have a2 : iblk m c 2 t (ix3 0 y1 y2) = m ((c : Thread nD τ).loc main_arg2)
      (ix3 (⟨(grid0.coords t 0).val, h0⟩ : Fin 8) (⟨512 * (grid0.coords t 1).val + y1.val, by omega⟩ : Fin 2048) y2) := by
    blk_ext [iblk, V, idx t]
  have a3 : iblk m c 3 t (ix3 0 0 y2) = m ((c : Thread nD τ).loc main_arg3) (ix3 (⟨(grid0.coords t 0).val, h0⟩ : Fin 8) 0 y2) := by
    blk_ext [iblk, V, idx t]
  have a5 : (fun d k => iblk m c 5 t (ix2 k d)) = fun (d k : Fin 1024) => m ((c : Thread nD τ).loc main_arg5) (ix2 k d) :=
    funext fun d => funext fun k => weight m c t k d
  rw [funext a0, funext a1, a2, a3, gain m c t y2]
  exact congrArg (fun W : Fin 1024 → Fin 1024 → EReal => addNormed (fun d => gated _ _ (W d)) _ _ _ y2) a5

/-- The result array after the run is the reference's term over the arguments. -/
theorem final_eq (c : Dev nD) : (dats m 0 c).arrAt 6 (cfgs 0).N
    = Cert.OutProjRefIdeal.Read.val_main_v18 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t _ y => ?_
  blk_simp
  rw [after0_6]
  frame_out
  exact point m c t y

end Cert.OutProjIdeal.Value

namespace Cert.Proof

/-- The output projection computes, over the extended reals, what its reference computes. -/
theorem outproj_algebraic : @Cert.algebraic_OutProjIdeal_OutProjRefIdeal Cert.OutProjIdeal.Gen.facts Cert.OutProjRefIdeal.Gen.facts := by
  pair_intro
  · run_from Cert.OutProjIdeal.Value.run_blocks m g
  · refine (θ_run _ _ _).mono (fun r h c => ?_) (Cert.OutProjRefIdeal.Value.run m' g')
    obtain ⟨h1, h2⟩ := h c
    refine ⟨h1.trans ?_, h2⟩
    rw [Cert.OutProjRefIdeal.Read.val_main_v18_eq, (hagree c).1, (hagree c).2.1, (hagree c).2.2.1, (hagree c).2.2.2.1, (hagree c).2.2.2.2.1,
      (hagree c).2.2.2.2.2]
    exact (Cert.OutProjIdeal.Value.final_eq m c).symm

end Cert.Proof

end

end
-- ==== Proof.CmpProjLoop.lean ====
/- The regrouping loop of the compression: what the scratch holds after it. -/
module

public import proofs.«01_k».proof.Proof.Gen.CmpProjIdeal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Tactic Idealize.SL.Sem
open Idealize.ShloMosaic.Pipeline (Dat)

namespace Cert.CmpProjIdeal.Value

open Cert.CmpProjIdeal Cert.CmpProjIdeal.Gen

/-- The scratch after the loop: each page's rows in the order that the table `p` gives them. -/
def grouped (p : FVec Ideal S128x128 .bf16) (x : FVec Ideal S32x1x2x2x64x128 .f32) : FVec Ideal S2x2x32x128x64 .f32 :=
  fun y => ∑ r : Fin 128, p (ix2 (y 3) r) * x (ix6 (y 2) 0 (y 0) (y 1) (y 4) r)

/-- What a trip stores of one kind and group, element by element. -/
theorem pay2_apply (p : FVec Ideal S128x128 .bf16) (x : FVec Ideal S1x1x1x1x64x128 .f32) (s : Fin 128) (d : Fin 64) :
    k0_pay2 (F := Ideal) p x (ix5 0 0 0 s d) = ∑ r : Fin 128, p (ix2 s r) * x (ix6 0 0 0 0 d r) := by
  pointwise [k0_pay2]

/-- A store of one kind and group agrees with the scratch's final contents. -/
theorem store_eq (p : FVec Ideal S128x128 .bf16) (x : FVec Ideal S32x1x2x2x64x128 .f32) (q : Fin 32) (k g : Fin 2)
    {o : Fin 5 → Nat} (ho : o = ![k.val, g.val, q.val, 0, 0]) (o' : Fin 6 → Nat) (ho' : o' = ![q.val, 0, k.val, g.val, 0, 0])
    (hi : ∀ a, o a + S1x1x1x128x64.size a ≤ S2x2x32x128x64.size a) (hi' : ∀ a, o' a + S1x1x1x1x64x128.size a ≤ S32x1x2x2x64x128.size a)
    (z : S1x1x1x128x64.Idx) :
    k0_pay2 (F := Ideal) p (View.ld x (Rect.unit (s := S32x1x2x2x64x128) o' S1x1x1x1x64x128.size hi')) z
      = grouped p x ((Rect.unit (s := S2x2x32x128x64) o S1x1x1x128x64.size hi).emb z) := by
  subst ho ho'
  idx_vars z
  obtain rfl : z0 = 0 := Subsingleton.elim _ _
  obtain rfl : z1 = 0 := Subsingleton.elim _ _
  obtain rfl : z2 = 0 := Subsingleton.elim _ _
  rw [pay2_apply]
  have e : (Rect.unit (s := S2x2x32x128x64) ![k.val, g.val, q.val, 0, 0] S1x1x1x128x64.size hi).emb (ix5 0 0 0 z3 z4)
      = ix5 k g q z3 z4 := by idx_ext
  have e' : ∀ r, (Rect.unit (s := S32x1x2x2x64x128) ![q.val, 0, k.val, g.val, 0, 0] S1x1x1x1x64x128.size hi').emb (ix6 0 0 0 0 z4 r)
      = ix6 q 0 k g z4 r := fun r => by idx_ext
  rw [e]
  refine Finset.sum_congr rfl fun r _ => ?_
  exact congrArg (fun u => p (ix2 z3 r) * x u) (e' r)

section
variable (𝒱 : Variants) (c : Dev nD) (bd : Option 𝒱.V) (i : grid0.Coords)
  (arg1 : Memref sig .tc .vmem S32x1x2x2x64x128 .f32) (harg1 : arg1.IsWhole) (arg2 : Memref sig .tc .vmem S128x128 .bf16) (harg2 : arg2.IsWhole)
  (arg3 : Memref sig .tc .vmem S2x2x8x1x128 .f32) (harg3 : arg3.IsWhole) (arg4 : Memref sig .tc .vmem S2x2x8x128x128 .bf16) (harg4 : arg4.IsWhole)
  (arg5 : Memref sig .tc .vmem S2x2x256x256 .f32) (harg5 : arg5.IsWhole) (arg6 : Memref sig .tc .vmem S2x2x32x128x64 .f32) (harg6 : arg6.IsWhole)
  (v0 : Vec Ideal S128x128 .bf16) (x : Vec Ideal S32x1x2x2x64x128 .f32)

/-- Every piece of a trip agrees with the scratch's final contents. -/
theorem trip_pieces (k : Fin k0_t1_loop.trips) : ∀ p ∈ tripL_k0_t1 (F := Ideal) 𝒱 c bd i arg1 harg1 arg2 harg2 arg3 harg3 arg4 harg4 arg5 harg5 arg6 harg6 v0
    (harg1.unread x) k, ∀ z, p.2 z = grouped v0 x (p.1.emb z) := by
  have hk : k.val < 32 := Nat.lt_of_lt_of_le k.isLt k0_t1_abs.2.1
  unfold tripL_k0_t1 trip_k0_t1
  dsimp only
  unfold trip_k0_t1.sl.r
  simp only [View.readAt_eq_ld, Memref.IsWhole.read_unread]
  intro p hp z
  simp only [List.mem_cons, List.not_mem_nil, or_false] at hp
  rcases hp with rfl | rfl | rfl | rfl
  · exact store_eq v0 x ⟨k.val, hk⟩ 1 1 (k0_off8_eq k) _ (k0_off7_eq k) (k0_off8_inb k) (k0_off7_inb k) z
  · exact store_eq v0 x ⟨k.val, hk⟩ 1 0 (k0_off6_eq k) _ (k0_off5_eq k) (k0_off6_inb k) (k0_off5_inb k) z
  · exact store_eq v0 x ⟨k.val, hk⟩ 0 1 (k0_off4_eq k) _ (k0_off3_eq k) (k0_off4_inb k) (k0_off3_inb k) z
  · exact store_eq v0 x ⟨k.val, hk⟩ 0 0 (k0_off2_eq k) _ (k0_off1_eq k) (k0_off2_inb k) (k0_off1_inb k) z

/-- Every piece of the trips before `n` agrees with the scratch's final contents. -/
theorem loop_pieces : ∀ n, n ≤ k0_t1_loop.trips → ∀ p ∈ pb_k0_t1 (F := Ideal) 𝒱 c bd i arg1 harg1 arg2 harg2 arg3 harg3 arg4 harg4 arg5 harg5 arg6 harg6 v0
    (harg1.unread x) n, ∀ z, p.2 z = grouped v0 x (p.1.emb z)
  | 0, _ => fun p hp => by simp [pb_k0_t1] at hp
  | n + 1, h => fun p hp => by
    rw [pb_k0_t1_succ (F := Ideal) 𝒱 c bd i arg1 harg1 arg2 harg2 arg3 harg3 arg4 harg4 arg5 harg5 arg6 harg6 v0 (harg1.unread x) ⟨n, h⟩] at hp
    rcases List.mem_append.1 hp with hp | hp
    · exact trip_pieces 𝒱 c bd i arg1 harg1 arg2 harg2 arg3 harg3 arg4 harg4 arg5 harg5 arg6 harg6 v0 x ⟨n, h⟩ p hp
    · exact loop_pieces n (Nat.le_of_succ_le h) p hp

/-- A load from the scratch after the loop reads its final contents. -/
theorem load_eq (v : View sig .tc .vmem S2x2x32x128x64 .f32) (B : LoadRect S2x2x32x128x64) :
    v.readCov (pb_k0_t1 (F := Ideal) 𝒱 c bd i arg1 harg1 arg2 harg2 arg3 harg3 arg4 harg4 arg5 harg5 arg6 harg6 v0 (harg1.unread x)
      (Scf.trips k0_t1_loop.lb k0_t1_loop.ub k0_t1_loop.st)) B = fun j => grouped v0 x (B.idx j) := by
  rw [View.readCov_eq_canon']
  funext j
  refine View.canon_apply_of_pieces (Val := Elt Ideal) (e := .f32) (grouped v0 x) _
    (loop_pieces 𝒱 c bd i arg1 harg1 arg2 harg2 arg3 harg3 arg4 harg4 arg5 harg5 arg6 harg6 v0 x (Scf.trips k0_t1_loop.lb k0_t1_loop.ub k0_t1_loop.st) le_rfl) _ ?_
  exact View.cover_of_tiledL (pb_k0_t1 (F := Ideal) 𝒱 c bd i arg1 harg1 arg2 harg2 arg3 harg3 arg4 harg4 arg5 harg5 arg6 harg6 v0 (harg1.unread x)
    (Scf.trips k0_t1_loop.lb k0_t1_loop.ub k0_t1_loop.st)) S1x1x1x128x64.size (by sl_kernel_rfl) _

end

end Cert.CmpProjIdeal.Value

end

end
-- ==== Proof.CmpTable.lean ====
/- The table of the page permutation, read at an entry. -/
module

public import proofs.«01_k».proof.CmpProjIdeal

@[expose] public section

set_option maxRecDepth 16384

namespace Cert.CmpProjIdeal.Value

open Cert.CmpProjIdeal

/-- Row `s` of the table has its one at column `16 (s % 8) + s / 8`. -/
theorem lit_eq : ∀ s r : Fin 128,
    lit0t (128 * s.val + r.val) = if r.val = 16 * (s.val % 8) + s.val / 8 then 0x3F80#16 else 0#16 := by
  decide +kernel

end Cert.CmpProjIdeal.Value

end
-- ==== Proof.CmpProjRead.lean ====
/- The compression's projections: the kernel's blocks as entries of the argument arrays. -/
module

public import proofs.«01_k».proof.Proof.CmpProjLoop
public import proofs.«01_k».proof.Proof.CmpTable
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CmpProjIdeal.Value

open Cert.CmpProjIdeal Cert.CmpProjIdeal.Gen

variable (m : (ℓ : Loc nD τ sig) → Buf (Elt Ideal) ℓ)

/-- The index maps of the windows. -/
theorem idx : ∀ t : Fin cfg0.N, win0_0.index t = ![t.val, 0, 0, 0, 0, 0] ∧ win0_1.index t = ![0, 0]
    ∧ win0_2.index t = ![0, 0, 0, 0, 0] ∧ win0_3.index t = ![0, 0, 0, 0, 0] ∧ win0_4.index t = ![0, 0, t.val, 0] ∧ t.val < 320 :=
  (by decide +kernel : ∀ t : Fin grid0.N, _)

/-- The permutation's block: row `s` has its one at column `16 (s % 8) + s / 8`. -/
theorem table (c : Dev nD) (t : Fin cfg0.N) (s r : Fin 128) :
    iblk m c 1 t (ix2 s r) = if r.val = 16 * (s.val % 8) + s.val / 8 then (1 : EReal) else 0 := by
  blk_simp [iblk]
  entry_read
  have e : (((View.whole main_cst).slice (win0_1.rect t)).emb (ix2 s r) : S128x128.Idx) = ix2 s r := by
    blk_ext [idx t]
  have n : (S128x128.rowMajor (ix2 s r)).val = 128 * s.val + r.val := by
    rw [Shape.rowMajor_val_two]
    show s.val * 128 + r.val = _
    omega
  rw [e]
  have q : lit0 (S128x128.rowMajor (ix2 s r)) = lit0t (128 * s.val + r.val) := by
    rw [← n]
  rw [q, lit_eq]
  split
  · show Ideal.ofBits .bf16 _ = _
    simp
  · show Ideal.ofBits .bf16 _ = _
    simp

/-- The rows' block: the pages of layer 0, keys and values, turned. -/
theorem page (c : Dev nD) (t : Fin cfg0.N) (p : Fin 32) (k g : Fin 2) (d : Fin 64) (r : Fin 128) :
    iblk m c 0 t (ix6 p 0 k g d r) = m ((c : Thread nD τ).loc main_arg0)
      (ix6 (⟨32 * t.val + p.val, by have := (idx t).2.2.2.2.2; omega⟩ : Fin 10240) r 0 (⟨k.val, by omega⟩ : Fin 4) g d) := by
  blk_simp [iblk]
  entry_read
  have e : (((View.whole main_v0).slice (win0_0.rect t)).emb (ix6 p 0 k g d r) : S10240x2x4x2x64x128.Idx)
      = ix6 (⟨32 * t.val + p.val, by have := (idx t).2.2.2.2.2; omega⟩ : Fin 10240) 0 (⟨k.val, by omega⟩ : Fin 4) g d r := by
    blk_ext [idx t]
  rw [e]
  pointwise

/-- The embeddings' block, at position `2 q + a` of half `u`. -/
theorem embed (c : Dev nD) (t : Fin cfg0.N) (k u : Fin 2) (q : Fin 8) (a : Fin 2) (d : Fin 64) :
    iblk m c 2 t (ix5 k u q 0 (⟨64 * a.val + d.val, by omega⟩ : Fin 128)) = m ((c : Thread nD τ).loc main_arg1)
      (ix3 k (⟨16 * u.val + (2 * q.val + a.val), by omega⟩ : Fin 32) d) := by
  blk_simp [iblk]
  entry_read
  have e : (((View.whole main_v1).slice (win0_2.rect t)).emb (ix5 k u q 0 (⟨64 * a.val + d.val, by omega⟩ : Fin 128)) : S2x2x8x1x128.Idx)
      = ix5 k u q 0 (⟨64 * a.val + d.val, by omega⟩ : Fin 128) := by
    blk_ext [idx t]
  rw [e]
  pointwise
  exact congrArg (m (c, Proc.tc.devRef main_arg1)) (by idx_ext)

/-- The weights' block, at position `2 q + a` of half `u`. -/
theorem weight (c : Dev nD) (t : Fin cfg0.N) (k u : Fin 2) (q : Fin 8) (a : Fin 2) (d : Fin 64) (h : Fin 128) :
    iblk m c 3 t (ix5 k u q (⟨64 * a.val + d.val, by omega⟩ : Fin 128) h) = m ((c : Thread nD τ).loc main_arg2)
      (ix4 k (⟨16 * u.val + (2 * q.val + a.val), by omega⟩ : Fin 32) d h) := by
  blk_simp [iblk]
  entry_read
  have e : (((View.whole main_v3).slice (win0_3.rect t)).emb (ix5 k u q (⟨64 * a.val + d.val, by omega⟩ : Fin 128) h) : S2x2x8x128x128.Idx)
      = ix5 k u q (⟨64 * a.val + d.val, by omega⟩ : Fin 128) h := by
    blk_ext [idx t]
  rw [e]
  pointwise
  exact congrArg (m (c, Proc.tc.devRef main_arg2)) (by idx_ext)

/-- The regrouped rows as a sum over the rows of a page. -/
theorem grouped_sum (P : FVec Ideal S128x128 .bf16) (x : FVec Ideal S32x1x2x2x64x128 .f32) (k g : Fin 2) (p : Fin 32) (s : Fin 128) (d : Fin 64) :
    grouped P x (ix5 k g p s d) = ∑ r : Fin 128, P (ix2 s r) * x (ix6 p 0 k g d r) := rfl

/-- The regrouped rows: position `j` of stride `n` of a page is its row `16 n + j`. -/
theorem grouped_apply (c : Dev nD) (t : Fin cfg0.N) (k g : Fin 2) (p : Fin 32) (n : Fin 8) (j : Fin 16) (d : Fin 64) :
    grouped (iblk m c 1 t) (iblk m c 0 t) (ix5 k g p (⟨8 * j.val + n.val, by omega⟩ : Fin 128) d)
      = m ((c : Thread nD τ).loc main_arg0) (ix6 (⟨32 * t.val + p.val, by have := (idx t).2.2.2.2.2; omega⟩ : Fin 10240)
          (⟨n.val * 16 + j.val, by omega⟩ : Fin 128) 0 (⟨k.val, by omega⟩ : Fin 4) g d) := by
  rw [grouped_sum, Finset.sum_eq_single (⟨n.val * 16 + j.val, by omega⟩ : Fin 128), table, page, if_pos, one_mul]
  · show n.val * 16 + j.val = 16 * ((8 * j.val + n.val) % 8) + (8 * j.val + n.val) / 8
    omega
  · intro r _ hr
    rw [table, if_neg, zero_mul]
    show ¬ r.val = 16 * ((8 * j.val + n.val) % 8) + (8 * j.val + n.val) / 8
    intro h
    exact hr (Fin.ext (by show r.val = n.val * 16 + j.val; omega))
  · exact fun h => absurd (Finset.mem_univ _) h

end Cert.CmpProjIdeal.Value

end

end
-- ==== Proof.CmpProjMath.lean ====
/- The compression's projections: the sum that both sides compute, and the reference read as it. -/
module

public import proofs.«01_k».proof.Proof.Gen.CmpProjRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.CmpProj.Math

/-- One element of a projection: the 16 rows of a stride, each of 64 features, shifted by their position's embedding and
    multiplied with the weights of one hidden unit. -/
def compress (x p w : Fin 16 → Fin 64 → EReal) : EReal := ∑ j, ∑ d, (x j d + p j d) * w j d

/-- Sixteen terms added in pairs, one pair after the other. -/
theorem sum_pairs (f : Fin 16 → EReal) : ∑ j, f j
    = 0 + (f 0 + f 1) + (f 2 + f 3) + (f 4 + f 5) + (f 6 + f 7) + (f 8 + f 9) + (f 10 + f 11) + (f 12 + f 13) + (f 14 + f 15) := by
  simp only [Fin.sum_univ_succ, Finset.univ_eq_empty, Finset.sum_empty, add_zero, zero_add, add_assoc]
  rfl

end Cert.CmpProj.Math

namespace Cert.CmpProjRefIdeal.Value

open Cert.CmpProjRefIdeal Cert.CmpProjRefIdeal.Gen Cert.CmpProjRefIdeal.Read Cert.CmpProj.Math

/-- The rows with the first half of the embedding. -/
theorem rows_lo (x : FVec Ideal S10240x128x2x4x2x64 .f32) (pe : FVec Ideal S2x32x64 .f32)
    (b : Fin 10240) (n : Fin 8) (j : Fin 16) (k g : Fin 2) (d : Fin 64) :
    val_main_v8 (F := Ideal) x pe (ix6 b n j k g d)
      = x (ix6 b (⟨n.val * 16 + j.val, by omega⟩ : Fin 128) 0 (⟨k.val, by omega⟩ : Fin 4) g d)
        + pe (ix3 k (⟨j.val, by omega⟩ : Fin 32) d) := by
  pointwise [val_main_v0, val_main_v1, val_main_v2, val_main_v3, val_main_v4, val_main_v5, val_main_v6, val_main_v7, val_main_v8]

/-- The rows with the second half of the embedding. -/
theorem rows_hi (x : FVec Ideal S10240x128x2x4x2x64 .f32) (pe : FVec Ideal S2x32x64 .f32)
    (b : Fin 10240) (n : Fin 8) (j : Fin 16) (k g : Fin 2) (d : Fin 64) :
    val_main_v17 (F := Ideal) x pe (ix6 b n j k g d)
      = x (ix6 b (⟨n.val * 16 + j.val, by omega⟩ : Fin 128) 0 (⟨k.val, by omega⟩ : Fin 4) g d)
        + pe (ix3 k (⟨16 + j.val, by omega⟩ : Fin 32) d) := by
  pointwise [val_main_v0, val_main_v1, val_main_v2, val_main_v12, val_main_v13, val_main_v14, val_main_v15, val_main_v16, val_main_v17]

/-- The product over position and feature. -/
theorem dot_apply (w : FVec Ideal S2x16x64x128 .f32) (x : FVec Ideal S10240x8x16x2x2x64 .f32)
    (k : Fin 2) (h : Fin 128) (b : Fin 10240) (n : Fin 8) (g : Fin 2) :
    Host.dotGeneral (F := Ideal) dot_S2x16x64x128_S10240x8x16x2x2x64_S2x128x10240x8x2_21_52_3_014_0_3 none w x (ix5 k h b n g)
      = ∑ j : Fin 16, ∑ d : Fin 64, x (ix6 b n j k g d) * w (ix4 k j d h) := by
  rw [Finset.sum_comm]
  simp only [mul_comm (x _)]
  pointwise

/-- The reference's result at a hidden unit of the first half. -/
theorem ref_lo (x : FVec Ideal S10240x128x2x4x2x64 .f32) (pe : FVec Ideal S2x32x64 .f32) (w : FVec Ideal S2x32x64x128 .f32)
    (k g : Fin 2) (b : Fin 10240) (n : Fin 8) (h : Fin 128) :
    val_main_v11 (F := Ideal) x pe w (ix5 k g b n h)
      = compress (fun j d => x (ix6 b (⟨n.val * 16 + j.val, by omega⟩ : Fin 128) 0 (⟨k.val, by omega⟩ : Fin 4) g d))
          (fun j d => pe (ix3 k (⟨j.val, by omega⟩ : Fin 32) d)) (fun j d => w (ix4 k (⟨j.val, by omega⟩ : Fin 32) d h)) := by
  have e : idx_main_v11 (ix5 k g b n h) = ix5 k h b n g := by idx_ext
  have e9 : ∀ j d, idx_main_v9 (ix4 k j d h) = ix4 k (⟨j.val, by omega⟩ : Fin 32) d h := fun j d => by idx_ext
  rw [val_main_v11_apply, e, val_main_v10, dot_apply]
  simp only [rows_lo, val_main_v9_apply, e9]
  rfl

/-- The reference's result at a hidden unit of the second half. -/
theorem ref_hi (x : FVec Ideal S10240x128x2x4x2x64 .f32) (pe : FVec Ideal S2x32x64 .f32) (w : FVec Ideal S2x32x64x128 .f32)
    (k g : Fin 2) (b : Fin 10240) (n : Fin 8) (h : Fin 128) :
    val_main_v20 (F := Ideal) x pe w (ix5 k g b n h)
      = compress (fun j d => x (ix6 b (⟨n.val * 16 + j.val, by omega⟩ : Fin 128) 0 (⟨k.val, by omega⟩ : Fin 4) g d))
          (fun j d => pe (ix3 k (⟨16 + j.val, by omega⟩ : Fin 32) d)) (fun j d => w (ix4 k (⟨16 + j.val, by omega⟩ : Fin 32) d h)) := by
  have e : idx_main_v20 (ix5 k g b n h) = ix5 k h b n g := by idx_ext
  have e9 : ∀ j d, idx_main_v18 (ix4 k j d h) = ix4 k (⟨16 + j.val, by omega⟩ : Fin 32) d h := fun j d => by idx_ext
  rw [val_main_v20_apply, e, val_main_v19, dot_apply]
  simp only [rows_hi, val_main_v18_apply, e9]
  rfl

/-- The reference's result, element by element: hidden unit `h` of half `u`, at stride `n` of page `b`. -/
theorem ref_apply (x : FVec Ideal S10240x128x2x4x2x64 .f32) (pe : FVec Ideal S2x32x64 .f32) (w : FVec Ideal S2x32x64x128 .f32)
    (k g : Fin 2) (b : Fin 10240) (n : Fin 8) (u : Fin 2) (h : Fin 128) :
    val_main_v22 (F := Ideal) x pe w (ix4 k g (⟨8 * b.val + n.val, by omega⟩ : Fin 81920) (⟨128 * u.val + h.val, by omega⟩ : Fin 256))
      = compress (fun j d => x (ix6 b (⟨n.val * 16 + j.val, by omega⟩ : Fin 128) 0 (⟨k.val, by omega⟩ : Fin 4) g d))
          (fun j d => pe (ix3 k (⟨16 * u.val + j.val, by omega⟩ : Fin 32) d))
          (fun j d => w (ix4 k (⟨16 * u.val + j.val, by omega⟩ : Fin 32) d h)) := by
  have e : idx_main_v22 (ix4 k g (⟨8 * b.val + n.val, by omega⟩ : Fin 81920) (⟨128 * u.val + h.val, by omega⟩ : Fin 256))
      = ix5 k g b n (⟨128 * u.val + h.val, by omega⟩ : Fin 256) := by idx_ext
  rw [val_main_v22_apply, e, val_main_v21]
  match u with
  | ⟨0, _⟩ =>
    have l := ref_lo x pe w k g b n h
    generalize val_main_v11 (F := Ideal) x pe w = v at l ⊢
    generalize val_main_v20 (F := Ideal) x pe w = v' at l ⊢
    pointwise [l]
  | ⟨1, _⟩ =>
    have l := ref_hi x pe w k g b n h
    generalize val_main_v11 (F := Ideal) x pe w = v at l ⊢
    generalize val_main_v20 (F := Ideal) x pe w = v' at l ⊢
    pointwise [l]

end Cert.CmpProjRefIdeal.Value

end

end
-- ==== Proof.CmpProjClaim.lean ====
/- The compression's projections: the kernel's output array is the reference's, element by element. -/
module

public import proofs.«01_k».proof.Proof.CmpProjRead
public import proofs.«01_k».proof.Proof.CmpProjMath
public import proofs.«01_k».proof.Proof.Gen.CmpProjRefIdeal.Run
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CmpProjIdeal.Value

open Cert.CmpProjIdeal Cert.CmpProjIdeal.Gen Cert.CmpProj.Math

/-- One accumulation: two positions' rows side by side, shifted and multiplied. -/
def step (acc : FVec Ideal S256x128 .f32) (a b : FVec Ideal S1x1x32x8x64 .f32) (pe : FVec Ideal S1x1x1x1x128 .f32)
    (w : FVec Ideal S1x1x1x128x128 .bf16) : FVec Ideal S256x128 .f32 :=
  k0_pay10 acc (k0_pay9 a b pe) w

/-- One accumulation, element by element. -/
theorem step_apply (acc : FVec Ideal S256x128 .f32) (a b : FVec Ideal S1x1x32x8x64 .f32) (pe : FVec Ideal S1x1x1x1x128 .f32)
    (w : FVec Ideal S1x1x1x128x128 .bf16) (p : Fin 32) (n : Fin 8) (h : Fin 128) :
    step acc a b pe w (ix2 (⟨8 * p.val + n.val, by omega⟩ : Fin 256) h) = acc (ix2 (⟨8 * p.val + n.val, by omega⟩ : Fin 256) h)
      + (∑ d : Fin 64, (a (ix5 0 0 p n d) + pe (ix5 0 0 0 0 (⟨d.val, by omega⟩ : Fin 128))) * w (ix5 0 0 0 (⟨d.val, by omega⟩ : Fin 128) h)
       + ∑ d : Fin 64, (b (ix5 0 0 p n d) + pe (ix5 0 0 0 0 (⟨64 + d.val, by omega⟩ : Fin 128))) * w (ix5 0 0 0 (⟨64 + d.val, by omega⟩ : Fin 128) h)) := by
  pointwise [step, k0_pay10, k0_pay9, k0_pay7]

/-- The two halves side by side, as the block stores them. -/
def joined (a b : FVec Ideal S256x128 .f32) : FVec Ideal S1x1x256x256 .f32 :=
  shapeCast S1x1x256x256 (concatenate S256x256 1 [⟨S256x128, a⟩, ⟨S256x128, b⟩] concatenates_S256x128_S256x128_S256x256_d1)
    shapeCasts_S256x256_S1x1x256x256

/-- The first half, element by element. -/
theorem joined_lo (a b : FVec Ideal S256x128 .f32) (r : Fin 256) (h : Fin 128) :
    joined a b (ix4 0 0 r (⟨128 * 0 + h.val, by omega⟩ : Fin 256)) = a (ix2 r h) := by
  pointwise [joined]

/-- The second half, element by element. -/
theorem joined_hi (a b : FVec Ideal S256x128 .f32) (r : Fin 256) (h : Fin 128) :
    joined a b (ix4 0 0 r (⟨128 * 1 + h.val, by omega⟩ : Fin 256)) = b (ix2 r h) := by
  pointwise [joined]

section Chain

variable (R : (B : LoadRect S2x2x32x128x64) → B.shape.Idx → EReal)
  (P : FVec Ideal S2x2x8x1x128 .f32) (W : FVec Ideal S2x2x8x128x128 .bf16)

theorem slab_inb : ∀ (k g : Fin 2) (j : Fin 16) (a : Fin 5),
    (![k.val, g.val, 0, 8 * j.val, 0] : Fin 5 → Nat) a + S1x1x32x8x64.size a ≤ S2x2x32x128x64.size a := by decide +kernel

theorem embed_inb : ∀ (k u : Fin 2) (q : Fin 8) (a : Fin 5),
    (![k.val, u.val, q.val, 0, 0] : Fin 5 → Nat) a + S1x1x1x1x128.size a ≤ S2x2x8x1x128.size a := by decide +kernel

theorem weights_inb : ∀ (k u : Fin 2) (q : Fin 8) (a : Fin 5),
    (![k.val, u.val, q.val, 0, 0] : Fin 5 → Nat) a + S1x1x1x128x128.size a ≤ S2x2x8x128x128.size a := by decide +kernel

/-- The rows of one position of every stride: kind `k`, group `g`, position `j`. -/
def slab (k g : Fin 2) (j : Fin 16) : FVec Ideal S1x1x32x8x64 .f32 :=
  R (Rect.unit (s := S2x2x32x128x64) ![k.val, g.val, 0, 8 * j.val, 0] S1x1x32x8x64.size (slab_inb k g j)).toLoadRect

/-- The accumulation of a pair of positions. -/
def pair (k g u : Fin 2) (q : Fin 8) (acc : FVec Ideal S256x128 .f32) : FVec Ideal S256x128 .f32 :=
  step acc (slab R k g ⟨2 * q.val, by omega⟩) (slab R k g ⟨2 * q.val + 1, by omega⟩)
    (View.ld (Val := Elt Ideal) (e' := .f32) P (Rect.unit (s := S2x2x8x1x128) ![k.val, u.val, q.val, 0, 0] S1x1x1x1x128.size (embed_inb k u q)))
    (View.ld (Val := Elt Ideal) (e' := .bf16) W (Rect.unit (s := S2x2x8x128x128) ![k.val, u.val, q.val, 0, 0] S1x1x1x128x128.size (weights_inb k u q)))

/-- The eight accumulations of one half. -/
def chain (k g u : Fin 2) : FVec Ideal S256x128 .f32 :=
  pair R P W k g u 7 (pair R P W k g u 6 (pair R P W k g u 5 (pair R P W k g u 4
    (pair R P W k g u 3 (pair R P W k g u 2 (pair R P W k g u 1 (pair R P W k g u 0 (k0_pay6 (F := Ideal)))))))))

end Chain

variable (S : FVec Ideal S2x2x32x128x64 .f32) (P : FVec Ideal S2x2x8x1x128 .f32) (W : FVec Ideal S2x2x8x128x128 .bf16)

/-- The contribution of one position. -/
def position (k g u : Fin 2) (p : Fin 32) (n : Fin 8) (h : Fin 128) (j : Fin 16) : EReal :=
  ∑ d : Fin 64, (S (ix5 k g p (⟨8 * j.val + n.val, by omega⟩ : Fin 128) d)
      + P (ix5 k u (⟨j.val / 2, by omega⟩ : Fin 8) 0 (⟨64 * (j.val % 2) + d.val, by omega⟩ : Fin 128)))
    * W (ix5 k u (⟨j.val / 2, by omega⟩ : Fin 8) (⟨64 * (j.val % 2) + d.val, by omega⟩ : Fin 128) h)

/-- A pair of positions adds their contributions. -/
theorem pair_apply (k g u : Fin 2) (q : Fin 8) (acc : FVec Ideal S256x128 .f32) (p : Fin 32) (n : Fin 8) (h : Fin 128) :
    pair (fun B j => S (B.idx j)) P W k g u q acc (ix2 (⟨8 * p.val + n.val, by omega⟩ : Fin 256) h)
      = acc (ix2 (⟨8 * p.val + n.val, by omega⟩ : Fin 256) h)
        + (position S P W k g u p n h ⟨2 * q.val, by omega⟩ + position S P W k g u p n h ⟨2 * q.val + 1, by omega⟩) := by
  rw [pair, step_apply]
  refine congrArg₂ _ rfl (congrArg₂ _ (Finset.sum_congr rfl fun d _ => ?_) (Finset.sum_congr rfl fun d _ => ?_))
  · refine congrArg₂ _ (congrArg₂ _ (congrArg S ?_) (congrArg P ?_)) (congrArg W ?_) <;> idx_ext
  · refine congrArg₂ _ (congrArg₂ _ (congrArg S ?_) (congrArg P ?_)) (congrArg W ?_) <;> idx_ext

/-- The eight accumulations add the contributions of the sixteen positions. -/
theorem chain_apply (k g u : Fin 2) (p : Fin 32) (n : Fin 8) (h : Fin 128) :
    chain (fun B j => S (B.idx j)) P W k g u (ix2 (⟨8 * p.val + n.val, by omega⟩ : Fin 256) h)
      = ∑ j, position S P W k g u p n h j := by
  have z : k0_pay6 (F := Ideal) (ix2 (⟨8 * p.val + n.val, by omega⟩ : Fin 256) h) = 0 := by pointwise [k0_pay6]
  rw [chain, pair_apply, pair_apply, pair_apply, pair_apply, pair_apply, pair_apply, pair_apply, pair_apply, z, sum_pairs]
  rfl

/-- What the block holds after the body. -/
def blockOut (y : S2x2x256x256.Idx) : EReal :=
  joined (chain (fun B j => S (B.idx j)) P W (y 0) (y 1) 0) (chain (fun B j => S (B.idx j)) P W (y 0) (y 1) 1) (ix4 0 0 (y 2) (y 3))

variable (m : (ℓ : Loc nD τ sig) → Buf (Elt Ideal) ℓ)

theorem store_inb : ∀ (k g : Fin 2) (a : Fin 4),
    (![k.val, g.val, 0, 0] : Fin 4 → Nat) a + S1x1x256x256.size a ≤ S2x2x256x256.size a := by decide +kernel

/-- A store of one kind and group agrees with what the block holds after the body. -/
theorem stored (k g : Fin 2) (z : S1x1x256x256.Idx) :
    joined (chain (fun B j => S (B.idx j)) P W k g 0) (chain (fun B j => S (B.idx j)) P W k g 1) z
      = blockOut S P W ((Rect.unit (s := S2x2x256x256) ![k.val, g.val, 0, 0] S1x1x256x256.size (store_inb k g)).emb z) := by
  idx_vars z
  obtain rfl : z0 = 0 := Subsingleton.elim _ _
  obtain rfl : z1 = 0 := Subsingleton.elim _ _
  have e : (Rect.unit (s := S2x2x256x256) ![k.val, g.val, 0, 0] S1x1x256x256.size (store_inb k g)).emb (ix4 0 0 z2 z3) = ix4 k g z2 z3 := by idx_ext
  rw [e]
  rfl

/-- The block after the body. -/
theorem outs_eq (c : Dev nD) (t : Fin cfg0.N) (y : S2x2x256x256.Idx) :
    outsAt0 m c t y = blockOut (grouped (iblk m c 1 t) (iblk m c 0 t)) (iblk m c 2 t) (iblk m c 3 t) y := by
  have hy := cover0_A_4 (F := Ideal) c (grid0.coords t) (ms0_0 t) (hs0_0 t) (ms0_1 t) (hs0_1 t) (ms0_2 t) (hs0_2 t) (ms0_3 t) (hs0_3 t) (ms0_4 t) (hs0_4 t)
    scM0_0 (Memref.isWhole_whole _) (iblk m c 0 t) (iblk m c 1 t) (iblk m c 2 t) (iblk m c 3 t) y
  unfold outsAt0
  frame_out
  frame_out at hy
  refine View.canon_apply_of_pieces (Val := Elt Ideal) (e := .f32) (blockOut (grouped (iblk m c 1 t) (iblk m c 0 t)) (iblk m c 2 t) (iblk m c 3 t)) _ ?_ _ hy
  let R : (B : LoadRect S2x2x32x128x64) → B.shape.Idx → EReal := fun B => (View.whole cc0_scratch0).readCov
    (pb_k0_t1 (F := Ideal) Variants.none c none (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 1 t) ((hs0_0 t).unread (iblk m c 0 t))
      (Scf.trips k0_t1_loop.lb k0_t1_loop.ub k0_t1_loop.st)) B
  have hR : R = fun B j => grouped (iblk m c 1 t) (iblk m c 0 t) (B.idx j) :=
    funext fun B => load_eq Variants.none c none (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 1 t) (iblk m c 0 t) (View.whole cc0_scratch0) B
  intro p hp z
  simp only [List.mem_cons, List.not_mem_nil, or_false] at hp
  rcases hp with rfl | rfl | rfl | rfl
  · refine (congrFun (?_ : _ = joined (chain R (iblk m c 2 t) (iblk m c 3 t) 1 1 0) (chain R (iblk m c 2 t) (iblk m c 3 t) 1 1 1)) z).trans ?_
    · rfl
    · rw [hR]
      exact stored _ _ _ 1 1 z
  · refine (congrFun (?_ : _ = joined (chain R (iblk m c 2 t) (iblk m c 3 t) 1 0 0) (chain R (iblk m c 2 t) (iblk m c 3 t) 1 0 1)) z).trans ?_
    · rfl
    · rw [hR]
      exact stored _ _ _ 1 0 z
  · refine (congrFun (?_ : _ = joined (chain R (iblk m c 2 t) (iblk m c 3 t) 0 1 0) (chain R (iblk m c 2 t) (iblk m c 3 t) 0 1 1)) z).trans ?_
    · rfl
    · rw [hR]
      exact stored _ _ _ 0 1 z
  · refine (congrFun (?_ : _ = joined (chain R (iblk m c 2 t) (iblk m c 3 t) 0 0 0) (chain R (iblk m c 2 t) (iblk m c 3 t) 0 0 1)) z).trans ?_
    · rfl
    · rw [hR]
      exact stored _ _ _ 0 0 z

/-- What the block holds after the body, element by element: hidden unit `h` of half `u`, at stride `n` of page `p`. -/
theorem blockOut_apply (k g u : Fin 2) (p : Fin 32) (n : Fin 8) (h : Fin 128) :
    blockOut S P W (ix4 k g (⟨8 * p.val + n.val, by omega⟩ : Fin 256) (⟨128 * u.val + h.val, by omega⟩ : Fin 256))
      = ∑ j, position S P W k g u p n h j := by
  match u with
  | 0 => exact (joined_lo _ _ _ h).trans (chain_apply S P W k g 0 p n h)
  | 1 => exact (joined_hi _ _ _ h).trans (chain_apply S P W k g 1 p n h)

/-- The contribution of one position, in the argument arrays. -/
theorem position_eq (c : Dev nD) (t : Fin cfg0.N) (k g u : Fin 2) (p : Fin 32) (n : Fin 8) (h : Fin 128) (j : Fin 16)
    (x : FVec Ideal S10240x128x2x4x2x64 .f32) (hx : m ((c : Thread nD τ).loc main_arg0) = x)
    (pe : FVec Ideal S2x32x64 .f32) (hp : m ((c : Thread nD τ).loc main_arg1) = pe)
    (w : FVec Ideal S2x32x64x128 .f32) (hw : m ((c : Thread nD τ).loc main_arg2) = w) :
    position (grouped (iblk m c 1 t) (iblk m c 0 t)) (iblk m c 2 t) (iblk m c 3 t) k g u p n h j
      = ∑ d : Fin 64, (x (ix6 (⟨32 * t.val + p.val, by have := (idx t).2.2.2.2.2; omega⟩ : Fin 10240)
          (⟨n.val * 16 + j.val, by omega⟩ : Fin 128) 0 (⟨k.val, by omega⟩ : Fin 4) g d)
        + pe (ix3 k (⟨16 * u.val + j.val, by omega⟩ : Fin 32) d)) * w (ix4 k (⟨16 * u.val + j.val, by omega⟩ : Fin 32) d h) := by
  subst hx hp hw
  have e : (⟨16 * u.val + (2 * (j.val / 2) + j.val % 2), by omega⟩ : Fin 32) = ⟨16 * u.val + j.val, by omega⟩ := Fin.ext (by
    show 16 * u.val + (2 * (j.val / 2) + j.val % 2) = 16 * u.val + j.val
    omega)
  refine Finset.sum_congr rfl fun d _ => ?_
  have a1 := embed m c t k u ⟨j.val / 2, by omega⟩ ⟨j.val % 2, by omega⟩ d
  have a2 := weight m c t k u ⟨j.val / 2, by omega⟩ ⟨j.val % 2, by omega⟩ d h
  rw [e] at a1 a2
  exact congrArg₂ _ (congrArg₂ _ (grouped_apply m c t k g p n j d) a1) a2

/-- What a grid point writes at a block index is the reference's result at the array index it sits at. -/
theorem point (c : Dev nD) (t : Fin cfg0.N) (y : S2x2x256x256.Idx) :
    blockOut (grouped (iblk m c 1 t) (iblk m c 0 t)) (iblk m c 2 t) (iblk m c 3 t) y
      = Cert.CmpProjRefIdeal.Read.val_main_v22 (F := Ideal) (m ((c : Thread nD τ).loc main_arg0)) (m ((c : Thread nD τ).loc main_arg1))
          (m ((c : Thread nD τ).loc main_arg2)) (((cfg0.win 4).blk t).view.emb y) := by
  have ht := (idx t).2.2.2.2.2
  idx_vars y
  obtain ⟨p, n, rfl⟩ : ∃ (p : Fin 32) (n : Fin 8), y2 = (⟨8 * p.val + n.val, by omega⟩ : Fin 256) :=
    ⟨⟨y2.val / 8, by omega⟩, ⟨y2.val % 8, by omega⟩, Fin.ext (by show y2.val = 8 * (y2.val / 8) + y2.val % 8; omega)⟩
  obtain ⟨u, h, rfl⟩ : ∃ (u : Fin 2) (h : Fin 128), y3 = (⟨128 * u.val + h.val, by omega⟩ : Fin 256) :=
    ⟨⟨y3.val / 128, by omega⟩, ⟨y3.val % 128, by omega⟩, Fin.ext (by show y3.val = 128 * (y3.val / 128) + y3.val % 128; omega)⟩
  have e : (((cfg0.win 4).blk t).view.emb (ix4 y0 y1 (⟨8 * p.val + n.val, by omega⟩ : Fin 256) (⟨128 * u.val + h.val, by omega⟩ : Fin 256)) : S2x2x81920x256.Idx)
      = ix4 y0 y1 (⟨8 * (32 * t.val + p.val) + n.val, by omega⟩ : Fin 81920) (⟨128 * u.val + h.val, by omega⟩ : Fin 256) := by
    blk_ext [idx t]
  rw [e, blockOut_apply]
  refine Eq.trans ?_ (Cert.CmpProjRefIdeal.Value.ref_apply _ _ _ y0 y1 ⟨32 * t.val + p.val, by omega⟩ n u h).symm
  exact Finset.sum_congr rfl fun j _ => position_eq m c t y0 y1 u p n h j _ rfl _ rfl _ rfl

/-- The result array after the run is the reference's term over the arguments. -/
theorem final_eq (c : Dev nD) : (dats m 0 c).arrAt 4 (cfgs 0).N
    = Cert.CmpProjRefIdeal.Read.val_main_v22 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4, outs_eq]
  exact point m c t y

end Cert.CmpProjIdeal.Value

namespace Cert.Proof

/-- The compression's projections compute, over the extended reals, what their reference computes. -/
theorem cmpproj_algebraic : @Cert.algebraic_CmpProjIdeal_CmpProjRefIdeal Cert.CmpProjIdeal.Gen.facts Cert.CmpProjRefIdeal.Gen.facts := by
  pair_intro
  · run_from Cert.CmpProjIdeal.Value.run_blocks m g
  · refine (θ_run _ _ _).mono (fun r h c => ?_) (Cert.CmpProjRefIdeal.Value.run m' g')
    obtain ⟨h1, h2⟩ := h c
    refine ⟨h1.trans ?_, h2⟩
    rw [Cert.CmpProjRefIdeal.Read.val_main_v22_eq, (hagree c).1, (hagree c).2.1, (hagree c).2.2]
    exact (Cert.CmpProjIdeal.Value.final_eq m c).symm

end Cert.Proof

end

end
-- ==== Proof.DiffIdealBody.lean ====
/- The frame of the prompt's differential-attention kernel (`DiffPromptIdeal`): what one grid point's body leaves in the output
   block, from the block of padded queries, the group's rows of keys and values, the slopes, the mixing factor and the gain,
   and the run of the whole launch. The two counted loops over key tiles are carried by a recursion (`sweep`) on the
   running maximum, normaliser and accumulator. -/
module

public import proofs.«01_k».proof.Proof.Gen.DiffPromptIdeal.Frame
public import proofs.«01_k».proof.Proof.Gen.DiffPromptIdeal.Skeleton
public import Idealize.ShloMosaic.Lib.Claim
public import Idealize.ShloMosaic.Lib.VecWindow

@[expose] public section

set_option maxRecDepth 16384

noncomputable section

namespace Cert.DiffPromptIdeal.Diff

open Cert.DiffPromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a loop over key tiles carries: the running maximum, the normaliser and the accumulator. -/
abbrev Carry (F : FTy → Type) : Type := FVec F S4x256x1 .f32 × FVec F S4x256x1 .f32 × FVec F S4x256x128 .f32

/-- The carried value before trip `k` of an `n`-trip loop. -/
def sweep {σ : Type} (n : ℕ) (step : Fin n → σ → σ) (init : σ) : ℕ → σ
  | 0 => init
  | k + 1 => if h : k < n then step ⟨k, h⟩ (sweep n step init k) else sweep n step init k

theorem sweep_succ {σ : Type} (n : ℕ) (step : Fin n → σ → σ) (init : σ) (k : Fin n) :
    sweep n step init (k.val + 1) = step k (sweep n step init k.val) := by
  rw [sweep, dif_pos k.isLt]

theorem sweep_zero {σ : Type} (n : ℕ) (step : Fin n → σ → σ) (init : σ) : sweep n step init 0 = init := rfl

/-- The group's rows of keys, the unit axes dropped. -/
def keys (x1 : Vec F S1x1x2048x128 .f32) : Vec F S2048x128 .f32 :=
  fun y => x1 (Shape.reshapeEquiv squeezes_S1x1x2048x128_S2048x128.numel_eq y)

/-- The tile of keys trip `k` of the first loop loads. -/
def tile1 (i : grid0.Coords) (x1 : Vec F S1x1x2048x128 .f32) (k : Fin (k0_t1_loop i).trips) : Vec F S256x128 .f32 :=
  View.ld (keys x1) (Rect.unit (s := S2048x128) (k0_off1 i k) S256x128.size (k0_off1_inb i k))

/-- The tile of values trip `k` of the first loop loads. -/
def vals1 (i : grid0.Coords) (x2 : Vec F S1x1x2048x128 .f32) (k : Fin (k0_t1_loop i).trips) : Vec F S1x1x256x128 .f32 :=
  View.ld x2 (Rect.unit (s := S1x1x2048x128) (k0_off2 i k) S1x1x256x128.size (k0_off2_inb i k))

/-- The tile of keys trip `k` of the second loop loads. -/
def tile2 (i : grid0.Coords) (x1 : Vec F S1x1x2048x128 .f32) (k : Fin (k0_t2_loop i).trips) : Vec F S256x128 .f32 :=
  View.ld (keys x1) (Rect.unit (s := S2048x128) (k0_off3 i k) S256x128.size (k0_off3_inb i k))

/-- The tile of values trip `k` of the second loop loads. -/
def vals2 (i : grid0.Coords) (x2 : Vec F S1x1x2048x128 .f32) (k : Fin (k0_t2_loop i).trips) : Vec F S1x1x256x128 .f32 :=
  View.ld x2 (Rect.unit (s := S1x1x2048x128) (k0_off4 i k) S1x1x256x128.size (k0_off4_inb i k))

/-- One trip of the first loop. -/
def step1 (i : grid0.Coords) (v4 : FVec F S1024x128 .bf16) (v6 : FVec F S4x1x1 .f32) (v9 : IVec S256x1 32) (x1 x2 : Vec F S1x1x2048x128 .f32)
    (k : Fin (k0_t1_loop i).trips) (a : Carry F) : Carry F :=
  (k0_pay4 i v4 v6 v9 0#32 1#32 k a.1 (tile1 i x1 k),
    k0_pay21 a.2.1 (k0_pay6 i v4 v6 v9 0#32 1#32 k a.1 (tile1 i x1 k)) (k0_pay7 i v4 v6 v9 0#32 1#32 k a.1 (tile1 i x1 k)),
    k0_pay22 a.2.2 (k0_pay2 (vals1 i x2 k)) (k0_pay6 i v4 v6 v9 0#32 1#32 k a.1 (tile1 i x1 k)) (k0_pay7 i v4 v6 v9 0#32 1#32 k a.1 (tile1 i x1 k)))

/-- One trip of the second loop. -/
def step2 (i : grid0.Coords) (v4 : FVec F S1024x128 .bf16) (v6 : FVec F S4x1x1 .f32) (v9 : IVec S256x1 32) (v37 : BitVec 32) (x1 x2 : Vec F S1x1x2048x128 .f32)
    (k : Fin (k0_t2_loop i).trips) (a : Carry F) : Carry F :=
  (k0_pay10 i v4 v6 v9 v37 1#32 k a.1 (tile2 i x1 k),
    k0_pay24 a.2.1 (k0_pay12 i v4 v6 v9 v37 1#32 k a.1 (tile2 i x1 k)) (k0_pay13 i v4 v6 v9 v37 1#32 k a.1 (tile2 i x1 k)),
    k0_pay25 a.2.2 (k0_pay8 (vals2 i x2 k)) (k0_pay12 i v4 v6 v9 v37 1#32 k a.1 (tile2 i x1 k)) (k0_pay13 i v4 v6 v9 v37 1#32 k a.1 (tile2 i x1 k)))

set_option maxHeartbeats 1000000 in
theorem trip1 (c : Dev nD) (i : grid0.Coords) (arg3 : Memref sig .tc .vmem S1x1x4x256x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x4x1x1 .f32) (harg6 : arg6.IsWhole) (arg7 : Memref sig .tc .vmem S1x1 .f32) (harg7 : arg7.IsWhole) (arg8 : Memref sig .tc .vmem S1x128 .f32) (harg8 : arg8.IsWhole) (arg9 : Memref sig .tc .vmem S1x1x2x256x128 .f32) (harg9 : arg9.IsWhole)
    (v4 : FVec F S1024x128 .bf16) (v6 : FVec F S4x1x1 .f32) (v9 : IVec S256x1 32) (v29 : BitVec 32) (v30 v31 : FVec F S4x256x1 .f32) (v32 : FVec F S4x256x128 .f32) (f1 : BufTy.Contents (Elt F) arg4.view.ty) (f2 : BufTy.Contents (Elt F) arg5.view.ty)
    (k : Fin (k0_t1_loop i).trips) (a : Carry F) (E : Set ℕ) :
    (iprop((arg4.view.loc (c : Thread nD τ) ↦[arg4.view.set]{fullShare} f1) ∗ (arg5.view.loc (c : Thread nD τ) ↦[arg5.view.set]{fullShare} f2)) : sProp 𝕄)
      ⊢ wp frame (wpE (defs₀ (F := F)) Variants.none c none) E (k0_t1_body (F := F) i arg3 harg3 arg4 harg4 arg5 harg5 arg6 harg6 arg7 harg7 arg8 harg8 arg9 harg9 v4 v6 v9 v29 v30 v31 v32 k a)
          (fun yld => (iprop(⌜yld = step1 i v4 v6 v9 (arg4.view.read (Elt F) f1) (arg5.view.read (Elt F) f2) k a⌝
            ∗ (arg4.view.loc (c : Thread nD τ) ↦[arg4.view.set]{fullShare} f1) ∗ (arg5.view.loc (c : Thread nD τ) ↦[arg5.view.set]{fullShare} f2)) : sProp 𝕄)) := by
  unfold k0_t1_body
  iintro ⟨H, H'⟩
  sl_exec
  sl_step
  isplitr
  swap
  · isplitl [H]; · iexact H
    iexact H'
  ipureintro
  have hv : trip1.sl.v88 i arg4 f1 k = tile1 i (arg4.view.read (Elt F) f1) k := by
    unfold trip1.sl.v88 tile1 keys
    rw [← Memref.read_squeeze_full arg4 inb_S1x1x2048x128_S1x1x2048x128_0_0_0_0]
    rfl
  unfold trip1.sl.r trip1.sl.r_1 trip1.sl.r_2 trip1.sl.r_3
  rw [hv]
  rfl

set_option maxHeartbeats 1000000 in
theorem trip2 (c : Dev nD) (i : grid0.Coords) (arg3 : Memref sig .tc .vmem S1x1x4x256x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x4x1x1 .f32) (harg6 : arg6.IsWhole) (arg7 : Memref sig .tc .vmem S1x1 .f32) (harg7 : arg7.IsWhole) (arg8 : Memref sig .tc .vmem S1x128 .f32) (harg8 : arg8.IsWhole) (arg9 : Memref sig .tc .vmem S1x1x2x256x128 .f32) (harg9 : arg9.IsWhole)
    (v4 : FVec F S1024x128 .bf16) (v6 : FVec F S4x1x1 .f32) (v9 : IVec S256x1 32) (v29 : BitVec 32) (v30 v31 : FVec F S4x256x1 .f32) (v32 : FVec F S4x256x128 .f32) (v37 : BitVec 32) (f1 : BufTy.Contents (Elt F) arg4.view.ty) (f2 : BufTy.Contents (Elt F) arg5.view.ty)
    (k : Fin (k0_t2_loop i).trips) (a : Carry F) (E : Set ℕ) :
    (iprop((arg4.view.loc (c : Thread nD τ) ↦[arg4.view.set]{fullShare} f1) ∗ (arg5.view.loc (c : Thread nD τ) ↦[arg5.view.set]{fullShare} f2)) : sProp 𝕄)
      ⊢ wp frame (wpE (defs₀ (F := F)) Variants.none c none) E (k0_t2_body (F := F) i arg3 harg3 arg4 harg4 arg5 harg5 arg6 harg6 arg7 harg7 arg8 harg8 arg9 harg9 v4 v6 v9 v29 v30 v31 v32 v37 k a)
          (fun yld => (iprop(⌜yld = step2 i v4 v6 v9 v37 (arg4.view.read (Elt F) f1) (arg5.view.read (Elt F) f2) k a⌝
            ∗ (arg4.view.loc (c : Thread nD τ) ↦[arg4.view.set]{fullShare} f1) ∗ (arg5.view.loc (c : Thread nD τ) ↦[arg5.view.set]{fullShare} f2)) : sProp 𝕄)) := by
  unfold k0_t2_body
  iintro ⟨H, H'⟩
  sl_exec
  sl_step
  isplitr
  swap
  · isplitl [H]; · iexact H
    iexact H'
  ipureintro
  have hv : trip2.sl.v88 i arg4 f1 k = tile2 i (arg4.view.read (Elt F) f1) k := by
    unfold trip2.sl.v88 tile2 keys
    rw [← Memref.read_squeeze_full arg4 inb_S1x1x2048x128_S1x1x2048x128_0_0_0_0]
    rfl
  unfold trip2.sl.r trip2.sl.r_1 trip2.sl.r_2 trip2.sl.r_3
  rw [hv]
  rfl

set_option warn.classDefReducibility false in
/-- The first loop by its invariant: the keys and values held, the carried value `sweep`'s. -/
@[sl_loop] def inv1 (c : Dev nD) (E : Set ℕ) (i : grid0.Coords) (arg3 : Memref sig .tc .vmem S1x1x4x256x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x4x1x1 .f32) (harg6 : arg6.IsWhole) (arg7 : Memref sig .tc .vmem S1x1 .f32) (harg7 : arg7.IsWhole) (arg8 : Memref sig .tc .vmem S1x128 .f32) (harg8 : arg8.IsWhole) (arg9 : Memref sig .tc .vmem S1x1x2x256x128 .f32) (harg9 : arg9.IsWhole)
    (v4 : FVec F S1024x128 .bf16) (v6 : FVec F S4x1x1 .f32) (v9 : IVec S256x1 32) (v29 : BitVec 32) (v30 v31 : FVec F S4x256x1 .f32) (v32 : FVec F S4x256x128 .f32) (f1 : BufTy.Contents (Elt F) arg4.view.ty) (f2 : BufTy.Contents (Elt F) arg5.view.ty) (init : Carry F) :
    Idealize.ShloMosaic.LoopInv (M := 𝕄) Idealize.ShloMosaic.frame (wpE defs₀ Variants.none (c : Thread nD τ) none) E
      (k0_t1_loop i).lb (k0_t1_loop i).ub (k0_t1_loop i).st (k0_t1_ok i) init (k0_t1_body (F := F) i arg3 harg3 arg4 harg4 arg5 harg5 arg6 harg6 arg7 harg7 arg8 harg8 arg9 harg9 v4 v6 v9 v29 v30 v31 v32) where
  inv k acc := iprop((arg4.view.loc (c : Thread nD τ) ↦[arg4.view.set]{fullShare} f1) ∗ (arg5.view.loc (c : Thread nD τ) ↦[arg5.view.set]{fullShare} f2)
    ∗ ⌜acc = sweep _ (step1 i v4 v6 v9 (arg4.view.read (Elt F) f1) (arg5.view.read (Elt F) f2)) init k⌝)
  step k acc := by
    iintro ⟨H, H', %h⟩
    subst h
    iapply (wp_wand_r Idealize.ShloMosaic.frame (wpE (defs₀ (F := F)) Variants.none (c : Thread nD τ) none) E)
    isplitl [H H']
    · iapply (trip1 c i arg3 harg3 arg4 harg4 arg5 harg5 arg6 harg6 arg7 harg7 arg8 harg8 arg9 harg9 v4 v6 v9 v29 v30 v31 v32 f1 f2 k _ E)
      isplitl [H]; · iexact H
      iexact H'
    · iintro %yld ⟨%hr, H, H'⟩
      isplitl [H]; · iexact H
      isplitl [H']; · iexact H'
      ipureintro; rw [hr]; exact (sweep_succ _ _ _ k).symm

set_option warn.classDefReducibility false in
/-- The second loop by its invariant: the keys and values held, the carried value `sweep`'s. -/
@[sl_loop] def inv2 (c : Dev nD) (E : Set ℕ) (i : grid0.Coords) (arg3 : Memref sig .tc .vmem S1x1x4x256x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x4x1x1 .f32) (harg6 : arg6.IsWhole) (arg7 : Memref sig .tc .vmem S1x1 .f32) (harg7 : arg7.IsWhole) (arg8 : Memref sig .tc .vmem S1x128 .f32) (harg8 : arg8.IsWhole) (arg9 : Memref sig .tc .vmem S1x1x2x256x128 .f32) (harg9 : arg9.IsWhole)
    (v4 : FVec F S1024x128 .bf16) (v6 : FVec F S4x1x1 .f32) (v9 : IVec S256x1 32) (v29 : BitVec 32) (v30 v31 : FVec F S4x256x1 .f32) (v32 : FVec F S4x256x128 .f32) (v37 : BitVec 32) (f1 : BufTy.Contents (Elt F) arg4.view.ty) (f2 : BufTy.Contents (Elt F) arg5.view.ty) (init : Carry F) :
    Idealize.ShloMosaic.LoopInv (M := 𝕄) Idealize.ShloMosaic.frame (wpE defs₀ Variants.none (c : Thread nD τ) none) E
      (k0_t2_loop i).lb (k0_t2_loop i).ub (k0_t2_loop i).st (k0_t2_ok i) init (k0_t2_body (F := F) i arg3 harg3 arg4 harg4 arg5 harg5 arg6 harg6 arg7 harg7 arg8 harg8 arg9 harg9 v4 v6 v9 v29 v30 v31 v32 v37) where
  inv k acc := iprop((arg4.view.loc (c : Thread nD τ) ↦[arg4.view.set]{fullShare} f1) ∗ (arg5.view.loc (c : Thread nD τ) ↦[arg5.view.set]{fullShare} f2)
    ∗ ⌜acc = sweep _ (step2 i v4 v6 v9 v37 (arg4.view.read (Elt F) f1) (arg5.view.read (Elt F) f2)) init k⌝)
  step k acc := by
    iintro ⟨H, H', %h⟩
    subst h
    iapply (wp_wand_r Idealize.ShloMosaic.frame (wpE (defs₀ (F := F)) Variants.none (c : Thread nD τ) none) E)
    isplitl [H H']
    · iapply (trip2 c i arg3 harg3 arg4 harg4 arg5 harg5 arg6 harg6 arg7 harg7 arg8 harg8 arg9 harg9 v4 v6 v9 v29 v30 v31 v32 v37 f1 f2 k _ E)
      isplitl [H]; · iexact H
      iexact H'
    · iintro %yld ⟨%hr, H, H'⟩
      isplitl [H]; · iexact H
      isplitl [H']; · iexact H'
      ipureintro; rw [hr]; exact (sweep_succ _ _ _ k).symm

/-- The query block's rectangle. -/
abbrev rq : Rect S1x1x4x256x128 := Rect.unit (s := S1x1x4x256x128) ![0, 0, 0, 0, 0] S1x1x4x256x128.size inb_S1x1x4x256x128_S1x1x4x256x128_0_0_0_0_0
/-- The slopes' rectangle. -/
abbrev rs : Rect S1x4x1x1 := Rect.unit (s := S1x4x1x1) ![0, 0, 0, 0] S1x4x1x1.size inb_S1x4x1x1_S1x4x1x1_0_0_0_0
/-- The mixing factor's rectangle. -/
abbrev rl : Rect S1x1 := Rect.unit (s := S1x1) ![0, 0] S1x1.size inb_S1x1_S1x1_0_0
/-- The gain's rectangle. -/
abbrev rg : Rect S1x128 := Rect.unit (s := S1x128) ![0, 0] S1x128.size inb_S1x128_S1x128_0_0
/-- The output block's rectangle. -/
abbrev ro : Rect S1x1x2x256x128 := Rect.unit (s := S1x1x2x256x128) ![0, 0, 0, 0, 0] S1x1x2x256x128.size inb_S1x1x2x256x128_S1x1x2x256x128_0_0_0_0_0

/-- The number of key tiles at grid point `i`, as the body computes it: the bound between its two loops. -/
def nTiles (i : grid0.Coords) : BitVec 32 :=
  let v12 : BitVec 32 := Scalar.subi (Scalar.addi (Scalar.addi (Scalar.muli (BitVec.ofNat 32 (i 2).val) 256#32) 256#32) 256#32) 1#32
  let v18 : BitVec 32 := Scalar.subi (Scalar.extui (Scalar.cmpi .sgt v12 0#32)) (Scalar.extui (Scalar.cmpi .slt v12 0#32))
  let v23 : BitVec 32 := Scalar.subi (Scalar.extui (Scalar.cmpi .sgt 256#32 0#32)) (Scalar.extui (Scalar.cmpi .slt 256#32 0#32))
  let v27 : BitVec 1 := Scalar.andi (Scalar.cmpi .ne v18 v23) (Scalar.cmpi .ne (Scalar.remsi v12 256#32) 0#32)
  let v29 : BitVec 32 := Scalar.select v27 (Scalar.subi (Scalar.divsi v12 256#32) 1#32) (Scalar.divsi v12 256#32)
  Scalar.addi 0#32 (Scalar.muli (Scalar.divsi (Scalar.subi v29 0#32) 1#32) 1#32)

/-- What the loops carry at the end of grid point `i`'s body. -/
def final (i : grid0.Coords) (x0 : Vec F S1x1x4x256x128 .f32) (x1 x2 : Vec F S1x1x2048x128 .f32) (x3 : Vec F S1x4x1x1 .f32) : Carry F :=
  sweep _ (step2 i (k0_pay14 (View.ld x0 rq)) (k0_pay15 (View.ld x3 rs)) (k0_pay16 i) (nTiles i) x1 x2)
    (sweep _ (step1 i (k0_pay14 (View.ld x0 rq)) (k0_pay15 (View.ld x3 rs)) (k0_pay16 i) x1 x2) (k0_pay17, k0_pay18, k0_pay19) (k0_t1_loop i).trips)
    (k0_t2_loop i).trips

/-- What the body leaves in the output block. -/
def out (i : grid0.Coords) (x0 : Vec F S1x1x4x256x128 .f32) (x1 : Vec F S1x1x2048x128 .f32) (x2 : Vec F S1x1x2048x128 .f32) (x3 : Vec F S1x4x1x1 .f32) (x4 : Vec F S1x1 .f32) (x5 : Vec F S1x128 .f32) : Vec F S1x1x2x256x128 .f32 :=
  View.canon [⟨ro, k0_pay1 (k0_pay26 (final i x0 x1 x2 x3).2.1 (final i x0 x1 x2 x3).2.2 (View.ld x4 rl) (View.ld x5 rg))⟩]

theorem cover (p : Vec F S1x1x2x256x128 .f32) (y : S1x1x2x256x128.Idx) :
    ∃ pc ∈ ([⟨ro, p⟩] : List (View.Piece (Elt F) S1x1x2x256x128 .f32)), y ∈ pc.1.set :=
  View.cover_of_tiled [⟨ro, p⟩] S1x1x2x256x128.size (by rfl) y

set_option maxHeartbeats 2000000 in
/-- The body's triple: the blocks read are left as they were, the output block holds `out`. -/
theorem sound_kernel (c : Dev nD) (E : Set ℕ) (i : grid0.Coords) (arg3 : Memref sig .tc .vmem S1x1x4x256x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x4x1x1 .f32) (harg6 : arg6.IsWhole) (arg7 : Memref sig .tc .vmem S1x1 .f32) (harg7 : arg7.IsWhole) (arg8 : Memref sig .tc .vmem S1x128 .f32) (harg8 : arg8.IsWhole) (arg9 : Memref sig .tc .vmem S1x1x2x256x128 .f32) (harg9 : arg9.IsWhole)
    (x0 : Vec F S1x1x4x256x128 .f32) (x1 : Vec F S1x1x2048x128 .f32) (x2 : Vec F S1x1x2048x128 .f32) (x3 : Vec F S1x4x1x1 .f32) (x4 : Vec F S1x1 .f32) (x5 : Vec F S1x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (out i x0 x1 x2 x3 x4 x5)) -∗ K ⟨⟩))
      ⊢ wp frame (wpE (defs₀ (F := F)) Variants.none c none) E (cc0_diff_prompt i arg3 harg3 arg4 harg4 arg5 harg5 arg6 harg6 arg7 harg7 arg8 harg8 arg9 harg9) K := by
  simp only [cc0_diff_prompt_eq_skeleton]; unfold cc0_diff_prompt_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover _)

variable (m : (ℓ : Loc nD τ sig) → Buf (Elt F) ℓ) (ρ : Dev nD → PrngReg)

/-! ## The pipeline's proof data -/

/-- The launch's proof data: the inputs' blocks stay, the output's block ends at `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out (grid0.coords t) (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) :
    (dats m 0 c).after 6 t = out (grid0.coords t) (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch runs to the pipeline's arrays as its proof data computes them, every counter zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ))
    ((θ_run defs _ _).mono (fun _ h => h.2) (run_main_quiescent m ρ))

end Cert.DiffPromptIdeal.Diff

end
-- ==== Proof.DiffMath.lean ====
/- Differences of two softmaxes over the extended reals. The weights of a softmax are real numbers whatever the scores are,
   so the difference of two weighted sums of real values, the second scaled by a real factor, is the sum weighted by the
   differences (`soft_sub`). With infinite values or an infinite factor the two differ. -/
module

public import proofs.«01_k».proof.Proof.Softmax

@[expose] public section

noncomputable section

namespace Attn

open Idealize.ShloMosaic

variable {ι : Type} [DecidableEq ι]

/-- One weight of the plain softmax. -/
def weight (A : Finset ι) (s : ι → EReal) (k : ι) : EReal :=
  Ideal.div (Ideal.exp (s k - fin (A.sup s))) (pos (∑ k ∈ A, Ideal.exp (s k - fin (A.sup s))))

theorem soft_eq (A : Finset ι) (s v : ι → EReal) : soft A s v = ∑ k ∈ A, weight A s k * v k := rfl

theorem coe_sum (A : Finset ι) (w : ι → ℝ) : ((∑ k ∈ A, w k : ℝ) : EReal) = ∑ k ∈ A, (w k : EReal) :=
  map_sum (⟨⟨((↑) : ℝ → EReal), rfl⟩, EReal.coe_add⟩ : ℝ →+ EReal) w A

/-- A weight is a real number. -/
theorem weight_real (A : Finset ι) (s : ι → EReal) (k : ι) (hk : k ∈ A) : ∃ w : ℝ, weight A s k = w := by
  unfold weight
  have hle : ∀ j ∈ A, s j ≤ A.sup s := fun j hj => Finset.le_sup hj
  by_cases htop : A.sup s = ⊤
  · have hne : A.Nonempty := ⟨k, hk⟩
    obtain ⟨j, hj, hjs⟩ := Finset.exists_mem_eq_sup A hne s
    have h3 : ∑ k ∈ A, Ideal.exp (s k - fin (A.sup s)) = ⊤ := by
      refine top_le_iff.mp (le_trans ?_ (Finset.single_le_sum (fun k _ => exp_nonneg _) hj))
      rw [← hjs, htop]; simp [fin]
    rw [h3, show pos ⊤ = ⊤ by simp [pos], div_top']
    exact ⟨0, rfl⟩
  · have hf : ∃ r : ℝ, fin (A.sup s) = r := by
      generalize A.sup s = M at htop
      induction M with
      | bot => exact ⟨0, by simp [fin]⟩
      | top => exact absurd rfl htop
      | coe r => exact ⟨r, by simp [fin]⟩
    obtain ⟨r, hr⟩ := hf
    have hw : ∀ j ∈ A, ∃ w : ℝ, Ideal.exp (s j - fin (A.sup s)) = (w : EReal) := fun j hj => by
      have hj' : s j ≠ ⊤ := fun h => htop (top_le_iff.mp (h ▸ hle j hj))
      rw [hr]
      generalize s j = x at hj'
      induction x with
      | bot => exact ⟨0, by rw [exp_bot_sub]; rfl⟩
      | top => exact absurd rfl hj'
      | coe t => exact ⟨Real.exp (t - r), by rw [← EReal.coe_sub, Ideal.exp_coe]⟩
    choose! w hw using hw
    rw [Finset.sum_congr rfl hw, ← coe_sum, hw k hk, pos]
    by_cases hp : (0 : EReal) < ((∑ k ∈ A, w k : ℝ) : EReal)
    · have hp' : (0 : ℝ) < ∑ k ∈ A, w k := by exact_mod_cast hp
      rw [if_pos hp, Ideal.div_coe hp'.ne', ← EReal.coe_mul]
      exact ⟨_, rfl⟩
    · rw [if_neg hp, div_one']
      exact ⟨_, rfl⟩

/-- The difference of two softmaxes of real values is the sum weighted by the differences. -/
theorem soft_sub (A : Finset ι) (s s' v : ι → EReal) (lam : EReal) (hv : ∀ k ∈ A, ∃ x : ℝ, v k = x) (hl : ∃ x : ℝ, lam = x) :
    soft A s v - lam * soft A s' v = ∑ k ∈ A, (weight A s k - lam * weight A s' k) * v k := by
  obtain ⟨l, rfl⟩ := hl
  choose! x hx using hv
  have hw := weight_real A s
  have hw' := weight_real A s'
  choose! w hw using hw
  choose! w' hw' using hw'
  have h1 : soft A s v = ((∑ k ∈ A, w k * x k : ℝ) : EReal) := by
    rw [soft_eq, coe_sum]
    exact Finset.sum_congr rfl fun k hk => by rw [hw k hk, hx k hk, EReal.coe_mul]
  have h2 : soft A s' v = ((∑ k ∈ A, w' k * x k : ℝ) : EReal) := by
    rw [soft_eq, coe_sum]
    exact Finset.sum_congr rfl fun k hk => by rw [hw' k hk, hx k hk, EReal.coe_mul]
  have h3 : ∑ k ∈ A, (weight A s k - l * weight A s' k) * v k = ((∑ k ∈ A, (w k - l * w' k) * x k : ℝ) : EReal) := by
    rw [coe_sum]
    exact Finset.sum_congr rfl fun k hk => by rw [hw k hk, hw' k hk, hx k hk, EReal.coe_mul, EReal.coe_sub, EReal.coe_mul]
  rw [h1, h2, h3, ← EReal.coe_mul, ← EReal.coe_sub, Finset.mul_sum, ← Finset.sum_sub_distrib]
  congr 1
  exact Finset.sum_congr rfl fun k _ => by ring

/-- The distance from key `k` to query `q`, negative beyond the diagonal. -/
def dist (q k : ℕ) : EReal := (((q : ℤ) - (k : ℤ) : ℤ) : ℝ)

/-- A row over its root mean square, times a gain and a scale. -/
def normed (o : Fin 128 → EReal) (g : EReal) (d : Fin 128) : EReal :=
  o d * Ideal.rsqrt (Ideal.div (∑ x, o x * o x) (Ideal.ofBits .f32 0x43000000#32) + Ideal.ofBits .f32 0x358637BD#32) * g
    * Ideal.ofBits .f32 0x3F4CCCCD#32

end Attn

end
-- ==== Proof.DiffValue.lean ====
/- The value of one grid point of the prompt's differential-attention kernel: after `n` tiles of keys the carried maximum,
   normaliser and accumulator are those of the first `256 n` keys; the block written is the difference of the two
   components' softmax sums, the second times the mixing factor, normalised. -/
module

public import proofs.«01_k».proof.Proof.DiffIdealBody
public import proofs.«01_k».proof.Proof.DiffMath
public import proofs.«01_k».proof.Proof.MlaValue
public import Idealize.ShloMosaic.Lib.Pointwise
public import Idealize.ShloMosaic.Lib.WordArith
public import Idealize.ShloMosaic.Lib.Pipeline.ValueKit

@[expose] public section

set_option maxRecDepth 16384

noncomputable section

namespace Cert.DiffPromptIdeal.Diff

open Cert.DiffPromptIdeal Cert.DiffPromptIdeal.Gen
open Cert.KernelIdeal.Mla (tile mem_tile range_succ disjoint_tile sum_tile sup_tile ninf)
open Idealize.ShloMosaic Idealize.ShloMosaic.TcCoe Idealize.SL.Sem

/-- The first loop visits the tiles up to the diagonal, the second none. -/
theorem trips1 (i : grid0.Coords) : (k0_t1_loop i).trips = (i 2).val + 1 := by
  have h : ∀ j : Fin 8, ∀ i : grid0.Coords, i 2 = j → (k0_t1_loop i).trips = j.val + 1 := by
    intro j i hi
    unfold k0_t1_loop
    rw [hi]
    clear hi
    revert j
    decide +kernel
  exact h (i 2) i rfl

theorem trips2 (i : grid0.Coords) : (k0_t2_loop i).trips = 0 := by
  have h : ∀ j : Fin 8, ∀ i : grid0.Coords, i 2 = j → (k0_t2_loop i).trips = 0 := by
    intro j i hi
    unfold k0_t2_loop
    rw [hi]
    clear hi
    revert j
    decide +kernel
  exact h (i 2) i rfl

/-- The scale of the scores. -/
def scale : EReal := Ideal.ofBits .f32 0x3E000000#32

variable (i : grid0.Coords) (x0 : Vec Ideal S1x1x4x256x128 .f32) (x1 x2 : Vec Ideal S1x1x2048x128 .f32) (x3 : Vec Ideal S1x4x1x1 .f32)

/-- The score of key `k` for row `r` of head and component `h`: minus infinity beyond the diagonal. -/
def score (h : Fin 4) (r : Fin 256) (k : ℕ) : EReal :=
  if hk : k ≤ 256 * (i 2).val + r.val ∧ k < 2048 then
    (∑ c : Fin 128, x0 (ix5 0 0 h r c) * x1 (ix4 0 0 ⟨k, hk.2⟩ c)) * scale - x3 (ix4 0 h 0 0) * Attn.dist (256 * (i 2).val + r.val) k
  else ⊥

/-- Column `d` of the value at key `k`. -/
def value (d : Fin 128) (k : ℕ) : EReal :=
  if hk : k < 2048 then x2 (ix4 0 0 ⟨k, hk⟩ d) else 0

/-- The word of the distance from a key to a row. -/
abbrev distWord (t r j k : ℕ) : BitVec 32 :=
  IntOp.subi (IntOp.addi (Scalar.muli (BitVec.ofNat 32 t) 256#32) (BitVec.ofNat 32 r))
      (IntOp.addi (Scalar.muli (Scf.iv 0#32 1#32 j) 256#32) (BitVec.ofNat 32 k))

theorem distWord_toInt (t r j k : ℕ) (ht : t < 8) (hr : r < 256) (hj : j < 8) (hk : k < 256) :
    (distWord t r j k).toInt = ((256 * t + r : ℕ) : ℤ) - ((256 * j + k : ℕ) : ℤ) := by
  have h0 : ∀ n : ℕ, n < 4096 → (BitVec.ofNat 32 n).toInt = (n : ℤ) := fun n hn => WordArith.toInt_ofNat_small n (by omega)
  have h1 : BitVec.ofNat 32 t * 256#32 + BitVec.ofNat 32 r = BitVec.ofNat 32 (256 * t + r) := by
    rw [mul_comm 256 t, ← BitVec.ofNat_mul, ← BitVec.ofNat_add]
  have h2 : (Scf.iv 0#32 1#32 j * 256#32 + BitVec.ofNat 32 k) = BitVec.ofNat 32 (256 * j + k) := by
    rw [mul_comm 256 j, BitVec.ofNat_add, BitVec.ofNat_mul, Scf.iv]
    simp
  have e1 := h0 (256 * t + r) (by omega)
  have e2 := h0 (256 * j + k) (by omega)
  simp only [distWord, IntOp.subi, IntOp.addi, Scalar.muli, IntOp.muli, h1, h2]
  rw [← e1, ← e2]
  apply WordArith.toInt_sub_of_bounds <;> (rw [e1, e2]; omega)

/-- The comparison of the row's position with the key's, on words. -/
theorem mask_word (t r j k : ℕ) (ht : t < 8) (hr : r < 256) (hj : j < 8) (hk : k < 256) :
    IntOp.cmpi CmpIPredicate.sge (distWord t r j k) 0#32 = BitVec.ofBool (decide (256 * j + k ≤ 256 * t + r)) := by
  rw [IntOp.cmpi]
  congr 1
  rw [Bool.eq_iff_iff, BitVec.sle_iff_toInt_le, distWord_toInt t r j k ht hr hj hk]
  simp
  omega

theorem off_word (j : ℕ) (hj : j < 8) : (Scalar.indexCast (Scalar.muli (Scf.iv 0#32 1#32 j) 256#32)).toNat = 256 * j := by
  have e : Scalar.indexCast (Scalar.muli (Scf.iv 0#32 1#32 j) 256#32) = BitVec.ofNat 32 (j * 256) := by
    rw [BitVec.ofNat_mul, Scalar.indexCast, Scf.iv, Scalar.muli, IntOp.muli]
    simp
  rw [e, BitVec.toNat_ofNat]
  omega

theorem tile1_apply (t : Fin (k0_t1_loop i).trips) (x : Fin 256) (c : Fin 128) (hx : 256 * t.val + x.val < 2048) :
    tile1 i x1 t (ix2 x c) = x1 (ix4 0 0 ⟨256 * t.val + x.val, hx⟩ c) := by
  have h0 : k0_off1 i t 0 = 256 * t.val := off_word _ (by omega)
  have h1 : k0_off1 i t 1 = 0 := rfl
  pointwise [tile1, keys]
  simp only [h0, h1, Nat.zero_add]

theorem vals1_apply (t : Fin (k0_t1_loop i).trips) (x : Fin 256) (c : Fin 128) (hx : 256 * t.val + x.val < 2048) :
    k0_pay2 (vals1 i x2 t) (ix2 x c) = x2 (ix4 0 0 ⟨256 * t.val + x.val, hx⟩ c) := by
  have h0 : k0_off2 i t 2 = 256 * t.val := off_word _ (by omega)
  have h1 : k0_off2 i t 3 = 0 := rfl
  have h2 : k0_off2 i t 0 = 0 := rfl
  have h3 : k0_off2 i t 1 = 0 := rfl
  pointwise [k0_pay2, vals1]
  simp only [h0, h1, h2, h3, Nat.zero_add]
  rfl

theorem pay3_apply (t : Fin (k0_t1_loop i).trips) (h : Fin 4) (r : Fin 256) (x : Fin 256) :
    k0_pay3 (F := Ideal) i (k0_pay14 (View.ld x0 rq)) (k0_pay15 (View.ld x3 rs)) (k0_pay16 i) 0#32 1#32 t (tile1 i x1 t) (ix3 h r x)
      = score i x0 x1 x3 h r (256 * t.val + x.val) := by
  have ht : t.val < (i 2).val + 1 := lt_of_lt_of_eq t.isLt (trips1 i)
  have hi : (i 2).val < 8 := (i 2).isLt
  have hx : 256 * t.val + x.val < 2048 := by omega
  pointwise [k0_pay3, k0_pay14, k0_pay15, k0_pay16]
  refine (congrArg (fun w => Scalar.select w _ _) (mask_word _ _ _ _ hi r.isLt (by omega) x.isLt)).trans ?_
  rw [score, Scalar.select, BitVec.ofBool]
  by_cases hm : 256 * t.val + x.val ≤ 256 * (i 2).val + r.val
  · rw [dif_pos ⟨hm, hx⟩, if_pos (by simp [hm])]
    have hd : (FloatOps.sitofp (F := Ideal) FTy.f32 (distWord (i 2).val r.val t.val x.val) : EReal)
        = Attn.dist (256 * (i 2).val + r.val) (256 * t.val + x.val) := by
      show (((distWord (i 2).val r.val t.val x.val).toInt : ℝ) : EReal) = _
      rw [distWord_toInt _ _ _ _ hi r.isLt (by omega) x.isLt]
      rfl
    refine congrArg₂ (fun a b : EReal => a - b) (congrArg (fun a : EReal => a * scale) ?_) (congrArg (fun a : EReal => x3 (ix4 0 h 0 0) * a) hd)
    exact Finset.sum_congr rfl fun c _ => congrArg (fun a : EReal => x0 (ix5 0 0 h r c) * a) (tile1_apply i x1 t x c hx)
  · rw [dif_neg (fun h => hm h.1), if_neg (by simp [hm]), ninf]

/-- The carried value `a` is the softmax state of the keys in `A`. -/
structure Holds (A : Finset ℕ) (s : Fin 4 → Fin 256 → ℕ → EReal) (v : Fin 128 → ℕ → EReal) (a : Carry Ideal) : Prop where
  top : ∀ h r, a.1 (ix3 h r 0) = A.sup (s h r)
  norm : ∀ h r, a.2.1 (ix3 h r 0) = Attn.norm A (s h r)
  acc : ∀ h r d, a.2.2 (ix3 h r d) = Attn.acc A (s h r) (v d)

theorem holds_init (s : Fin 4 → Fin 256 → ℕ → EReal) (v : Fin 128 → ℕ → EReal) :
    Holds (Finset.range (256 * 0)) s v (k0_pay17, k0_pay18, k0_pay19) where
  top h r := by
    pointwise [k0_pay17]
    rw [ninf]; rfl
  norm h r := by
    pointwise [k0_pay18]
    simp [Attn.norm]
  acc h r d := by
    pointwise [k0_pay19]
    simp [Attn.acc]

theorem holds_step (t : Fin (k0_t1_loop i).trips) (a : Carry Ideal)
    (ha : Holds (Finset.range (256 * t.val)) (score i x0 x1 x3) (value x2) a) :
    Holds (Finset.range (256 * (t.val + 1))) (score i x0 x1 x3) (value x2)
      (step1 i (k0_pay14 (View.ld x0 rq)) (k0_pay15 (View.ld x3 rs)) (k0_pay16 i) x1 x2 t a) := by
  have ht : t.val < (i 2).val + 1 := lt_of_lt_of_eq t.isLt (trips1 i)
  have hi : (i 2).val < 8 := (i 2).isLt
  have h4 : ∀ h r, k0_pay4 i (k0_pay14 (View.ld x0 rq)) (k0_pay15 (View.ld x3 rs)) (k0_pay16 i) 0#32 1#32 t a.1 (tile1 i x1 t) (ix3 h r 0)
      = max ((Finset.range (256 * t.val)).sup (score i x0 x1 x3 h r)) ((tile t.val).sup (score i x0 x1 x3 h r)) := by
    intro h r
    pointwise [k0_pay4]
    rw [ha.top, sup_tile, ninf]
    simp only [pay3_apply]
  have h5 : ∀ h r, k0_pay5 i (k0_pay14 (View.ld x0 rq)) (k0_pay15 (View.ld x3 rs)) (k0_pay16 i) 0#32 1#32 t a.1 (tile1 i x1 t) (ix3 h r 0)
      = Attn.safe (max ((Finset.range (256 * t.val)).sup (score i x0 x1 x3 h r)) ((tile t.val).sup (score i x0 x1 x3 h r))) := by
    intro h r
    pointwise [k0_pay5]
    rw [h4, ninf]
    rfl
  have h6 : ∀ h r x, k0_pay6 i (k0_pay14 (View.ld x0 rq)) (k0_pay15 (View.ld x3 rs)) (k0_pay16 i) 0#32 1#32 t a.1 (tile1 i x1 t) (ix3 h r x)
      = Ideal.exp (score i x0 x1 x3 h r (256 * t.val + x.val)
          - Attn.safe (max ((Finset.range (256 * t.val)).sup (score i x0 x1 x3 h r)) ((tile t.val).sup (score i x0 x1 x3 h r)))) := by
    intro h r x
    pointwise [k0_pay6]
    rw [h5, pay3_apply]
  have h7 : ∀ h r, k0_pay7 i (k0_pay14 (View.ld x0 rq)) (k0_pay15 (View.ld x3 rs)) (k0_pay16 i) 0#32 1#32 t a.1 (tile1 i x1 t) (ix3 h r 0)
      = (Finset.range (256 * t.val)).sup (score i x0 x1 x3 h r)
          - Attn.safe (max ((Finset.range (256 * t.val)).sup (score i x0 x1 x3 h r)) ((tile t.val).sup (score i x0 x1 x3 h r))) := by
    intro h r
    pointwise [k0_pay7]
    rw [h5, ha.top]
  refine ⟨fun h r => ?_, fun h r => ?_, fun h r d => ?_⟩
  · rw [range_succ, Attn.sup_union]
    exact h4 h r
  · rw [range_succ, Attn.norm_union (disjoint_tile _), sum_tile, ← ha.norm]
    show k0_pay21 _ _ _ _ = _
    pointwise [k0_pay21, k0_pay20]
    rw [h7]
    simp only [h6]
  · rw [range_succ, Attn.acc_union (disjoint_tile _), sum_tile, ← ha.acc]
    show k0_pay22 _ _ _ _ _ = _
    pointwise [k0_pay22, k0_pay20]
    rw [h7]
    congr 1
    refine Finset.sum_congr rfl fun x _ => ?_
    have hx : 256 * t.val + x.val < 2048 := by omega
    rw [h6, vals1_apply i x2 t x _ hx, value, dif_pos hx]

theorem holds_sweep (n : ℕ) (hn : n ≤ (k0_t1_loop i).trips) :
    Holds (Finset.range (256 * n)) (score i x0 x1 x3) (value x2)
      (sweep _ (step1 i (k0_pay14 (View.ld x0 rq)) (k0_pay15 (View.ld x3 rs)) (k0_pay16 i) x1 x2) (k0_pay17, k0_pay18, k0_pay19) n) := by
  induction n with
  | zero => exact holds_init _ _
  | succ n ih =>
    rw [show n + 1 = (⟨n, hn⟩ : Fin (k0_t1_loop i).trips).val + 1 from rfl, sweep_succ]
    exact holds_step i x0 x1 x2 x3 ⟨n, hn⟩ _ (ih (by omega))

theorem sweep_none {σ : Type} (n : ℕ) (step : Fin n → σ → σ) (init : σ) (hn : n = 0) : sweep n step init n = init := by
  subst hn; rfl

theorem holds_final : Holds (Finset.range (256 * ((i 2).val + 1))) (score i x0 x1 x3) (value x2) (final i x0 x1 x2 x3) := by
  unfold final
  have h := holds_sweep i x0 x1 x2 x3 _ (le_refl (k0_t1_loop i).trips)
  rw [sweep_none _ _ _ (trips2 i)]
  have e : 256 * (k0_t1_loop i).trips = 256 * ((i 2).val + 1) := by rw [trips1]
  rwa [e] at h

/-- The quotient of the carried accumulator and normaliser: the plain softmax's weighted sum over all the keys. -/
theorem quot_final (h : Fin 4) (r : Fin 256) (d : Fin 128) :
    Ideal.div ((final i x0 x1 x2 x3).2.2 (ix3 h r d)) (Attn.pos ((final i x0 x1 x2 x3).2.1 (ix3 h r 0)))
      = Attn.soft (Finset.range 2048) (score i x0 x1 x3 h r) (value x2 d) := by
  have H := holds_final i x0 x1 x2 x3
  have hi : (i 2).val < 8 := (i 2).isLt
  rw [← Attn.acc_div_norm_subset (A := Finset.range (256 * ((i 2).val + 1))), ← H.norm, ← H.acc]
  · intro k hk
    simp only [Finset.mem_range] at hk ⊢
    omega
  · intro k _ hk
    simp only [Finset.mem_range, not_lt] at hk
    rw [score, dif_neg]
    have := r.isLt
    omega

/-- What one grid point writes. -/
theorem out_apply (x4 : Vec Ideal S1x1 .f32) (x5 : Vec Ideal S1x128 .f32) (z w : Fin 1) (h : Fin 2) (r : Fin 256) (d : Fin 128) :
    out i x0 x1 x2 x3 x4 x5 (ix5 z w h r d)
      = Attn.normed (fun e => Attn.soft (Finset.range 2048) (score i x0 x1 x3 ⟨h.val * 2, by omega⟩ r) (value x2 e)
          - x4 (ix2 0 0) * Attn.soft (Finset.range 2048) (score i x0 x1 x3 ⟨h.val * 2 + 1, by omega⟩ r) (value x2 e)) (x5 (ix2 0 d)) d := by
  simp only [← quot_final]
  unfold out
  frame_out
  generalize (final i x0 x1 x2 x3).2.1 = l
  generalize (final i x0 x1 x2 x3).2.2 = a
  pointwise [k0_pay1, k0_pay26]
  rfl

end Cert.DiffPromptIdeal.Diff
-- ==== Proof.DiffQuery.lean ====
/- The blocks the prompt's differential-attention kernel reads at a grid point, as elements of its arguments. -/
module

public import proofs.«01_k».proof.Proof.DiffIdealBody
public import Idealize.ShloMosaic.Lib.Pointwise
public import Idealize.ShloMosaic.Lib.Pipeline.ValueKit

@[expose] public section

set_option maxRecDepth 16384

noncomputable section

namespace Cert.DiffPromptIdeal.Diff

open Cert.DiffPromptIdeal Cert.DiffPromptIdeal.Gen
open Idealize.ShloMosaic Idealize.ShloMosaic.TcCoe Idealize.SL.Sem
open Idealize.ShloMosaic.Pipeline (Dat)

variable (m : (ℓ : Loc nD τ sig) → Buf (Elt Ideal) ℓ)

/-- The index maps of the windows, in the grid's coordinates. -/
theorem idx : ∀ t : Fin cfg0.N, win0_0.index t = ![(grid0.coords t 0).val, (grid0.coords t 1).val, 0, (grid0.coords t 2).val, 0]
    ∧ win0_1.index t = ![(grid0.coords t 0).val, (grid0.coords t 1).val, 0, 0] ∧ win0_2.index t = ![(grid0.coords t 0).val, (grid0.coords t 1).val, 0, 0]
    ∧ win0_3.index t = ![(grid0.coords t 1).val, 0, 0, 0] ∧ win0_4.index t = ![0, 0] ∧ win0_5.index t = ![0, 0]
    ∧ win0_6.index t = ![(grid0.coords t 0).val, (grid0.coords t 1).val, 0, (grid0.coords t 2).val, 0]
    ∧ (grid0.coords t 0).val < 8 ∧ (grid0.coords t 1).val < 2 ∧ (grid0.coords t 2).val < 8 :=
  (by decide +kernel : ∀ t : Fin grid0.N, _)

/-- The queries by group, head and component, the positions inside. -/
def comps (A : FVec Ideal S8x2048x512 .f32) : FVec Ideal S8x2x2x2x2048x64 .f32 :=
  transpose S8x2x2x2x2048x64 [0, 2, 3, 4, 1, 5] (shapeCast S8x2048x2x2x2x64 A shapeCasts_S8x2048x512_S8x2048x2x2x2x64)
    transposes_S8x2048x2x2x2x64_S8x2x2x2x2048x64_0_2_3_4_1_5

/-- The channels the padding adds. -/
def zeros : FVec Ideal S8x2x2x2048x64 .f32 := broadcastInDim S8x2x2x2048x64 ![] bcast_S_S8x2x2x2048x64 (constant S_ .f32 0#32)

/-- The first component's queries, padded behind. -/
def first (A : FVec Ideal S8x2048x512 .f32) : FVec Ideal S8x2x2x2048x128 .f32 :=
  concatenate S8x2x2x2048x128 4
    [⟨S8x2x2x2048x64, shapeCast S8x2x2x2048x64 (extractStridedSlice S8x2x2x1x2048x64 ![0, 0, 0, 0, 0, 0] (comps A)
        slices_S8x2x2x2x2048x64_S8x2x2x1x2048x64_0_0_0_0_0_0) shapeCasts_S8x2x2x1x2048x64_S8x2x2x2048x64⟩, ⟨S8x2x2x2048x64, zeros⟩]
    concatenates_S8x2x2x2048x64_S8x2x2x2048x64_S8x2x2x2048x128_d4

/-- The second component's queries, padded in front. -/
def second (A : FVec Ideal S8x2048x512 .f32) : FVec Ideal S8x2x2x2048x128 .f32 :=
  concatenate S8x2x2x2048x128 4
    [⟨S8x2x2x2048x64, zeros⟩, ⟨S8x2x2x2048x64, shapeCast S8x2x2x2048x64 (extractStridedSlice S8x2x2x1x2048x64 ![0, 0, 0, 1, 0, 0] (comps A)
        slices_S8x2x2x2x2048x64_S8x2x2x1x2048x64_0_0_0_1_0_0) shapeCasts_S8x2x2x1x2048x64_S8x2x2x2048x64⟩]
    concatenates_S8x2x2x2048x64_S8x2x2x2048x64_S8x2x2x2048x128_d4

/-- The padded queries, heads and components on one axis. -/
def padded (A : FVec Ideal S8x2048x512 .f32) : FVec Ideal S8x2x4x2048x128 .f32 :=
  shapeCast S8x2x4x2048x128 (concatenate S8x2x2x2x2048x128 3
    [⟨S8x2x2x1x2048x128, broadcastInDim S8x2x2x1x2048x128 ![0, 1, 2, 4, 5] bcast_S8x2x2x2048x128_S8x2x2x1x2048x128_0_1_2_4_5 (first A)⟩,
      ⟨S8x2x2x1x2048x128, broadcastInDim S8x2x2x1x2048x128 ![0, 1, 2, 4, 5] bcast_S8x2x2x2048x128_S8x2x2x1x2048x128_0_1_2_4_5 (second A)⟩]
    concatenates_S8x2x2x1x2048x128_S8x2x2x1x2048x128_S8x2x2x2x2048x128_d3) shapeCasts_S8x2x2x2x2048x128_S8x2x4x2048x128

theorem host (c : Dev nD) : V m c main_v14 = padded (m ((c : Thread nD τ).loc main_arg0)) := by
  entry_read
  rfl

section Read
variable (A : FVec Ideal S8x2048x512 .f32) (b : Fin 8) (g h : Fin 2) (q : Fin 2048)

theorem comps_apply (e : Fin 2) (x : Fin 64) : comps A (ix6 b g h e q x) = A (ix3 b q ⟨g.val * 256 + h.val * 128 + e.val * 64 + x.val, by omega⟩) := by
  pointwise [comps]

theorem drop_one (M : FVec Ideal S8x2x2x1x2048x64 .f32) (x : Fin 64) :
    shapeCast S8x2x2x2048x64 M shapeCasts_S8x2x2x1x2048x64_S8x2x2x2048x64 (ix5 b g h q x) = M (ix6 b g h 0 q x) := by
  pointwise

theorem first_low (x : Fin 64) : first A (ix5 b g h q ⟨x.val, by omega⟩) = comps A (ix6 b g h 0 q x) := by
  unfold first
  generalize comps A = M
  pointwise

theorem first_high (x : Fin 64) : first A (ix5 b g h q ⟨64 + x.val, by omega⟩) = 0 := by
  unfold first
  generalize comps A = M
  pointwise [zeros]

theorem second_low (x : Fin 64) : second A (ix5 b g h q ⟨x.val, by omega⟩) = 0 := by
  unfold second
  generalize comps A = M
  pointwise [zeros]

theorem second_high (x : Fin 64) : second A (ix5 b g h q ⟨64 + x.val, by omega⟩) = comps A (ix6 b g h 1 q x) := by
  unfold second
  generalize comps A = M
  pointwise

theorem padded_first (x : Fin 128) : padded A (ix5 b g ⟨h.val * 2, by omega⟩ q x) = first A (ix5 b g h q x) := by
  unfold padded
  generalize first A = M
  generalize second A = N
  pointwise
  rw [dif_pos (by omega)]

theorem padded_second (x : Fin 128) : padded A (ix5 b g ⟨h.val * 2 + 1, by omega⟩ q x) = second A (ix5 b g h q x) := by
  unfold padded
  generalize first A = M
  generalize second A = N
  pointwise
  rw [dif_neg (by omega)]

end Read

variable (c : Dev nD) (t : Fin cfg0.N) (b : Fin 8) (hb : b.val = (grid0.coords t 0).val) (g : Fin 2) (hg : g.val = (grid0.coords t 1).val)
  (q : Fin 2048) (r : Fin 256) (hq : q.val = 256 * (grid0.coords t 2).val + r.val)

include hb hg hq in
theorem place (h : Fin 4) (x : Fin 128) :
    (((View.whole main_v14).slice (win0_0.rect t)).emb (ix5 0 0 h r x) : S8x2x4x2048x128.Idx) = ix5 b g h q x := by
  blk_ext [idx t]

theorem block0 (W : (b : Ref sig .tc) → Buf (Elt Ideal) ((c : Thread nD τ).loc b)) (y : S1x1x4x256x128.Idx) :
    ((cfg0.win 0).blk t).view.read (Elt Ideal) (W (Pipeline.arrRef spec0 0)) y = W main_v14 (((View.whole main_v14).slice (win0_0.rect t)).emb y) := by
  rfl

include hb hg hq in
/-- The query block's rows are the padded queries'. -/
theorem query (h : Fin 4) (x : Fin 128) : iblk m c 0 t (ix5 0 0 h r x) = padded (m ((c : Thread nD τ).loc main_arg0)) (ix5 b g h q x) := by
  rw [← host m c, ← place t b hb g hg q r hq]
  exact block0 c t (V m c) _

include hb hg in
theorem key (k : Fin 2048) (x : Fin 128) : iblk m c 1 t (ix4 0 0 k x) = m ((c : Thread nD τ).loc main_arg1) (ix3 b k ⟨g.val * 128 + x.val, by omega⟩) := by
  blk_simp [iblk]
  entry_read
  have e : (((View.whole main_v29).slice (win0_1.rect t)).emb (ix4 0 0 k x) : S8x2x2048x128.Idx) = ix4 b g k x := by
    blk_ext [idx t]
  rw [e]
  pointwise

include hb hg in
theorem val (k : Fin 2048) (x : Fin 128) : iblk m c 2 t (ix4 0 0 k x) = m ((c : Thread nD τ).loc main_arg2) (ix3 b k ⟨g.val * 128 + x.val, by omega⟩) := by
  blk_simp [iblk]
  entry_read
  have e : (((View.whole main_v31).slice (win0_2.rect t)).emb (ix4 0 0 k x) : S8x2x2048x128.Idx) = ix4 b g k x := by
    blk_ext [idx t]
  rw [e]
  pointwise

/-- The slope of head `n`. -/
def slope (n : ℕ) : EReal :=
  Ideal.pow (Ideal.ofBits .f32 0x40000000#32) (Ideal.div (Ideal.ofBits .f32 0xC1000000#32 * (1 + FloatOps.sitofp (F := Ideal) .f32 (BitVec.ofNat 32 n)))
    (Ideal.ofBits .f32 0x40800000#32))

include hg in
theorem slopes (h : Fin 4) : iblk m c 3 t (ix4 0 h 0 0) = slope (g.val * 2 + h.val / 2) := by
  blk_simp [iblk]
  entry_read
  have e : (((View.whole main_v27).slice (win0_3.rect t)).emb (ix4 0 h 0 0) : S2x4x1x1.Idx) = ix4 g h 0 0 := by
    blk_ext [idx t]
  rw [e]
  pointwise
  rfl

theorem mixing : iblk m c 4 t (ix2 0 0) = m ((c : Thread nD τ).loc main_arg3) ix0 := by
  blk_simp [iblk]
  entry_read
  have e : (((View.whole main_v32).slice (win0_4.rect t)).emb (ix2 0 0) : S1x1.Idx) = ix2 0 0 := by
    blk_ext [idx t]
  rw [e]
  pointwise

theorem gain (x : Fin 128) : iblk m c 5 t (ix2 0 x) = m ((c : Thread nD τ).loc main_arg4) (ix1 x) := by
  blk_simp [iblk]
  entry_read
  have e : (((View.whole main_v33).slice (win0_5.rect t)).emb (ix2 0 x) : S1x128.Idx) = ix2 0 x := by
    blk_ext [idx t]
  rw [e]
  pointwise

end Cert.DiffPromptIdeal.Diff
-- ==== Proof.DiffReference.lean ====
/- The reference of the prompt's differential attention, read at one element: the values weighted by the difference of the two
   components' softmax weights, normalised. -/
module

public import proofs.«01_k».proof.Proof.Gen.DiffPromptRefIdeal.Read
public import proofs.«01_k».proof.Proof.DiffMath
public import Idealize.ShloMosaic.Lib.Pointwise
public import Idealize.ShloMosaic.Lib.WordArith

@[expose] public section

set_option maxRecDepth 16384

noncomputable section

namespace Cert.DiffPromptRefIdeal.Diff

open Cert.DiffPromptRefIdeal Cert.DiffPromptRefIdeal.Gen Cert.DiffPromptRefIdeal.Read
open Idealize.ShloMosaic Idealize.ShloMosaic.TcCoe Idealize.SL.Sem

variable (X : FVec Ideal S8x2048x512 .f32) (Y Z : FVec Ideal S8x2048x256 .f32) (L : FVec Ideal S_ .f32) (G : FVec Ideal S128 .f32)

theorem ninf : Ideal.ofBits FTy.f32 4286578688#32 = (⊥ : EReal) := by
  simp [Ideal.ofBits, Ideal.ieee]

theorem pinf : Ideal.ofBits FTy.f32 2139095040#32 = (⊤ : EReal) := by
  simp [Ideal.ofBits, Ideal.ieee]

theorem one : Ideal.ofBits FTy.f32 1065353216#32 = (1 : EReal) := by
  simp

/-- The slope of head `n`'s distances. -/
def slope (n : Fin 4) : EReal := val_main_v11 (F := Ideal) (ix1 n)

/-- The score of key `k` for query `q` of component `c` of head `r` of group `g`: minus infinity beyond the diagonal. -/
def score (b : Fin 8) (g r c : Fin 2) (q : Fin 2048) (k : ℕ) : EReal :=
  if hk : k ≤ q.val ∧ k < 2048 then
    (∑ d : Fin 64, X (ix3 b q ⟨g.val * 256 + r.val * 128 + c.val * 64 + d.val, by omega⟩)
        * Y (ix3 b ⟨k, hk.2⟩ ⟨g.val * 128 + c.val * 64 + d.val, by omega⟩)) * Ideal.ofBits .f32 0x3E000000#32
      - slope ⟨g.val * 2 + r.val, by omega⟩ * Attn.dist q.val k
  else ⊥

/-- Column `d` of group `g`'s value at key `k`. -/
def value (b : Fin 8) (g : Fin 2) (d : Fin 128) (k : ℕ) : EReal :=
  if hk : k < 2048 then Z (ix3 b ⟨k, hk⟩ ⟨g.val * 128 + d.val, by omega⟩) else 0

theorem dist_toInt (k q : ℕ) (hk : k < 2048) (hq : q < 2048) :
    (IntOp.subi (BitVec.ofNat 32 q) (BitVec.ofNat 32 k)).toInt = (q : ℤ) - (k : ℤ) := by
  have e1 := WordArith.toInt_ofNat_small q (by omega)
  have e2 := WordArith.toInt_ofNat_small k (by omega)
  rw [IntOp.subi, ← e1, ← e2]
  apply WordArith.toInt_sub_of_bounds <;> (rw [e1, e2]; omega)

theorem mask_word (k q : ℕ) (hk : k < 2048) (hq : q < 2048) :
    IntOp.cmpi CmpIPredicate.sge (IntOp.subi (BitVec.ofNat 32 q) (BitVec.ofNat 32 k)) 0#32 = BitVec.ofBool (decide (k ≤ q)) := by
  rw [IntOp.cmpi]
  congr 1
  rw [Bool.eq_iff_iff, BitVec.sle_iff_toInt_le, dist_toInt k q hk hq]
  simp

theorem v21 (b : Fin 8) (g r c : Fin 2) (q k : Fin 2048) : val_main_v21 (F := Ideal) X Y (ix6 b g r c q k)
    = ∑ d : Fin 64, X (ix3 b q ⟨g.val * 256 + r.val * 128 + c.val * 64 + d.val, by omega⟩)
        * Y (ix3 b k ⟨g.val * 128 + c.val * 64 + d.val, by omega⟩) := by
  pointwise [val_main_v0, val_main_v1, val_main_v20, val_main_v21]
  exact Finset.sum_congr rfl fun d _ => mul_comm _ _

theorem v28 (g r : Fin 2) (q k : Fin 2048) : val_main_v28 (F := Ideal) (ix6 0 g r 0 q k)
    = slope ⟨g.val * 2 + r.val, by omega⟩ * Attn.dist q.val k.val := by
  unfold slope val_main_v28 val_main_v26 val_main_v12
  generalize val_main_v11 (F := Ideal) = M
  pointwise [val_main_v13, val_main_v14, val_main_v15, val_main_v16, val_main_v17, val_main_v18, val_main_v19, val_main_v24, val_main_v25, val_main_v27]
  refine congrArg (fun a : EReal => M _ * a) ?_
  show (((IntOp.subi (BitVec.ofNat 32 q.val) (BitVec.ofNat 32 k.val)).toInt : ℝ) : EReal) = _
  rw [dist_toInt k.val q.val k.isLt q.isLt]
  rfl

theorem v33 (b : Fin 8) (g r c : Fin 2) (q k : Fin 2048) : val_main_v33 (F := Ideal) X Y (ix6 b g r c q k) = score X Y b g r c q k.val := by
  have h21 := v21 X Y b g r c q k
  have h28 := v28 g r q k
  unfold val_main_v33 val_main_v30 val_main_v23 val_main_v29
  generalize val_main_v21 (F := Ideal) X Y = M at *
  generalize val_main_v28 (F := Ideal) = N at *
  pointwise [val_main_v13, val_main_v14, val_main_v15, val_main_v16, val_main_v17, val_main_v18, val_main_v19, val_main_v22, val_main_v31, val_main_v32, val_main_c, val_main_cst_3, val_main_cst_4, val_main_call0_v0, val_main_call0_v1, val_main_call0_v2]
  rw [mask_word _ _ k.isLt q.isLt, score]
  by_cases hle : k.val ≤ q.val
  · rw [dif_pos ⟨hle, k.isLt⟩, decide_eq_true hle, ← h28, ← h21]
    rfl
  · rw [dif_neg (fun h => hle h.1), decide_eq_false hle]
    exact ninf

theorem sup_fold (f : ℕ → EReal) : Finset.fold max ⊥ (fun x : Fin 2048 => f x.val) Finset.univ = (Finset.range 2048).sup f := by
  show (Finset.univ.sup fun x : Fin 2048 => f x.val) = _
  refine le_antisymm (Finset.sup_le fun x _ => Finset.le_sup (f := f) (Finset.mem_range.2 x.isLt)) (Finset.sup_le fun k hk => ?_)
  exact Finset.le_sup (f := fun x : Fin 2048 => f x.val) (Finset.mem_univ ⟨k, Finset.mem_range.1 hk⟩)

/-- The indices that a reduction along the keys maps to one result index. -/
theorem fiber (b : Fin 8) (g r c : Fin 2) (q : Fin 2048) (i : S8x2x2x2x2048x2048.Idx) :
    reducesTo_S8x2x2x2x2048x2048_S8x2x2x2x2048_d5.drop i = ix5 b g r c q ↔ ∃ k : Fin 2048, ix6 b g r c q k = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a
    apply Fin.ext
    match a with
    | ⟨0, _⟩ => rfl
    | ⟨1, _⟩ => rfl
    | ⟨2, _⟩ => rfl
    | ⟨3, _⟩ => rfl
    | ⟨4, _⟩ => rfl

theorem v34 (b : Fin 8) (g r c : Fin 2) (q : Fin 2048) :
    val_main_v34 (F := Ideal) X Y (ix5 b g r c q) = (Finset.range 2048).sup (score X Y b g r c q) := by
  have h33 := v33 X Y b g r c q
  unfold val_main_v34
  generalize val_main_v33 (F := Ideal) X Y = M at *
  pointwise [val_main_cst_5]
  rw [ninf, ← sup_fold]
  simp only [← h33]
  exact Finset.fold_filter_eq_fold_of_fiber max _ (fun k : Fin 2048 => ix6 b g r c q k) (fun _ _ e => congrFun e 5) (fiber b g r c q) ⊥ M

theorem v35 (b : Fin 8) (g r c : Fin 2) (q : Fin 2048) :
    val_main_v35 (F := Ideal) X Y (ix6 b g r c q 0) = (Finset.range 2048).sup (score X Y b g r c q) := by
  rw [← v34]
  unfold val_main_v35
  generalize val_main_v34 (F := Ideal) X Y = M
  pointwise

theorem fin_word (x : EReal) : (if max x (-x) < ⊤ then x else 0) = Attn.fin x := by
  rw [Attn.fin]
  induction x with
  | bot => simp
  | top => simp
  | coe r => simp [← EReal.coe_neg]

/-- The maximum, zero where it is infinite, over any array of maxima. -/
theorem fin_apply (M : FVec Ideal S8x2x2x2x2048x1 .f32) (b : Fin 8) (g r c : Fin 2) (q : Fin 2048) :
    select (cmpf .olt (Host.absf M) (val_main_v37 (F := Ideal))) M (val_main_call1_v1 (F := Ideal)) (ix6 b g r c q 0) = Attn.fin (M (ix6 b g r c q 0)) := by
  rw [← fin_word]
  generalize hz : M (ix6 b g r c q 0) = z
  pointwise [val_main_v37, val_main_cst_6, val_main_cst_7, val_main_call1_v0, val_main_call1_v1]
  rw [hz, pinf]
  show (if max z (-z) < ⊤ then z else Ideal.ofBits .f32 0#32) = _
  rw [Ideal.ofBits_zero_f32]

theorem v39 (b : Fin 8) (g r c : Fin 2) (q : Fin 2048) :
    val_main_v39 (F := Ideal) X Y (ix6 b g r c q 0) = Attn.fin ((Finset.range 2048).sup (score X Y b g r c q)) := by
  rw [← v35]
  unfold val_main_v39 val_main_v38 val_main_v36
  generalize val_main_v35 (F := Ideal) X Y = M
  exact fin_apply M b g r c q

theorem v42 (b : Fin 8) (g r c : Fin 2) (q k : Fin 2048) : val_main_v42 (F := Ideal) X Y (ix6 b g r c q k)
    = Ideal.exp (score X Y b g r c q k.val - Attn.fin ((Finset.range 2048).sup (score X Y b g r c q))) := by
  rw [← v33, ← v39]
  unfold val_main_v42 val_main_v41 val_main_v40
  generalize val_main_v33 (F := Ideal) X Y = M
  generalize val_main_v39 (F := Ideal) X Y = M
  pointwise

theorem v43 (b : Fin 8) (g r c : Fin 2) (q : Fin 2048) : val_main_v43 (F := Ideal) X Y (ix5 b g r c q)
    = ∑ k ∈ Finset.range 2048, Ideal.exp (score X Y b g r c q k - Attn.fin ((Finset.range 2048).sup (score X Y b g r c q))) := by
  rw [Finset.sum_range]
  simp only [← v42]
  unfold val_main_v43
  generalize val_main_v42 (F := Ideal) X Y = M
  pointwise [val_main_cst_8]
  rw [Ideal.hostReduceAdd, zero_add]
  exact Finset.sum_filter_eq_sum_of_fiber _ (fun k : Fin 2048 => ix6 b g r c q k) (fun _ _ e => congrFun e 5) (fiber b g r c q) M

theorem v47 (b : Fin 8) (g r c : Fin 2) (q : Fin 2048) : val_main_v47 (F := Ideal) X Y (ix6 b g r c q 0)
    = Attn.pos (val_main_v43 (F := Ideal) X Y (ix5 b g r c q)) := by
  unfold val_main_v47 val_main_v46 val_main_v44
  generalize val_main_v43 (F := Ideal) X Y = M
  pointwise [val_main_v45, val_main_cst_9, val_main_cst_10, val_main_call2_v0, val_main_call2_v1]
  show (if 0 < _ then _ else Ideal.ofBits .f32 1065353216#32) = _
  rw [one]
  rfl

/-- The softmax weights. -/
theorem v49 (b : Fin 8) (g r c : Fin 2) (q k : Fin 2048) : val_main_v49 (F := Ideal) X Y (ix6 b g r c q k)
    = Attn.weight (Finset.range 2048) (score X Y b g r c q) k.val := by
  rw [Attn.weight, ← v43, ← v47, ← v42]
  unfold val_main_v49 val_main_v48
  generalize val_main_v42 (F := Ideal) X Y = M
  generalize val_main_v47 (F := Ideal) X Y = M
  pointwise

end Cert.DiffPromptRefIdeal.Diff
-- ==== Proof.DiffRow.lean ====
/- The reference of the prompt's differential attention, read at one element: the values weighted by the difference of the two
   components' softmax weights, normalised. -/
module

public import proofs.«01_k».proof.Proof.DiffReference

@[expose] public section

set_option maxRecDepth 16384

noncomputable section

namespace Cert.DiffPromptRefIdeal.Diff

open Cert.DiffPromptRefIdeal Cert.DiffPromptRefIdeal.Gen Cert.DiffPromptRefIdeal.Read
open Idealize.ShloMosaic Idealize.ShloMosaic.TcCoe Idealize.SL.Sem

variable (X : FVec Ideal S8x2048x512 .f32) (Y Z : FVec Ideal S8x2048x256 .f32) (L : FVec Ideal S_ .f32) (G : FVec Ideal S128 .f32)

/-- The unit axis left by the choice of a component, dropped. -/
theorem drop_one (M : FVec Ideal S8x2x2x1x2048x2048 .f32) (b : Fin 8) (g r : Fin 2) (q k : Fin 2048) :
    shapeCast S8x2x2x2048x2048 M shapeCasts_S8x2x2x1x2048x2048_S8x2x2x2048x2048 (ix5 b g r q k) = M (ix6 b g r 0 q k) := by
  pointwise

theorem v51 (b : Fin 8) (g r : Fin 2) (q k : Fin 2048) : val_main_v51 (F := Ideal) X Y (ix5 b g r q k)
    = Attn.weight (Finset.range 2048) (score X Y b g r 0 q) k.val := by
  rw [← v49]
  have h : val_main_v50 (F := Ideal) X Y (ix6 b g r 0 q k) = val_main_v49 (F := Ideal) X Y (ix6 b g r 0 q k) := by
    unfold val_main_v50
    generalize val_main_v49 (F := Ideal) X Y = M
    pointwise
  rw [← h]
  unfold val_main_v51
  generalize val_main_v50 (F := Ideal) X Y = M
  exact drop_one M b g r q k

theorem v53 (b : Fin 8) (g r : Fin 2) (q k : Fin 2048) : val_main_v53 (F := Ideal) X Y (ix5 b g r q k)
    = Attn.weight (Finset.range 2048) (score X Y b g r 1 q) k.val := by
  rw [← v49]
  have h : val_main_v52 (F := Ideal) X Y (ix6 b g r 0 q k) = val_main_v49 (F := Ideal) X Y (ix6 b g r 1 q k) := by
    unfold val_main_v52
    generalize val_main_v49 (F := Ideal) X Y = M
    pointwise
  rw [← h]
  unfold val_main_v53
  generalize val_main_v52 (F := Ideal) X Y = M
  exact drop_one M b g r q k

/-- The difference of two arrays of weights, the second times the mixing factor. -/
theorem v56 (M N : FVec Ideal S8x2x2x2048x2048 .f32) (hM : val_main_v51 (F := Ideal) X Y = M) (hN : val_main_v53 (F := Ideal) X Y = N)
    (b : Fin 8) (g r : Fin 2) (q k : Fin 2048) :
    val_main_v56 (F := Ideal) X Y L (ix5 b g r q k) = M (ix5 b g r q k) - L ix0 * N (ix5 b g r q k) := by
  unfold val_main_v56 val_main_v55 val_main_v54
  rw [hM, hN]
  pointwise

/-- The difference of the two components' weights. -/
def mixed (b : Fin 8) (g r : Fin 2) (q : Fin 2048) (k : ℕ) : EReal :=
  Attn.weight (Finset.range 2048) (score X Y b g r 0 q) k - L ix0 * Attn.weight (Finset.range 2048) (score X Y b g r 1 q) k

theorem v56_mixed (b : Fin 8) (g r : Fin 2) (q k : Fin 2048) : val_main_v56 (F := Ideal) X Y L (ix5 b g r q k) = mixed X Y L b g r q k.val := by
  have h0 := v51 X Y b g r q k
  have h1 := v53 X Y b g r q k
  obtain ⟨M, hM⟩ : ∃ M : FVec Ideal S8x2x2x2048x2048 .f32, val_main_v51 (F := Ideal) X Y = M := ⟨_, rfl⟩
  obtain ⟨N, hN⟩ : ∃ N : FVec Ideal S8x2x2x2048x2048 .f32, val_main_v53 (F := Ideal) X Y = N := ⟨_, rfl⟩
  rw [v56 X Y L M N hM hN, mixed]
  rw [hM] at h0
  rw [hN] at h1
  rw [h0, h1]

/-- Head `(g, r)`'s row of query `q` before the normalisation. -/
def row (b : Fin 8) (g r : Fin 2) (q : Fin 2048) (d : Fin 128) : EReal :=
  ∑ k ∈ Finset.range 2048, mixed X Y L b g r q k * value Z b g d k

theorem v57 (b : Fin 8) (g r : Fin 2) (q : Fin 2048) (d : Fin 128) : val_main_v57 (F := Ideal) X Y Z L (ix5 b g r q d) = row X Y Z L b g r q d := by
  have h56 := v56_mixed X Y L b g r q
  unfold val_main_v57
  generalize val_main_v56 (F := Ideal) X Y L = M at *
  rw [row, Finset.sum_range]
  simp only [← h56]
  pointwise [val_main_v2]
  refine Finset.sum_congr rfl fun k _ => ?_
  rw [value, dif_pos k.isLt]

/-- The normalisation of the rows. -/
theorem v72 (M : FVec Ideal S8x2x2x2048x128 .f32) (hM : val_main_v57 (F := Ideal) X Y Z L = M) (b : Fin 8) (g r : Fin 2) (q : Fin 2048) (d : Fin 128) :
    val_main_v72 (F := Ideal) X Y Z L G (ix5 b g r q d) = Attn.normed (fun e => M (ix5 b g r q e)) (G (ix1 d)) d := by
  unfold val_main_v72 val_main_v70 val_main_v67 val_main_v66 val_main_v65 val_main_v64 val_main_v62 val_main_v60 val_main_v59 val_main_v58
  rw [hM]
  pointwise [val_main_v61, val_main_v63, val_main_v68, val_main_v69, val_main_v71, val_main_cst_11, val_main_cst_12, val_main_cst_13, val_main_cst_14]
  rfl

/-- The reference's result at one element. -/
theorem v72_row (b : Fin 8) (g r : Fin 2) (q : Fin 2048) (d : Fin 128) : val_main_v72 (F := Ideal) X Y Z L G (ix5 b g r q d)
    = Attn.normed (row X Y Z L b g r q) (G (ix1 d)) d := by
  have h57 := v57 X Y Z L b g r q
  obtain ⟨M, hM⟩ : ∃ M : FVec Ideal S8x2x2x2048x128 .f32, val_main_v57 (F := Ideal) X Y Z L = M := ⟨_, rfl⟩
  rw [v72 X Y Z L G M hM]
  rw [hM] at h57
  exact congrArg (fun o => Attn.normed o (G (ix1 d)) d) (funext h57)

end Cert.DiffPromptRefIdeal.Diff
-- ==== Proof.DiffClaim.lean ====
/- The prompt's differential attention: the kernel's output array is the reference's, element by element, where the values
   and the mixing factor are finite. -/
module

public import proofs.«01_k».proof.Proof.DiffValue
public import proofs.«01_k».proof.Proof.DiffQuery
public import proofs.«01_k».proof.Proof.DiffRow
public import proofs.«01_k».proof.Proof.Gen.Pre_finite_values
public import proofs.«01_k».proof.Defs
public import Idealize.ShloMosaic.Lib.Claim
public import Idealize.ShloMosaic.Lib.Pipeline.ValueKit

@[expose] public section

set_option maxRecDepth 16384

noncomputable section

namespace Cert.DiffPromptIdeal.Diff

open Cert.DiffPromptIdeal Cert.DiffPromptIdeal.Gen
open Idealize.ShloMosaic Idealize.ShloMosaic.TcCoe Idealize.SL.Sem
open Idealize.ShloMosaic.Pipeline (Dat)

/-- A sum over the padded channels, by halves. -/
theorem sum_halves (f : Fin 128 → EReal) :
    ∑ x, f x = ∑ x : Fin 64, f ⟨x.val, by omega⟩ + ∑ x : Fin 64, f ⟨64 + x.val, by omega⟩ :=
  Fin.sum_univ_add (a := 64) (b := 64) f

/-- The reference's slopes are the kernel's. -/
theorem slope_eq (n : Fin 4) : Cert.DiffPromptRefIdeal.Diff.slope n = slope n.val := by
  unfold Cert.DiffPromptRefIdeal.Diff.slope
  pointwise [Cert.DiffPromptRefIdeal.Read.val_main_v3, Cert.DiffPromptRefIdeal.Read.val_main_v4, Cert.DiffPromptRefIdeal.Read.val_main_v5,
    Cert.DiffPromptRefIdeal.Read.val_main_v6, Cert.DiffPromptRefIdeal.Read.val_main_v7, Cert.DiffPromptRefIdeal.Read.val_main_v8,
    Cert.DiffPromptRefIdeal.Read.val_main_v9, Cert.DiffPromptRefIdeal.Read.val_main_v10, Cert.DiffPromptRefIdeal.Read.val_main_v11,
    Cert.DiffPromptRefIdeal.Read.val_main_cst, Cert.DiffPromptRefIdeal.Read.val_main_cst_0, Cert.DiffPromptRefIdeal.Read.val_main_cst_1,
    Cert.DiffPromptRefIdeal.Read.val_main_cst_2]
  rfl

section Point
variable (i : grid0.Coords) (x0 : FVec Ideal S1x1x4x256x128 .f32) (x1 x2 : FVec Ideal S1x1x2048x128 .f32) (x3 : FVec Ideal S1x4x1x1 .f32)
  (x4 : FVec Ideal S1x1 .f32) (x5 : FVec Ideal S1x128 .f32)
  (A : FVec Ideal S8x2048x512 .f32) (B C : FVec Ideal S8x2048x256 .f32) (L : FVec Ideal S_ .f32) (G : FVec Ideal S128 .f32)
  (b : Fin 8) (g : Fin 2) (q : Fin 2048) (r : Fin 256)

/-- The blocks at a grid point, as elements of the arguments. -/
structure Blocks : Prop where
  pos : q.val = 256 * (i 2).val + r.val
  query : ∀ h x, x0 (ix5 0 0 h r x) = padded A (ix5 b g h q x)
  key : ∀ k x, x1 (ix4 0 0 k x) = B (ix3 b k ⟨g.val * 128 + x.val, by omega⟩)
  val : ∀ k x, x2 (ix4 0 0 k x) = C (ix3 b k ⟨g.val * 128 + x.val, by omega⟩)
  slopes : ∀ h : Fin 4, x3 (ix4 0 h 0 0) = slope (g.val * 2 + h.val / 2)
  mixing : x4 (ix2 0 0) = L ix0
  gain : ∀ x, x5 (ix2 0 x) = G (ix1 x)

variable (H : Blocks i x0 x1 x2 x3 x4 x5 A B C L G b g q r)
include H

/-- The first component's product: the second half of the padded channels adds nothing. -/
theorem dot_first (h : Fin 2) (k : Fin 2048) :
    ∑ x : Fin 128, x0 (ix5 0 0 ⟨h.val * 2, by omega⟩ r x) * x1 (ix4 0 0 k x)
      = ∑ d : Fin 64, A (ix3 b q ⟨g.val * 256 + h.val * 128 + (0 : Fin 2).val * 64 + d.val, by have := (0 : Fin 2).isLt; omega⟩)
          * B (ix3 b k ⟨g.val * 128 + (0 : Fin 2).val * 64 + d.val, by have := (0 : Fin 2).isLt; omega⟩) := by
  rw [sum_halves, Finset.sum_eq_zero (s := Finset.univ) (f := fun x : Fin 64 => x0 (ix5 0 0 ⟨h.val * 2, by omega⟩ r ⟨64 + x.val, by omega⟩) * x1 (ix4 0 0 k ⟨64 + x.val, by omega⟩)), add_zero]
  · refine Finset.sum_congr rfl fun d _ => ?_
    rw [H.query, padded_first, first_low, comps_apply, H.key]
    congr 3
  · intro x _
    rw [H.query, padded_first, first_high, zero_mul]

/-- The second component's product: the first half of the padded channels adds nothing. -/
theorem dot_second (h : Fin 2) (k : Fin 2048) :
    ∑ x : Fin 128, x0 (ix5 0 0 ⟨h.val * 2 + 1, by omega⟩ r x) * x1 (ix4 0 0 k x)
      = ∑ d : Fin 64, A (ix3 b q ⟨g.val * 256 + h.val * 128 + (1 : Fin 2).val * 64 + d.val, by have := (1 : Fin 2).isLt; omega⟩)
          * B (ix3 b k ⟨g.val * 128 + (1 : Fin 2).val * 64 + d.val, by have := (1 : Fin 2).isLt; omega⟩) := by
  rw [sum_halves, Finset.sum_eq_zero (s := Finset.univ) (f := fun x : Fin 64 => x0 (ix5 0 0 ⟨h.val * 2 + 1, by omega⟩ r ⟨x.val, by omega⟩) * x1 (ix4 0 0 k ⟨x.val, by omega⟩)), zero_add]
  · refine Finset.sum_congr rfl fun d _ => ?_
    rw [H.query, padded_second, second_high, comps_apply, H.key]
    congr 3
    apply Fin.ext
    show g.val * 128 + (64 + d.val) = g.val * 128 + 1 * 64 + d.val
    omega
  · intro x _
    rw [H.query, padded_second, second_low, zero_mul]

/-- The first component's scores are the reference's. -/
theorem score_first (h : Fin 2) : score i x0 x1 x3 ⟨h.val * 2, by omega⟩ r = Cert.DiffPromptRefIdeal.Diff.score A B b g h 0 q := by
  funext k
  have hp := H.pos
  unfold score Cert.DiffPromptRefIdeal.Diff.score
  by_cases hk : k ≤ q.val ∧ k < 2048
  · rw [dif_pos hk, dif_pos (by omega), dot_first i x0 x1 x2 x3 x4 x5 A B C L G b g q r H h ⟨k, hk.2⟩, H.slopes, slope_eq, ← hp,
      show g.val * 2 + h.val * 2 / 2 = g.val * 2 + h.val by omega]
    rfl
  · rw [dif_neg hk, dif_neg (by omega)]

/-- The second component's scores are the reference's. -/
theorem score_second (h : Fin 2) : score i x0 x1 x3 ⟨h.val * 2 + 1, by omega⟩ r = Cert.DiffPromptRefIdeal.Diff.score A B b g h 1 q := by
  funext k
  have hp := H.pos
  unfold score Cert.DiffPromptRefIdeal.Diff.score
  by_cases hk : k ≤ q.val ∧ k < 2048
  · rw [dif_pos hk, dif_pos (by omega), dot_second i x0 x1 x2 x3 x4 x5 A B C L G b g q r H h ⟨k, hk.2⟩, H.slopes, slope_eq, ← hp,
      show g.val * 2 + (h.val * 2 + 1) / 2 = g.val * 2 + h.val by omega]
    rfl
  · rw [dif_neg hk, dif_neg (by omega)]

/-- The kernel's values are the reference's. -/
theorem value_eq (d : Fin 128) : value x2 d = Cert.DiffPromptRefIdeal.Diff.value C b g d := by
  funext k
  unfold value Cert.DiffPromptRefIdeal.Diff.value
  by_cases hk : k < 2048
  · rw [dif_pos hk, dif_pos hk, H.val]
  · rw [dif_neg hk, dif_neg hk]

/-- What a grid point writes is the reference's result: the difference of the softmax sums is the sum weighted by the differences. -/
theorem out_eq (hC : ∀ j, ∃ x : ℝ, C j = x) (hL : ∃ x : ℝ, L ix0 = x) (z w : Fin 1) (h : Fin 2) (d : Fin 128) :
    out i x0 x1 x2 x3 x4 x5 (ix5 z w h r d) = Cert.DiffPromptRefIdeal.Read.val_main_v72 (F := Ideal) A B C L G (ix5 b g h q d) := by
  rw [Cert.DiffPromptRefIdeal.Diff.v72_row, out_apply, H.gain]
  refine congrArg (fun o => Attn.normed o (G (ix1 d)) d) (funext fun e => ?_)
  rw [score_first i x0 x1 x2 x3 x4 x5 A B C L G b g q r H, score_second i x0 x1 x2 x3 x4 x5 A B C L G b g q r H,
    value_eq i x0 x1 x2 x3 x4 x5 A B C L G b g q r H, H.mixing, Attn.soft_sub]
  · rfl
  · intro k hk
    rw [Cert.DiffPromptRefIdeal.Diff.value, dif_pos (Finset.mem_range.1 hk)]
    exact hC _
  · exact hL

end Point

/-- A value whose absolute value is below infinity is a real number. -/
theorem real_of_lt (x : EReal) (h : Ideal.cmp .olt (max x (-x)) ⊤ = 1#1) : ∃ y : ℝ, x = y := by
  have hlt : max x (-x) < ⊤ := by
    by_contra hn
    simp [Ideal.cmp, hn] at h
  induction x with
  | bot => simp at hlt
  | top => simp at hlt
  | coe r => exact ⟨r, rfl⟩

/-- The precondition's first array says that every value is a real number. -/
theorem values_real (A : FVec Ideal S8x2048x512 .f32) (B C : FVec Ideal S8x2048x256 .f32) (L : FVec Ideal S_ .f32) (G : FVec Ideal S128 .f32)
    (h : (Cert.Pre_finite_values.fn (F := Ideal) A B C L G).1 = fun _ => 1#1) (j) : ∃ x : ℝ, C j = x := by
  have e := congrFun h j
  refine real_of_lt _ ?_
  rw [← Cert.DiffPromptRefIdeal.Diff.pinf]
  exact e

/-- The precondition's second array says that the mixing factor is a real number. -/
theorem mixing_real (A : FVec Ideal S8x2048x512 .f32) (B C : FVec Ideal S8x2048x256 .f32) (L : FVec Ideal S_ .f32) (G : FVec Ideal S128 .f32)
    (h : (Cert.Pre_finite_values.fn (F := Ideal) A B C L G).2 = fun _ => 1#1) : ∃ x : ℝ, L ix0 = x := by
  have e := congrFun h ix0
  refine real_of_lt _ ?_
  rw [← Cert.DiffPromptRefIdeal.Diff.pinf]
  exact e

section Final
variable (m : (ℓ : Loc nD τ sig) → Buf (Elt Ideal) ℓ)

/-- The blocks of a grid point are the arguments' elements. -/
theorem blocks (c : Dev nD) (t : Fin cfg0.N) (b : Fin 8) (hb : b.val = (grid0.coords t 0).val) (g : Fin 2) (hg : g.val = (grid0.coords t 1).val)
    (q : Fin 2048) (r : Fin 256) (hq : q.val = 256 * (grid0.coords t 2).val + r.val) :
    Blocks (grid0.coords t) (iblk m c 0 t) (iblk m c 1 t) (iblk m c 2 t) (iblk m c 3 t) (iblk m c 4 t) (iblk m c 5 t)
      (m ((c : Thread nD τ).loc main_arg0)) (m ((c : Thread nD τ).loc main_arg1)) (m ((c : Thread nD τ).loc main_arg2))
      (m ((c : Thread nD τ).loc main_arg3)) (m ((c : Thread nD τ).loc main_arg4)) b g q r where
  pos := hq
  query := query m c t b hb g hg q r hq
  key := key m c t b hb g hg q r
  val := val m c t b hb g hg q r
  slopes := slopes m c t g hg
  mixing := mixing m c t
  gain := gain m c t

/-- What a grid point writes at a block index is the reference's result at the array index it sits at. -/
theorem point (c : Dev nD) (hC : ∀ j : S8x2048x256.Idx, ∃ x : ℝ, (m ((c : Thread nD τ).loc main_arg2)) j = (x : EReal))
    (hL : ∃ x : ℝ, (m ((c : Thread nD τ).loc main_arg3)) ix0 = (x : EReal)) (t : Fin cfg0.N) (y : S1x1x2x256x128.Idx) :
    out (grid0.coords t) (iblk m c 0 t) (iblk m c 1 t) (iblk m c 2 t) (iblk m c 3 t) (iblk m c 4 t) (iblk m c 5 t) y
      = Cert.DiffPromptRefIdeal.Read.val_main_v72 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (((cfg0.win 6).blk t).view.emb y) := by
  obtain ⟨-, -, -, -, -, -, -, h0, h1, h2⟩ := idx t
  idx_vars y
  have e : (((cfg0.win 6).blk t).view.emb (ix5 y0 y1 y2 y3 y4) : S8x2x2x2048x128.Idx)
      = ix5 (⟨(grid0.coords t 0).val, h0⟩ : Fin 8) (⟨(grid0.coords t 1).val, h1⟩ : Fin 2) y2
          (⟨256 * (grid0.coords t 2).val + y3.val, by omega⟩ : Fin 2048) y4 := by
    blk_ext [idx t]
  rw [e]
  exact out_eq _ _ _ _ _ _ _ _ _ _ _ _ _ _ _ _
    (blocks m c t ⟨(grid0.coords t 0).val, h0⟩ rfl ⟨(grid0.coords t 1).val, h1⟩ rfl ⟨256 * (grid0.coords t 2).val + y3.val, by omega⟩ y3 rfl)
    hC hL y0 y1 y2 y4

/-- The kernel's output array is the reference's result. -/
theorem final_eq (c : Dev nD) (hC : ∀ j : S8x2048x256.Idx, ∃ x : ℝ, (m ((c : Thread nD τ).loc main_arg2)) j = (x : EReal))
    (hL : ∃ x : ℝ, (m ((c : Thread nD τ).loc main_arg3)) ix0 = (x : EReal)) : (dats m 0 c).arrAt 6 (cfgs 0).N
    = Cert.DiffPromptRefIdeal.Read.val_main_v72 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact point m c hC hL t y

end Final

end Cert.DiffPromptIdeal.Diff

namespace Cert.Proof

open Idealize.ShloMosaic Idealize.ShloMosaic.TcCoe Idealize.SL.Sem

/-- The kernel's and the reference's results are equal from equal arguments with finite values and a finite mixing factor. -/
theorem diff_algebraic : @Cert.algebraic_DiffPromptIdeal_DiffPromptRefIdeal_pre_finite_values Cert.DiffPromptIdeal.Gen.facts
    Cert.DiffPromptRefIdeal.Gen.facts Cert.Pre_finite_values.Gen.facts := by
  intro m g m' g' hpre hagree
  refine ⟨fun c => (Cert.DiffPromptIdeal.Diff.dats m 0 c).arrAt 6 (Cert.DiffPromptIdeal.cfgs 0).N, ?_, ?_⟩
  · run_from Cert.DiffPromptIdeal.Diff.run_main m g
  · refine (θ_run _ _ _).mono (fun r h c => ?_) (Cert.DiffPromptRefIdeal.Value.run m' g')
    obtain ⟨h1, h2, h3⟩ := h c
    refine ⟨h1.trans ?_, h2, h3⟩
    obtain ⟨a0, a1, a2, a3, a4⟩ := hagree c
    rw [Cert.DiffPromptRefIdeal.Read.val_main_v72_eq]
    refine Eq.trans ?_ (Cert.DiffPromptIdeal.Diff.final_eq m c (Cert.DiffPromptIdeal.Diff.values_real _ _ _ _ _ (hpre c).1)
      (Cert.DiffPromptIdeal.Diff.mixing_real _ _ _ _ _ (hpre c).2)).symm
    exact congr (congr (congr (congr (congrArg (Cert.DiffPromptRefIdeal.Read.val_main_v72 (F := Ideal)) a0) a1) a2) a3) a4

end Cert.Proof
-- ==== Proof.Frames.lean ====
module

public import proofs.«01_k».proof.Defs
public import proofs.«01_k».proof.Proof.Gen.ReferenceIdeal.Run
public import proofs.«01_k».proof.Proof.Gen.InProjRefIdeal.Run
public import proofs.«01_k».proof.Proof.Gen.OutProjRefIdeal.Run
public import proofs.«01_k».proof.Proof.Gen.InProjCRefIdeal.Run
public import proofs.«01_k».proof.Proof.Gen.CmpProjRefIdeal.Run
public import proofs.«01_k».proof.Proof.Gen.DiffPromptRefIdeal.Run
public import Idealize.ShloMosaic.Lib.Quiescent

/-! # The frames of the references

A reference is a program of host operations that declares no semaphore, so its run leaves every counter at zero;
its arguments end as they began because no operation writes them. -/

@[expose] public section

open Idealize Idealize.ShloMosaic

namespace Cert.Proof

/-- The attention reference leaves its arguments unchanged. -/
theorem reference_frame : @Cert.quiescent_ReferenceIdeal Cert.ReferenceIdeal.Gen.facts := by
  intro m g _
  exact (θ_run _ _ _).mono (fun r h => ⟨fun c => (h c).2, sem_eq_zero_of_no_sems (by decide) r.2⟩)
    (Cert.ReferenceIdeal.Value.run m g)

/-- The input projection's reference leaves its arguments unchanged. -/
theorem inprojref_frame : @Cert.quiescent_InProjRefIdeal Cert.InProjRefIdeal.Gen.facts := by
  intro m g _
  exact (θ_run _ _ _).mono (fun r h => ⟨fun c => (h c).2, sem_eq_zero_of_no_sems (by decide) r.2⟩)
    (Cert.InProjRefIdeal.Value.run m g)

/-- The output projection's reference leaves its arguments unchanged. -/
theorem outprojref_frame : @Cert.quiescent_OutProjRefIdeal Cert.OutProjRefIdeal.Gen.facts := by
  intro m g _
  exact (θ_run _ _ _).mono (fun r h => ⟨fun c => (h c).2, sem_eq_zero_of_no_sems (by decide) r.2⟩)
    (Cert.OutProjRefIdeal.Value.run m g)

/-- The odd layers' input projection's reference leaves its arguments unchanged. -/
theorem inprojcref_frame : @Cert.quiescent_InProjCRefIdeal Cert.InProjCRefIdeal.Gen.facts := by
  intro m g _
  exact (θ_run _ _ _).mono (fun r h => ⟨fun c => (h c).2, sem_eq_zero_of_no_sems (by decide) r.2⟩)
    (Cert.InProjCRefIdeal.Value.run m g)

/-- The reference of the compression's projections leaves its arguments unchanged. -/
theorem cmpprojref_frame : @Cert.quiescent_CmpProjRefIdeal Cert.CmpProjRefIdeal.Gen.facts := by
  intro m g _
  exact (θ_run _ _ _).mono (fun r h => ⟨fun c => (h c).2, sem_eq_zero_of_no_sems (by decide) r.2⟩)
    (Cert.CmpProjRefIdeal.Value.run m g)

/-- The differential attention's reference leaves its arguments unchanged. -/
theorem diffpromptref_frame : @Cert.quiescent_DiffPromptRefIdeal Cert.DiffPromptRefIdeal.Gen.facts := by
  intro m g _
  exact (θ_run _ _ _).mono (fun r h => ⟨fun c => (h c).2, sem_eq_zero_of_no_sems (by decide) r.2⟩)
    (Cert.DiffPromptRefIdeal.Value.run m g)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.InProjIdeal.Value
public import proofs.«01_k».proof.Proof.Gen.OutProjIdeal.Value
public import proofs.«01_k».proof.Proof.Gen.ReferenceIdeal.Run
public import proofs.«01_k».proof.Proof.Gen.ReferenceIdeal.Read
public import proofs.«01_k».proof.Proof.Gen.InProjRefIdeal.Run
public import proofs.«01_k».proof.Proof.Gen.InProjRefIdeal.Read
public import proofs.«01_k».proof.Proof.Gen.OutProjRefIdeal.Run
public import proofs.«01_k».proof.Proof.Gen.OutProjRefIdeal.Read
public import proofs.«01_k».proof.Proof.Gen.InProjC
public import proofs.«01_k».proof.Proof.Gen.InProjC.Skeleton
public import proofs.«01_k».proof.Proof.Gen.InProjC.Launch
public import proofs.«01_k».proof.Proof.Gen.InProjC.Points
public import proofs.«01_k».proof.Proof.Gen.InProjC.Frame
public import proofs.«01_k».proof.Proof.Gen.InProjCIdeal
public import proofs.«01_k».proof.Proof.Gen.InProjCIdeal.Skeleton
public import proofs.«01_k».proof.Proof.Gen.InProjCIdeal.Launch
public import proofs.«01_k».proof.Proof.Gen.InProjCIdeal.Points
public import proofs.«01_k».proof.Proof.Gen.InProjCIdeal.Frame
public import proofs.«01_k».proof.Proof.Gen.InProjCRefIdeal
public import proofs.«01_k».proof.Proof.Gen.InProjCIdeal.Value
public import proofs.«01_k».proof.Proof.Gen.InProjCRefIdeal.Run
public import proofs.«01_k».proof.Proof.Gen.InProjCRefIdeal.Read
public import proofs.«01_k».proof.Proof.Gen.CmpProj
public import proofs.«01_k».proof.Proof.Gen.CmpProj.Skeleton
public import proofs.«01_k».proof.Proof.Gen.CmpProj.Loops
public import proofs.«01_k».proof.Proof.Gen.CmpProj.Launch
public import proofs.«01_k».proof.Proof.Gen.CmpProj.Points
public import proofs.«01_k».proof.Proof.Gen.CmpProj.Frame
public import proofs.«01_k».proof.Proof.Gen.CmpProjIdeal
public import proofs.«01_k».proof.Proof.Gen.CmpProjIdeal.Skeleton
public import proofs.«01_k».proof.Proof.Gen.CmpProjIdeal.Loops
public import proofs.«01_k».proof.Proof.Gen.CmpProjIdeal.Launch
public import proofs.«01_k».proof.Proof.Gen.CmpProjIdeal.Points
public import proofs.«01_k».proof.Proof.Gen.CmpProjIdeal.Frame
public import proofs.«01_k».proof.Proof.Gen.CmpProjRefIdeal
public import proofs.«01_k».proof.Proof.Gen.CmpProjIdeal.Value
public import proofs.«01_k».proof.Proof.Gen.CmpProjRefIdeal.Run
public import proofs.«01_k».proof.Proof.Gen.CmpProjRefIdeal.Read
public import proofs.«01_k».proof.Proof.Gen.DiffPrompt
public import proofs.«01_k».proof.Proof.Gen.DiffPrompt.Skeleton
public import proofs.«01_k».proof.Proof.Gen.DiffPrompt.Loops
public import proofs.«01_k».proof.Proof.Gen.DiffPrompt.Launch
public import proofs.«01_k».proof.Proof.Gen.DiffPrompt.Points
public import proofs.«01_k».proof.Proof.Gen.DiffPrompt.Frame
public import proofs.«01_k».proof.Proof.Gen.DiffPromptIdeal
public import proofs.«01_k».proof.Proof.Gen.DiffPromptIdeal.Skeleton
public import proofs.«01_k».proof.Proof.Gen.DiffPromptIdeal.Loops
public import proofs.«01_k».proof.Proof.Gen.DiffPromptIdeal.Launch
public import proofs.«01_k».proof.Proof.Gen.DiffPromptIdeal.Points
public import proofs.«01_k».proof.Proof.Gen.DiffPromptIdeal.Frame
public import proofs.«01_k».proof.Proof.Gen.DiffPromptRefIdeal
public import proofs.«01_k».proof.Proof.Gen.DiffPromptRefIdeal.Run
public import proofs.«01_k».proof.Proof.Gen.DiffPromptRefIdeal.Read
public import proofs.«01_k».proof.Proof.Gen.Pre_finite_values
public import proofs.«01_k».proof.Proof.KernelBody
public import proofs.«01_k».proof.Proof.MlaClaim
public import proofs.«01_k».proof.Proof.InProjClaim
public import proofs.«01_k».proof.Proof.InProjCClaim
public import proofs.«01_k».proof.Proof.OutProjClaim
public import proofs.«01_k».proof.Proof.CmpProjClaim
public import proofs.«01_k».proof.Proof.DiffBody
public import proofs.«01_k».proof.Proof.DiffClaim
public import proofs.«01_k».proof.Proof.Frames
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.InProjC.Gen.facts, Cert.InProjCIdeal.Gen.facts, Cert.InProjCRefIdeal.Gen.facts, Cert.CmpProj.Gen.facts, Cert.CmpProjIdeal.Gen.facts, Cert.CmpProjRefIdeal.Gen.facts, Cert.DiffPrompt.Gen.facts, Cert.DiffPromptIdeal.Gen.facts, Cert.DiffPromptRefIdeal.Gen.facts, Cert.Pre_finite_values.Gen.facts,
  fun m ρ _ => Cert.Kernel.Mla.frame m ρ, fun m ρ _ => Cert.KernelIdeal.Mla.frame m ρ, reference_frame,
  fun m ρ _ => Cert.InProj.Gen.frame m ρ, fun m ρ _ => Cert.InProjIdeal.Gen.frame m ρ, inprojref_frame,
  fun m ρ _ => Cert.OutProj.Gen.frame m ρ, fun m ρ _ => Cert.OutProjIdeal.Gen.frame m ρ, outprojref_frame,
  fun m ρ _ => Cert.InProjC.Gen.frame m ρ, fun m ρ _ => Cert.InProjCIdeal.Gen.frame m ρ, inprojcref_frame,
  fun m ρ _ => Cert.CmpProj.Gen.frame m ρ, fun m ρ _ => Cert.CmpProjIdeal.Gen.frame m ρ, cmpprojref_frame,
  fun m ρ _ => Cert.DiffPrompt.Diff.frame m ρ, fun m ρ _ => Cert.DiffPromptIdeal.Diff.frame m ρ, fun m ρ _ => Cert.DiffPromptIdeal.Diff.frame m ρ,
  diffpromptref_frame, fun m ρ _ => diffpromptref_frame m ρ trivial,
  trivial, mla_algebraic, trivial, inproj_algebraic, trivial, outproj_algebraic, trivial, inprojc_algebraic, trivial, cmpproj_algebraic, trivial, diff_algebraic⟩

end Cert.Proof

end
